-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S4096x128 : Shape := ⟨2, ![4096, 128]⟩
abbrev S2x4096x256 : Shape := ⟨3, ![2, 4096, 256]⟩
abbrev S256x2048 : Shape := ⟨2, ![256, 2048]⟩
abbrev S16x256x128 : Shape := ⟨3, ![16, 256, 128]⟩
abbrev S16x8x128 : Shape := ⟨3, ![16, 8, 128]⟩
abbrev S8x128 : Shape := ⟨2, ![8, 128]⟩
abbrev S_ : Shape := ⟨0, ![]⟩
abbrev S2 : Shape := ⟨1, ![2]⟩
abbrev S16 : Shape := ⟨1, ![16]⟩
abbrev S1 : Shape := ⟨1, ![1]⟩
abbrev S1x4096x256 : Shape := ⟨3, ![1, 4096, 256]⟩
abbrev S4096x256 : Shape := ⟨2, ![4096, 256]⟩
abbrev S256x256 : Shape := ⟨2, ![256, 256]⟩
abbrev S256x128 : Shape := ⟨2, ![256, 128]⟩
abbrev S1x256x128 : Shape := ⟨3, ![1, 256, 128]⟩
abbrev S1x1x1 : Shape := ⟨3, ![1, 1, 1]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 10
  | .smem => 0
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S4096x128, .f32⟩
  | .local _ .vmem, ⟨0, _⟩ => ⟨S4096x128, .f32⟩
  | .local _ .vmem, ⟨1, _⟩ => ⟨S256x4096, .f32⟩
  | .local _ .vmem, ⟨2, _⟩ => ⟨S2x4096x256, .f32⟩
  | .local _ .vmem, ⟨3, _⟩ => ⟨S256x2048, .f32⟩
  | .local _ .vmem, ⟨4, _⟩ => ⟨S256x2048, .i16⟩
  | .local _ .vmem, ⟨5, _⟩ => ⟨S16x256x128, .i16⟩
  | .local _ .vmem, ⟨6, _⟩ => ⟨S16x8x128, .f32⟩
  | .local _ .vmem, ⟨7, _⟩ => ⟨S16x8x128, .f32⟩
  | .local _ .vmem, ⟨8, _⟩ => ⟨S8x128, .f32⟩
  | .local _ .vmem, ⟨9, _⟩ => ⟨S16x8x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_10 : BitVec 32 := 0#32
  let v14 : BitVec 1 := Scalar.cmpi .ne v2 c0_i32_10
  let v15 : BitVec 32 := Scalar.extui v14
  let c0_i32_11 : BitVec 32 := 0#32
  let v16 : BitVec 1 := Scalar.cmpi .ne v15 c0_i32_11
  v16

def k0_dev1 : Nat :=
  let c0_i32_505 : BitVec 32 := 0#32
  let c0_i32_503 : BitVec 32 := 0#32
  let c1_i32_504 : BitVec 32 := 1#32
  let v876 : BitVec 32 := Scalar.muli c0_i32_503 c1_i32_504
  let v877 : BitVec 32 := Scalar.addi c0_i32_505 v876
  v877.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_12 : BitVec 32 := 1#32
  let v17 : BitVec 1 := Scalar.cmpi .ne v2 c1_i32_12
  let v18 : BitVec 32 := Scalar.extui v17
  let c0_i32_13 : BitVec 32 := 0#32
  let v19 : BitVec 1 := Scalar.cmpi .ne v18 c0_i32_13
  v19

def k0_dev2 : Nat :=
  let c0_i32_505 : BitVec 32 := 0#32
  let c1_i32_503 : BitVec 32 := 1#32
  let c1_i32_504 : BitVec 32 := 1#32
  let v876 : BitVec 32 := Scalar.muli c1_i32_503 c1_i32_504
  let v877 : BitVec 32 := Scalar.addi c0_i32_505 v876
  v877.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v20 : BitVec 1 := Scalar.cmpi .ne v2 c2_i32
  let v21 : BitVec 32 := Scalar.extui v20
  let c0_i32_14 : BitVec 32 := 0#32
  let v22 : BitVec 1 := Scalar.cmpi .ne v21 c0_i32_14
  v22

def k0_dev3 : Nat :=
  let c0_i32_505 : BitVec 32 := 0#32
  let c2_i32_503 : BitVec 32 := 2#32
  let c1_i32_504 : BitVec 32 := 1#32
  let v876 : BitVec 32 := Scalar.muli c2_i32_503 c1_i32_504
  let v877 : BitVec 32 := Scalar.addi c0_i32_505 v876
  v877.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v23 : BitVec 1 := Scalar.cmpi .ne v2 c3_i32
  let v24 : BitVec 32 := Scalar.extui v23
  let c0_i32_15 : BitVec 32 := 0#32
  let v25 : BitVec 1 := Scalar.cmpi .ne v24 c0_i32_15
  v25

def k0_dev4 : Nat :=
  let c0_i32_505 : BitVec 32 := 0#32
  let c3_i32_503 : BitVec 32 := 3#32
  let c1_i32_504 : BitVec 32 := 1#32
  let v876 : BitVec 32 := Scalar.muli c3_i32_503 c1_i32_504
  let v877 : BitVec 32 := Scalar.addi c0_i32_505 v876
  v877.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v26 : BitVec 1 := Scalar.cmpi .ne v2 c4_i32
  let v27 : BitVec 32 := Scalar.extui v26
  let c0_i32_16 : BitVec 32 := 0#32
  let v28 : BitVec 1 := Scalar.cmpi .ne v27 c0_i32_16
  v28

def k0_dev5 : Nat :=
  let c0_i32_505 : BitVec 32 := 0#32
  let c4_i32_503 : BitVec 32 := 4#32
  let c1_i32_504 : BitVec 32 := 1#32
  let v876 : BitVec 32 := Scalar.muli c4_i32_503 c1_i32_504
  let v877 : BitVec 32 := Scalar.addi c0_i32_505 v876
  v877.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v29 : BitVec 1 := Scalar.cmpi .ne v2 c5_i32
  let v30 : BitVec 32 := Scalar.extui v29
  let c0_i32_17 : BitVec 32 := 0#32
  let v31 : BitVec 1 := Scalar.cmpi .ne v30 c0_i32_17
  v31

def k0_dev6 : Nat :=
  let c0_i32_505 : BitVec 32 := 0#32
  let c5_i32_503 : BitVec 32 := 5#32
  let c1_i32_504 : BitVec 32 := 1#32
  let v876 : BitVec 32 := Scalar.muli c5_i32_503 c1_i32_504
  let v877 : BitVec 32 := Scalar.addi c0_i32_505 v876
  v877.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v32 : BitVec 1 := Scalar.cmpi .ne v2 c6_i32
  let v33 : BitVec 32 := Scalar.extui v32
  let c0_i32_18 : BitVec 32 := 0#32
  let v34 : BitVec 1 := Scalar.cmpi .ne v33 c0_i32_18
  v34

def k0_dev7 : Nat :=
  let c0_i32_505 : BitVec 32 := 0#32
  let c6_i32_503 : BitVec 32 := 6#32
  let c1_i32_504 : BitVec 32 := 1#32
  let v876 : BitVec 32 := Scalar.muli c6_i32_503 c1_i32_504
  let v877 : BitVec 32 := Scalar.addi c0_i32_505 v876
  v877.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v35 : BitVec 1 := Scalar.cmpi .ne v2 c7_i32
  let v36 : BitVec 32 := Scalar.extui v35
  let c0_i32_19 : BitVec 32 := 0#32
  let v37 : BitVec 1 := Scalar.cmpi .ne v36 c0_i32_19
  v37

def k0_dev8 : Nat :=
  let c0_i32_505 : BitVec 32 := 0#32
  let c7_i32_503 : BitVec 32 := 7#32
  let c1_i32_504 : BitVec 32 := 1#32
  let v876 : BitVec 32 := Scalar.muli c7_i32_503 c1_i32_504
  let v877 : BitVec 32 := Scalar.addi c0_i32_505 v876
  v877.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v38 : BitVec 1 := Scalar.cmpi .ne v2 c8_i32
  let v39 : BitVec 32 := Scalar.extui v38
  let c0_i32_20 : BitVec 32 := 0#32
  let v40 : BitVec 1 := Scalar.cmpi .ne v39 c0_i32_20
  v40

def k0_dev9 : Nat :=
  let c0_i32_505 : BitVec 32 := 0#32
  let c8_i32_503 : BitVec 32 := 8#32
  let c1_i32_504 : BitVec 32 := 1#32
  let v876 : BitVec 32 := Scalar.muli c8_i32_503 c1_i32_504
  let v877 : BitVec 32 := Scalar.addi c0_i32_505 v876
  v877.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v41 : BitVec 1 := Scalar.cmpi .ne v2 c9_i32
  let v42 : BitVec 32 := Scalar.extui v41
  let c0_i32_21 : BitVec 32 := 0#32
  let v43 : BitVec 1 := Scalar.cmpi .ne v42 c0_i32_21
  v43

def k0_dev10 : Nat :=
  let c0_i32_505 : BitVec 32 := 0#32
  let c9_i32_503 : BitVec 32 := 9#32
  let c1_i32_504 : BitVec 32 := 1#32
  let v876 : BitVec 32 := Scalar.muli c9_i32_503 c1_i32_504
  let v877 : BitVec 32 := Scalar.addi c0_i32_505 v876
  v877.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v44 : BitVec 1 := Scalar.cmpi .ne v2 c10_i32
  let v45 : BitVec 32 := Scalar.extui v44
  let c0_i32_22 : BitVec 32 := 0#32
  let v46 : BitVec 1 := Scalar.cmpi .ne v45 c0_i32_22
  v46

def k0_dev11 : Nat :=
  let c0_i32_505 : BitVec 32 := 0#32
  let c10_i32_503 : BitVec 32 := 10#32
  let c1_i32_504 : BitVec 32 := 1#32
  let v876 : BitVec 32 := Scalar.muli c10_i32_503 c1_i32_504
  let v877 : BitVec 32 := Scalar.addi c0_i32_505 v876
  v877.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v47 : BitVec 1 := Scalar.cmpi .ne v2 c11_i32
  let v48 : BitVec 32 := Scalar.extui v47
  let c0_i32_23 : BitVec 32 := 0#32
  let v49 : BitVec 1 := Scalar.cmpi .ne v48 c0_i32_23
  v49

def k0_dev12 : Nat :=
  let c0_i32_505 : BitVec 32 := 0#32
  let c11_i32_503 : BitVec 32 := 11#32
  let c1_i32_504 : BitVec 32 := 1#32
  let v876 : BitVec 32 := Scalar.muli c11_i32_503 c1_i32_504
  let v877 : BitVec 32 := Scalar.addi c0_i32_505 v876
  v877.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v50 : BitVec 1 := Scalar.cmpi .ne v2 c12_i32
  let v51 : BitVec 32 := Scalar.extui v50
  let c0_i32_24 : BitVec 32 := 0#32
  let v52 : BitVec 1 := Scalar.cmpi .ne v51 c0_i32_24
  v52

def k0_dev13 : Nat :=
  let c0_i32_505 : BitVec 32 := 0#32
  let c12_i32_503 : BitVec 32 := 12#32
  let c1_i32_504 : BitVec 32 := 1#32
  let v876 : BitVec 32 := Scalar.muli c12_i32_503 c1_i32_504
  let v877 : BitVec 32 := Scalar.addi c0_i32_505 v876
  v877.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v53 : BitVec 1 := Scalar.cmpi .ne v2 c13_i32
  let v54 : BitVec 32 := Scalar.extui v53
  let c0_i32_25 : BitVec 32 := 0#32
  let v55 : BitVec 1 := Scalar.cmpi .ne v54 c0_i32_25
  v55

def k0_dev14 : Nat :=
  let c0_i32_505 : BitVec 32 := 0#32
  let c13_i32_503 : BitVec 32 := 13#32
  let c1_i32_504 : BitVec 32 := 1#32
  let v876 : BitVec 32 := Scalar.muli c13_i32_503 c1_i32_504
  let v877 : BitVec 32 := Scalar.addi c0_i32_505 v876
  v877.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 1 := Scalar.cmpi .ne v2 c14_i32
  let v57 : BitVec 32 := Scalar.extui v56
  let c0_i32_26 : BitVec 32 := 0#32
  let v58 : BitVec 1 := Scalar.cmpi .ne v57 c0_i32_26
  v58

def k0_dev15 : Nat :=
  let c0_i32_505 : BitVec 32 := 0#32
  let c14_i32_503 : BitVec 32 := 14#32
  let c1_i32_504 : BitVec 32 := 1#32
  let v876 : BitVec 32 := Scalar.muli c14_i32_503 c1_i32_504
  let v877 : BitVec 32 := Scalar.addi c0_i32_505 v876
  v877.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v59 : BitVec 1 := Scalar.cmpi .ne v2 c15_i32
  let v60 : BitVec 32 := Scalar.extui v59
  let c0_i32_27 : BitVec 32 := 0#32
  let v61 : BitVec 1 := Scalar.cmpi .ne v60 c0_i32_27
  v61

def k0_dev16 : Nat :=
  let c0_i32_505 : BitVec 32 := 0#32
  let c15_i32_503 : BitVec 32 := 15#32
  let c1_i32_504 : BitVec 32 := 1#32
  let v876 : BitVec 32 := Scalar.muli c15_i32_503 c1_i32_504
  let v877 : BitVec 32 := Scalar.addi c0_i32_505 v876
  v877.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_52 : BitVec 32 := 0#32
  let v98 : BitVec 1 := Scalar.cmpi .ne v2 c0_i32_52
  let v99 : BitVec 32 := Scalar.extui v98
  let c0_i32_53 : BitVec 32 := 0#32
  let v100 : BitVec 1 := Scalar.cmpi .ne v99 c0_i32_53
  v100

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev17 : Nat :=
  let c0_i32_505 : BitVec 32 := 0#32
  let c0_i32_503 : BitVec 32 := 0#32
  let c1_i32_504 : BitVec 32 := 1#32
  let v876 : BitVec 32 := Scalar.muli c0_i32_503 c1_i32_504
  let v877 : BitVec 32 := Scalar.addi c0_i32_505 v876
  v877.toNat
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_515 : BitVec 32 := 0#32
  let c0_i32_516 : BitVec 32 := 0#32
  ![v2.toNat, 0, 0]
def k0_dev18 : Nat :=
  let c0_i32_514 : BitVec 32 := 0#32
  let c0_i32_512 : BitVec 32 := 0#32
  let c1_i32_513 : BitVec 32 := 1#32
  let v885 : BitVec 32 := Scalar.muli c0_i32_512 c1_i32_513
  let v886 : BitVec 32 := Scalar.addi c0_i32_514 v885
  v886.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_62 : BitVec 32 := 1#32
  let v125 : BitVec 1 := Scalar.cmpi .ne v2 c1_i32_62
  let v126 : BitVec 32 := Scalar.extui v125
  let c0_i32_63 : BitVec 32 := 0#32
  let v127 : BitVec 1 := Scalar.cmpi .ne v126 c0_i32_63
  v127

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev19 : Nat :=
  let c0_i32_505 : BitVec 32 := 0#32
  let c1_i32_503 : BitVec 32 := 1#32
  let c1_i32_504 : BitVec 32 := 1#32
  let v876 : BitVec 32 := Scalar.muli c1_i32_503 c1_i32_504
  let v877 : BitVec 32 := Scalar.addi c0_i32_505 v876
  v877.toNat
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_514 : BitVec 32 := 0#32
  let c0_i32_515 : BitVec 32 := 0#32
  ![v2.toNat, 0, 0]
def k0_dev20 : Nat :=
  let c0_i32_513 : BitVec 32 := 0#32
  let c1_i32_511 : BitVec 32 := 1#32
  let c1_i32_512 : BitVec 32 := 1#32
  let v885 : BitVec 32 := Scalar.muli c1_i32_511 c1_i32_512
  let v886 : BitVec 32 := Scalar.addi c0_i32_513 v885
  v886.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_91 : BitVec 32 := 2#32
  let v169 : BitVec 1 := Scalar.cmpi .ne v2 c2_i32_91
  let v170 : BitVec 32 := Scalar.extui v169
  let c0_i32_92 : BitVec 32 := 0#32
  let v171 : BitVec 1 := Scalar.cmpi .ne v170 c0_i32_92
  v171

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev21 : Nat :=
  let c0_i32_505 : BitVec 32 := 0#32
  let c2_i32_503 : BitVec 32 := 2#32
  let c1_i32_504 : BitVec 32 := 1#32
  let v876 : BitVec 32 := Scalar.muli c2_i32_503 c1_i32_504
  let v877 : BitVec 32 := Scalar.addi c0_i32_505 v876
  v877.toNat
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_515 : BitVec 32 := 0#32
  let c0_i32_516 : BitVec 32 := 0#32
  ![v2.toNat, 0, 0]
def k0_dev22 : Nat :=
  let c0_i32_514 : BitVec 32 := 0#32
  let c2_i32_512 : BitVec 32 := 2#32
  let c1_i32_513 : BitVec 32 := 1#32
  let v885 : BitVec 32 := Scalar.muli c2_i32_512 c1_i32_513
  let v886 : BitVec 32 := Scalar.addi c0_i32_514 v885
  v886.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_101 : BitVec 32 := 3#32
  let v196 : BitVec 1 := Scalar.cmpi .ne v2 c3_i32_101
  let v197 : BitVec 32 := Scalar.extui v196
  let c0_i32_102 : BitVec 32 := 0#32
  let v198 : BitVec 1 := Scalar.cmpi .ne v197 c0_i32_102
  v198

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev23 : Nat :=
  let c0_i32_505 : BitVec 32 := 0#32
  let c3_i32_503 : BitVec 32 := 3#32
  let c1_i32_504 : BitVec 32 := 1#32
  let v876 : BitVec 32 := Scalar.muli c3_i32_503 c1_i32_504
  let v877 : BitVec 32 := Scalar.addi c0_i32_505 v876
  v877.toNat
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_514 : BitVec 32 := 0#32
  let c0_i32_515 : BitVec 32 := 0#32
  ![v2.toNat, 0, 0]
def k0_dev24 : Nat :=
  let c0_i32_513 : BitVec 32 := 0#32
  let c3_i32_511 : BitVec 32 := 3#32
  let c1_i32_512 : BitVec 32 := 1#32
  let v885 : BitVec 32 := Scalar.muli c3_i32_511 c1_i32_512
  let v886 : BitVec 32 := Scalar.addi c0_i32_513 v885
  v886.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_130 : BitVec 32 := 4#32
  let v240 : BitVec 1 := Scalar.cmpi .ne v2 c4_i32_130
  let v241 : BitVec 32 := Scalar.extui v240
  let c0_i32_131 : BitVec 32 := 0#32
  let v242 : BitVec 1 := Scalar.cmpi .ne v241 c0_i32_131
  v242

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev25 : Nat :=
  let c0_i32_505 : BitVec 32 := 0#32
  let c4_i32_503 : BitVec 32 := 4#32
  let c1_i32_504 : BitVec 32 := 1#32
  let v876 : BitVec 32 := Scalar.muli c4_i32_503 c1_i32_504
  let v877 : BitVec 32 := Scalar.addi c0_i32_505 v876
  v877.toNat
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_515 : BitVec 32 := 0#32
  let c0_i32_516 : BitVec 32 := 0#32
  ![v2.toNat, 0, 0]
def k0_dev26 : Nat :=
  let c0_i32_514 : BitVec 32 := 0#32
  let c4_i32_512 : BitVec 32 := 4#32
  let c1_i32_513 : BitVec 32 := 1#32
  let v885 : BitVec 32 := Scalar.muli c4_i32_512 c1_i32_513
  let v886 : BitVec 32 := Scalar.addi c0_i32_514 v885
  v886.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_140 : BitVec 32 := 5#32
  let v267 : BitVec 1 := Scalar.cmpi .ne v2 c5_i32_140
  let v268 : BitVec 32 := Scalar.extui v267
  let c0_i32_141 : BitVec 32 := 0#32
  let v269 : BitVec 1 := Scalar.cmpi .ne v268 c0_i32_141
  v269

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev27 : Nat :=
  let c0_i32_505 : BitVec 32 := 0#32
  let c5_i32_503 : BitVec 32 := 5#32
  let c1_i32_504 : BitVec 32 := 1#32
  let v876 : BitVec 32 := Scalar.muli c5_i32_503 c1_i32_504
  let v877 : BitVec 32 := Scalar.addi c0_i32_505 v876
  v877.toNat
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_514 : BitVec 32 := 0#32
  let c0_i32_515 : BitVec 32 := 0#32
  ![v2.toNat, 0, 0]
def k0_dev28 : Nat :=
  let c0_i32_513 : BitVec 32 := 0#32
  let c5_i32_511 : BitVec 32 := 5#32
  let c1_i32_512 : BitVec 32 := 1#32
  let v885 : BitVec 32 := Scalar.muli c5_i32_511 c1_i32_512
  let v886 : BitVec 32 := Scalar.addi c0_i32_513 v885
  v886.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_169 : BitVec 32 := 6#32
  let v311 : BitVec 1 := Scalar.cmpi .ne v2 c6_i32_169
  let v312 : BitVec 32 := Scalar.extui v311
  let c0_i32_170 : BitVec 32 := 0#32
  let v313 : BitVec 1 := Scalar.cmpi .ne v312 c0_i32_170
  v313

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev29 : Nat :=
  let c0_i32_505 : BitVec 32 := 0#32
  let c6_i32_503 : BitVec 32 := 6#32
  let c1_i32_504 : BitVec 32 := 1#32
  let v876 : BitVec 32 := Scalar.muli c6_i32_503 c1_i32_504
  let v877 : BitVec 32 := Scalar.addi c0_i32_505 v876
  v877.toNat
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_515 : BitVec 32 := 0#32
  let c0_i32_516 : BitVec 32 := 0#32
  ![v2.toNat, 0, 0]
def k0_dev30 : Nat :=
  let c0_i32_514 : BitVec 32 := 0#32
  let c6_i32_512 : BitVec 32 := 6#32
  let c1_i32_513 : BitVec 32 := 1#32
  let v885 : BitVec 32 := Scalar.muli c6_i32_512 c1_i32_513
  let v886 : BitVec 32 := Scalar.addi c0_i32_514 v885
  v886.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_179 : BitVec 32 := 7#32
  let v338 : BitVec 1 := Scalar.cmpi .ne v2 c7_i32_179
  let v339 : BitVec 32 := Scalar.extui v338
  let c0_i32_180 : BitVec 32 := 0#32
  let v340 : BitVec 1 := Scalar.cmpi .ne v339 c0_i32_180
  v340

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev31 : Nat :=
  let c0_i32_505 : BitVec 32 := 0#32
  let c7_i32_503 : BitVec 32 := 7#32
  let c1_i32_504 : BitVec 32 := 1#32
  let v876 : BitVec 32 := Scalar.muli c7_i32_503 c1_i32_504
  let v877 : BitVec 32 := Scalar.addi c0_i32_505 v876
  v877.toNat
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_514 : BitVec 32 := 0#32
  let c0_i32_515 : BitVec 32 := 0#32
  ![v2.toNat, 0, 0]
def k0_dev32 : Nat :=
  let c0_i32_513 : BitVec 32 := 0#32
  let c7_i32_511 : BitVec 32 := 7#32
  let c1_i32_512 : BitVec 32 := 1#32
  let v885 : BitVec 32 := Scalar.muli c7_i32_511 c1_i32_512
  let v886 : BitVec 32 := Scalar.addi c0_i32_513 v885
  v886.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_208 : BitVec 32 := 8#32
  let v382 : BitVec 1 := Scalar.cmpi .ne v2 c8_i32_208
  let v383 : BitVec 32 := Scalar.extui v382
  let c0_i32_209 : BitVec 32 := 0#32
  let v384 : BitVec 1 := Scalar.cmpi .ne v383 c0_i32_209
  v384

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev33 : Nat :=
  let c0_i32_505 : BitVec 32 := 0#32
  let c8_i32_503 : BitVec 32 := 8#32
  let c1_i32_504 : BitVec 32 := 1#32
  let v876 : BitVec 32 := Scalar.muli c8_i32_503 c1_i32_504
  let v877 : BitVec 32 := Scalar.addi c0_i32_505 v876
  v877.toNat
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_515 : BitVec 32 := 0#32
  let c0_i32_516 : BitVec 32 := 0#32
  ![v2.toNat, 0, 0]
def k0_dev34 : Nat :=
  let c0_i32_514 : BitVec 32 := 0#32
  let c8_i32_512 : BitVec 32 := 8#32
  let c1_i32_513 : BitVec 32 := 1#32
  let v885 : BitVec 32 := Scalar.muli c8_i32_512 c1_i32_513
  let v886 : BitVec 32 := Scalar.addi c0_i32_514 v885
  v886.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_218 : BitVec 32 := 9#32
  let v409 : BitVec 1 := Scalar.cmpi .ne v2 c9_i32_218
  let v410 : BitVec 32 := Scalar.extui v409
  let c0_i32_219 : BitVec 32 := 0#32
  let v411 : BitVec 1 := Scalar.cmpi .ne v410 c0_i32_219
  v411

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev35 : Nat :=
  let c0_i32_505 : BitVec 32 := 0#32
  let c9_i32_503 : BitVec 32 := 9#32
  let c1_i32_504 : BitVec 32 := 1#32
  let v876 : BitVec 32 := Scalar.muli c9_i32_503 c1_i32_504
  let v877 : BitVec 32 := Scalar.addi c0_i32_505 v876
  v877.toNat
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_514 : BitVec 32 := 0#32
  let c0_i32_515 : BitVec 32 := 0#32
  ![v2.toNat, 0, 0]
def k0_dev36 : Nat :=
  let c0_i32_513 : BitVec 32 := 0#32
  let c9_i32_511 : BitVec 32 := 9#32
  let c1_i32_512 : BitVec 32 := 1#32
  let v885 : BitVec 32 := Scalar.muli c9_i32_511 c1_i32_512
  let v886 : BitVec 32 := Scalar.addi c0_i32_513 v885
  v886.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_247 : BitVec 32 := 10#32
  let v453 : BitVec 1 := Scalar.cmpi .ne v2 c10_i32_247
  let v454 : BitVec 32 := Scalar.extui v453
  let c0_i32_248 : BitVec 32 := 0#32
  let v455 : BitVec 1 := Scalar.cmpi .ne v454 c0_i32_248
  v455

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev37 : Nat :=
  let c0_i32_505 : BitVec 32 := 0#32
  let c10_i32_503 : BitVec 32 := 10#32
  let c1_i32_504 : BitVec 32 := 1#32
  let v876 : BitVec 32 := Scalar.muli c10_i32_503 c1_i32_504
  let v877 : BitVec 32 := Scalar.addi c0_i32_505 v876
  v877.toNat
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_515 : BitVec 32 := 0#32
  let c0_i32_516 : BitVec 32 := 0#32
  ![v2.toNat, 0, 0]
def k0_dev38 : Nat :=
  let c0_i32_514 : BitVec 32 := 0#32
  let c10_i32_512 : BitVec 32 := 10#32
  let c1_i32_513 : BitVec 32 := 1#32
  let v885 : BitVec 32 := Scalar.muli c10_i32_512 c1_i32_513
  let v886 : BitVec 32 := Scalar.addi c0_i32_514 v885
  v886.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_257 : BitVec 32 := 11#32
  let v480 : BitVec 1 := Scalar.cmpi .ne v2 c11_i32_257
  let v481 : BitVec 32 := Scalar.extui v480
  let c0_i32_258 : BitVec 32 := 0#32
  let v482 : BitVec 1 := Scalar.cmpi .ne v481 c0_i32_258
  v482

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev39 : Nat :=
  let c0_i32_505 : BitVec 32 := 0#32
  let c11_i32_503 : BitVec 32 := 11#32
  let c1_i32_504 : BitVec 32 := 1#32
  let v876 : BitVec 32 := Scalar.muli c11_i32_503 c1_i32_504
  let v877 : BitVec 32 := Scalar.addi c0_i32_505 v876
  v877.toNat
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_514 : BitVec 32 := 0#32
  let c0_i32_515 : BitVec 32 := 0#32
  ![v2.toNat, 0, 0]
def k0_dev40 : Nat :=
  let c0_i32_513 : BitVec 32 := 0#32
  let c11_i32_511 : BitVec 32 := 11#32
  let c1_i32_512 : BitVec 32 := 1#32
  let v885 : BitVec 32 := Scalar.muli c11_i32_511 c1_i32_512
  let v886 : BitVec 32 := Scalar.addi c0_i32_513 v885
  v886.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_286 : BitVec 32 := 12#32
  let v524 : BitVec 1 := Scalar.cmpi .ne v2 c12_i32_286
  let v525 : BitVec 32 := Scalar.extui v524
  let c0_i32_287 : BitVec 32 := 0#32
  let v526 : BitVec 1 := Scalar.cmpi .ne v525 c0_i32_287
  v526

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev41 : Nat :=
  let c0_i32_505 : BitVec 32 := 0#32
  let c12_i32_503 : BitVec 32 := 12#32
  let c1_i32_504 : BitVec 32 := 1#32
  let v876 : BitVec 32 := Scalar.muli c12_i32_503 c1_i32_504
  let v877 : BitVec 32 := Scalar.addi c0_i32_505 v876
  v877.toNat
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_515 : BitVec 32 := 0#32
  let c0_i32_516 : BitVec 32 := 0#32
  ![v2.toNat, 0, 0]
def k0_dev42 : Nat :=
  let c0_i32_514 : BitVec 32 := 0#32
  let c12_i32_512 : BitVec 32 := 12#32
  let c1_i32_513 : BitVec 32 := 1#32
  let v885 : BitVec 32 := Scalar.muli c12_i32_512 c1_i32_513
  let v886 : BitVec 32 := Scalar.addi c0_i32_514 v885
  v886.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_296 : BitVec 32 := 13#32
  let v551 : BitVec 1 := Scalar.cmpi .ne v2 c13_i32_296
  let v552 : BitVec 32 := Scalar.extui v551
  let c0_i32_297 : BitVec 32 := 0#32
  let v553 : BitVec 1 := Scalar.cmpi .ne v552 c0_i32_297
  v553

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev43 : Nat :=
  let c0_i32_505 : BitVec 32 := 0#32
  let c13_i32_503 : BitVec 32 := 13#32
  let c1_i32_504 : BitVec 32 := 1#32
  let v876 : BitVec 32 := Scalar.muli c13_i32_503 c1_i32_504
  let v877 : BitVec 32 := Scalar.addi c0_i32_505 v876
  v877.toNat
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_514 : BitVec 32 := 0#32
  let c0_i32_515 : BitVec 32 := 0#32
  ![v2.toNat, 0, 0]
def k0_dev44 : Nat :=
  let c0_i32_513 : BitVec 32 := 0#32
  let c13_i32_511 : BitVec 32 := 13#32
  let c1_i32_512 : BitVec 32 := 1#32
  let v885 : BitVec 32 := Scalar.muli c13_i32_511 c1_i32_512
  let v886 : BitVec 32 := Scalar.addi c0_i32_513 v885
  v886.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_320 : BitVec 32 := 14#32
  let v590 : BitVec 1 := Scalar.cmpi .ne v2 c14_i32_320
  let v591 : BitVec 32 := Scalar.extui v590
  let c0_i32_321 : BitVec 32 := 0#32
  let v592 : BitVec 1 := Scalar.cmpi .ne v591 c0_i32_321
  v592

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev45 : Nat :=
  let c0_i32_505 : BitVec 32 := 0#32
  let c14_i32_503 : BitVec 32 := 14#32
  let c1_i32_504 : BitVec 32 := 1#32
  let v876 : BitVec 32 := Scalar.muli c14_i32_503 c1_i32_504
  let v877 : BitVec 32 := Scalar.addi c0_i32_505 v876
  v877.toNat
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_515 : BitVec 32 := 0#32
  let c0_i32_516 : BitVec 32 := 0#32
  ![v2.toNat, 0, 0]
def k0_dev46 : Nat :=
  let c0_i32_514 : BitVec 32 := 0#32
  let c14_i32_512 : BitVec 32 := 14#32
  let c1_i32_513 : BitVec 32 := 1#32
  let v885 : BitVec 32 := Scalar.muli c14_i32_512 c1_i32_513
  let v886 : BitVec 32 := Scalar.addi c0_i32_514 v885
  v886.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_330 : BitVec 32 := 15#32
  let v617 : BitVec 1 := Scalar.cmpi .ne v2 c15_i32_330
  let v618 : BitVec 32 := Scalar.extui v617
  let c0_i32_331 : BitVec 32 := 0#32
  let v619 : BitVec 1 := Scalar.cmpi .ne v618 c0_i32_331
  v619

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev47 : Nat :=
  let c0_i32_505 : BitVec 32 := 0#32
  let c15_i32_503 : BitVec 32 := 15#32
  let c1_i32_504 : BitVec 32 := 1#32
  let v876 : BitVec 32 := Scalar.muli c15_i32_503 c1_i32_504
  let v877 : BitVec 32 := Scalar.addi c0_i32_505 v876
  v877.toNat
def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_514 : BitVec 32 := 0#32
  let c0_i32_515 : BitVec 32 := 0#32
  ![v2.toNat, 0, 0]
def k0_dev48 : Nat :=
  let c0_i32_513 : BitVec 32 := 0#32
  let c15_i32_511 : BitVec 32 := 15#32
  let c1_i32_512 : BitVec 32 := 1#32
  let v885 : BitVec 32 := Scalar.muli c15_i32_511 c1_i32_512
  let v886 : BitVec 32 := Scalar.addi c0_i32_513 v885
  v886.toNat
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v625 : Index := Scalar.indexCast v2
  let c0_334 : Index := 0#32
  let c0_335 : Index := 0#32
  ![v625.toNat, 0, 0]
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_336 : BitVec 32 := 0#32
  let v629 : BitVec 1 := Scalar.cmpi .ne v2 c0_i32_336
  let v630 : BitVec 32 := Scalar.extui v629
  let c0_i32_337 : BitVec 32 := 0#32
  let v631 : BitVec 1 := Scalar.cmpi .ne v630 c0_i32_337
  v631

def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev49 : Nat :=
  let c0_i32_505 : BitVec 32 := 0#32
  let c0_i32_503 : BitVec 32 := 0#32
  let c1_i32_504 : BitVec 32 := 1#32
  let v876 : BitVec 32 := Scalar.muli c0_i32_503 c1_i32_504
  let v877 : BitVec 32 := Scalar.addi c0_i32_505 v876
  v877.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_338 : BitVec 32 := 1#32
  let v632 : BitVec 1 := Scalar.cmpi .ne v2 c1_i32_338
  let v633 : BitVec 32 := Scalar.extui v632
  let c0_i32_339 : BitVec 32 := 0#32
  let v634 : BitVec 1 := Scalar.cmpi .ne v633 c0_i32_339
  v634

def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev50 : Nat :=
  let c0_i32_505 : BitVec 32 := 0#32
  let c1_i32_503 : BitVec 32 := 1#32
  let c1_i32_504 : BitVec 32 := 1#32
  let v876 : BitVec 32 := Scalar.muli c1_i32_503 c1_i32_504
  let v877 : BitVec 32 := Scalar.addi c0_i32_505 v876
  v877.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_340 : BitVec 32 := 2#32
  let v635 : BitVec 1 := Scalar.cmpi .ne v2 c2_i32_340
  let v636 : BitVec 32 := Scalar.extui v635
  let c0_i32_341 : BitVec 32 := 0#32
  let v637 : BitVec 1 := Scalar.cmpi .ne v636 c0_i32_341
  v637

def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev51 : Nat :=
  let c0_i32_505 : BitVec 32 := 0#32
  let c2_i32_503 : BitVec 32 := 2#32
  let c1_i32_504 : BitVec 32 := 1#32
  let v876 : BitVec 32 := Scalar.muli c2_i32_503 c1_i32_504
  let v877 : BitVec 32 := Scalar.addi c0_i32_505 v876
  v877.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_342 : BitVec 32 := 3#32
  let v638 : BitVec 1 := Scalar.cmpi .ne v2 c3_i32_342
  let v639 : BitVec 32 := Scalar.extui v638
  let c0_i32_343 : BitVec 32 := 0#32
  let v640 : BitVec 1 := Scalar.cmpi .ne v639 c0_i32_343
  v640

def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev52 : Nat :=
  let c0_i32_505 : BitVec 32 := 0#32
  let c3_i32_503 : BitVec 32 := 3#32
  let c1_i32_504 : BitVec 32 := 1#32
  let v876 : BitVec 32 := Scalar.muli c3_i32_503 c1_i32_504
  let v877 : BitVec 32 := Scalar.addi c0_i32_505 v876
  v877.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_344 : BitVec 32 := 4#32
  let v641 : BitVec 1 := Scalar.cmpi .ne v2 c4_i32_344
  let v642 : BitVec 32 := Scalar.extui v641
  let c0_i32_345 : BitVec 32 := 0#32
  let v643 : BitVec 1 := Scalar.cmpi .ne v642 c0_i32_345
  v643

def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev53 : Nat :=
  let c0_i32_505 : BitVec 32 := 0#32
  let c4_i32_503 : BitVec 32 := 4#32
  let c1_i32_504 : BitVec 32 := 1#32
  let v876 : BitVec 32 := Scalar.muli c4_i32_503 c1_i32_504
  let v877 : BitVec 32 := Scalar.addi c0_i32_505 v876
  v877.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_346 : BitVec 32 := 5#32
  let v644 : BitVec 1 := Scalar.cmpi .ne v2 c5_i32_346
  let v645 : BitVec 32 := Scalar.extui v644
  let c0_i32_347 : BitVec 32 := 0#32
  let v646 : BitVec 1 := Scalar.cmpi .ne v645 c0_i32_347
  v646

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev54 : Nat :=
  let c0_i32_505 : BitVec 32 := 0#32
  let c5_i32_503 : BitVec 32 := 5#32
  let c1_i32_504 : BitVec 32 := 1#32
  let v876 : BitVec 32 := Scalar.muli c5_i32_503 c1_i32_504
  let v877 : BitVec 32 := Scalar.addi c0_i32_505 v876
  v877.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_348 : BitVec 32 := 6#32
  let v647 : BitVec 1 := Scalar.cmpi .ne v2 c6_i32_348
  let v648 : BitVec 32 := Scalar.extui v647
  let c0_i32_349 : BitVec 32 := 0#32
  let v649 : BitVec 1 := Scalar.cmpi .ne v648 c0_i32_349
  v649

def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev55 : Nat :=
  let c0_i32_505 : BitVec 32 := 0#32
  let c6_i32_503 : BitVec 32 := 6#32
  let c1_i32_504 : BitVec 32 := 1#32
  let v876 : BitVec 32 := Scalar.muli c6_i32_503 c1_i32_504
  let v877 : BitVec 32 := Scalar.addi c0_i32_505 v876
  v877.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_350 : BitVec 32 := 7#32
  let v650 : BitVec 1 := Scalar.cmpi .ne v2 c7_i32_350
  let v651 : BitVec 32 := Scalar.extui v650
  let c0_i32_351 : BitVec 32 := 0#32
  let v652 : BitVec 1 := Scalar.cmpi .ne v651 c0_i32_351
  v652

def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev56 : Nat :=
  let c0_i32_505 : BitVec 32 := 0#32
  let c7_i32_503 : BitVec 32 := 7#32
  let c1_i32_504 : BitVec 32 := 1#32
  let v876 : BitVec 32 := Scalar.muli c7_i32_503 c1_i32_504
  let v877 : BitVec 32 := Scalar.addi c0_i32_505 v876
  v877.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_352 : BitVec 32 := 8#32
  let v653 : BitVec 1 := Scalar.cmpi .ne v2 c8_i32_352
  let v654 : BitVec 32 := Scalar.extui v653
  let c0_i32_353 : BitVec 32 := 0#32
  let v655 : BitVec 1 := Scalar.cmpi .ne v654 c0_i32_353
  v655

def k0_off66 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev57 : Nat :=
  let c0_i32_505 : BitVec 32 := 0#32
  let c8_i32_503 : BitVec 32 := 8#32
  let c1_i32_504 : BitVec 32 := 1#32
  let v876 : BitVec 32 := Scalar.muli c8_i32_503 c1_i32_504
  let v877 : BitVec 32 := Scalar.addi c0_i32_505 v876
  v877.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_354 : BitVec 32 := 9#32
  let v656 : BitVec 1 := Scalar.cmpi .ne v2 c9_i32_354
  let v657 : BitVec 32 := Scalar.extui v656
  let c0_i32_355 : BitVec 32 := 0#32
  let v658 : BitVec 1 := Scalar.cmpi .ne v657 c0_i32_355
  v658

def k0_off68 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev58 : Nat :=
  let c0_i32_505 : BitVec 32 := 0#32
  let c9_i32_503 : BitVec 32 := 9#32
  let c1_i32_504 : BitVec 32 := 1#32
  let v876 : BitVec 32 := Scalar.muli c9_i32_503 c1_i32_504
  let v877 : BitVec 32 := Scalar.addi c0_i32_505 v876
  v877.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_356 : BitVec 32 := 10#32
  let v659 : BitVec 1 := Scalar.cmpi .ne v2 c10_i32_356
  let v660 : BitVec 32 := Scalar.extui v659
  let c0_i32_357 : BitVec 32 := 0#32
  let v661 : BitVec 1 := Scalar.cmpi .ne v660 c0_i32_357
  v661

def k0_off70 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev59 : Nat :=
  let c0_i32_505 : BitVec 32 := 0#32
  let c10_i32_503 : BitVec 32 := 10#32
  let c1_i32_504 : BitVec 32 := 1#32
  let v876 : BitVec 32 := Scalar.muli c10_i32_503 c1_i32_504
  let v877 : BitVec 32 := Scalar.addi c0_i32_505 v876
  v877.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_358 : BitVec 32 := 11#32
  let v662 : BitVec 1 := Scalar.cmpi .ne v2 c11_i32_358
  let v663 : BitVec 32 := Scalar.extui v662
  let c0_i32_359 : BitVec 32 := 0#32
  let v664 : BitVec 1 := Scalar.cmpi .ne v663 c0_i32_359
  v664

def k0_off72 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev60 : Nat :=
  let c0_i32_505 : BitVec 32 := 0#32
  let c11_i32_503 : BitVec 32 := 11#32
  let c1_i32_504 : BitVec 32 := 1#32
  let v876 : BitVec 32 := Scalar.muli c11_i32_503 c1_i32_504
  let v877 : BitVec 32 := Scalar.addi c0_i32_505 v876
  v877.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_360 : BitVec 32 := 12#32
  let v665 : BitVec 1 := Scalar.cmpi .ne v2 c12_i32_360
  let v666 : BitVec 32 := Scalar.extui v665
  let c0_i32_361 : BitVec 32 := 0#32
  let v667 : BitVec 1 := Scalar.cmpi .ne v666 c0_i32_361
  v667

def k0_off74 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev61 : Nat :=
  let c0_i32_505 : BitVec 32 := 0#32
  let c12_i32_503 : BitVec 32 := 12#32
  let c1_i32_504 : BitVec 32 := 1#32
  let v876 : BitVec 32 := Scalar.muli c12_i32_503 c1_i32_504
  let v877 : BitVec 32 := Scalar.addi c0_i32_505 v876
  v877.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_362 : BitVec 32 := 13#32
  let v668 : BitVec 1 := Scalar.cmpi .ne v2 c13_i32_362
  let v669 : BitVec 32 := Scalar.extui v668
  let c0_i32_363 : BitVec 32 := 0#32
  let v670 : BitVec 1 := Scalar.cmpi .ne v669 c0_i32_363
  v670

def k0_off76 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev62 : Nat :=
  let c0_i32_505 : BitVec 32 := 0#32
  let c13_i32_503 : BitVec 32 := 13#32
  let c1_i32_504 : BitVec 32 := 1#32
  let v876 : BitVec 32 := Scalar.muli c13_i32_503 c1_i32_504
  let v877 : BitVec 32 := Scalar.addi c0_i32_505 v876
  v877.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_364 : BitVec 32 := 14#32
  let v671 : BitVec 1 := Scalar.cmpi .ne v2 c14_i32_364
  let v672 : BitVec 32 := Scalar.extui v671
  let c0_i32_365 : BitVec 32 := 0#32
  let v673 : BitVec 1 := Scalar.cmpi .ne v672 c0_i32_365
  v673

def k0_off78 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev63 : Nat :=
  let c0_i32_505 : BitVec 32 := 0#32
  let c14_i32_503 : BitVec 32 := 14#32
  let c1_i32_504 : BitVec 32 := 1#32
  let v876 : BitVec 32 := Scalar.muli c14_i32_503 c1_i32_504
  let v877 : BitVec 32 := Scalar.addi c0_i32_505 v876
  v877.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_366 : BitVec 32 := 15#32
  let v674 : BitVec 1 := Scalar.cmpi .ne v2 c15_i32_366
  let v675 : BitVec 32 := Scalar.extui v674
  let c0_i32_367 : BitVec 32 := 0#32
  let v676 : BitVec 1 := Scalar.cmpi .ne v675 c0_i32_367
  v676

def k0_off80 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev64 : Nat :=
  let c0_i32_505 : BitVec 32 := 0#32
  let c15_i32_503 : BitVec 32 := 15#32
  let c1_i32_504 : BitVec 32 := 1#32
  let v876 : BitVec 32 := Scalar.muli c15_i32_503 c1_i32_504
  let v877 : BitVec 32 := Scalar.addi c0_i32_505 v876
  v877.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S16x256x16x128 : Shape := ⟨4, ![16, 256, 16, 128]⟩
abbrev S_ : Shape := ⟨0, ![]⟩
abbrev S16x16 : Shape := ⟨2, ![16, 16]⟩
abbrev S16x1x16x1 : Shape := ⟨4, ![16, 1, 16, 1]⟩
abbrev S16 : Shape := ⟨1, ![16]⟩
abbrev S16x1x1x1 : Shape := ⟨4, ![16, 1, 1, 1]⟩
abbrev S1x1x16x1 : Shape := ⟨4, ![1, 1, 16, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S16x256x16x128, .f32⟩
  | .hbm, ⟨4, _⟩ => ⟨S16x256x16x128, .f32⟩
  | .hbm, ⟨5, _⟩ => ⟨S_, .f32⟩
  | .hbm, ⟨6, _⟩ => ⟨S16x16, .f32⟩
  | .hbm, ⟨7, _⟩ => ⟨S16x1x16x1, .f32⟩
  | .hbm, ⟨8, _⟩ => ⟨S_, .f32⟩
  | .hbm, ⟨9, _⟩ => ⟨S16x1x16x1, .f32⟩
  | .hbm, ⟨10, _⟩ => ⟨S16x1x16x1, .f32⟩
  | .hbm, ⟨11, _⟩ => ⟨S_, .f32⟩
  | .hbm, ⟨12, _⟩ => ⟨S16x1x16x1, .f32⟩
  | .hbm, ⟨13, _⟩ => ⟨S16x1x16x1, .f32⟩
  | .hbm, ⟨14, _⟩ => ⟨S16x256x16x128, .f32⟩
  | .hbm, ⟨15, _⟩ => ⟨S16x256x16x128, .f32⟩
  | .hbm, ⟨16, _⟩ => ⟨S16x256x16x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16x256x16x128, .f32⟩
  | .hbm, ⟨21, _⟩ => ⟨S16x256x16x128, .f32⟩
  | .hbm, ⟨22, _⟩ => ⟨S_, .f32⟩
  | .hbm, ⟨23, _⟩ => ⟨S16x256x16x128, .f32⟩
  | .hbm, ⟨24, _⟩ => ⟨S16x256x16x128, .f32⟩
  | .hbm, ⟨25, _⟩ => ⟨S_, .f32⟩
  | .hbm, ⟨26, _⟩ => ⟨S16x1x16x1, .f32⟩
  | .hbm, ⟨27, _⟩ => ⟨S16x1x16x1, .f32⟩
  | .hbm, ⟨28, _⟩ => ⟨S16x256x16x128, .f32⟩
  | .hbm, ⟨29, _⟩ => ⟨S16x256x16x128, .f32⟩
  | .hbm, ⟨30, _⟩ => ⟨S16, .i32⟩
  | .hbm, ⟨31, _⟩ => ⟨S16x1x1x1, .i32⟩
  | .hbm, ⟨32, _⟩ => ⟨S16, .i32⟩
  | .hbm, ⟨33, _⟩ => ⟨S1x1x16x1, .i32⟩
  | .hbm, ⟨34, _⟩ => ⟨S16x1x16x1, .i32⟩
  | .hbm, ⟨35, _⟩ => ⟨S16x1x16x1, .i32⟩
  | .hbm, ⟨36, _⟩ => ⟨S16x1x16x1, .i1⟩
  | .hbm, ⟨37, _⟩ => ⟨S16x256x16x128, .i1⟩
  | .hbm, ⟨38, _⟩ => ⟨S16x256x16x128, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call2_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_cst_8 : Ref sig .tc := ⟨.hbm, 49, rfl⟩
abbrev main_call4_v0 : Ref sig .tc := ⟨.hbm, 50, rfl⟩
abbrev main_call4_v1 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== Proof.Vals.lean ====
/-
What every buffer of the kernel holds, as functions of the launch memory.

Device `c` holds 256 rows of `x` and the whole of `w`. It forms its 256 rows of the product in eight chunks of 256
columns, cuts each row stripe into sixteen blocks of 128 columns, and quantises block `p` to 16 bits with that
block's own largest absolute value. Block `p` and its largest absolute value travel to device `p`. All devices
exchange the largest absolute value of their stripe, so that every device knows the largest of the whole product and
quantises its 128 output columns with it.
-/
module

public import proofs.«01_k».proof.Proof.Gen.KernelIdeal
public import proofs.«01_k».proof.Proof.Gen.KernelIdeal.Skeleton
public import Idealize.ShloMosaic.Lib.Tactic

@[expose] public section

noncomputable section

namespace Cert.KernelIdealProof

open Cert.KernelIdeal Cert.KernelIdeal.Gen
open Idealize.ShloMosaic
open Idealize.ShloMosaic.TcCoe

variable {F : FTy → Type} [FloatOps F]

variable (m : (ℓ : Loc nD τ sig) → Buf (Elt F) ℓ)

/-- Device `c`'s rows of `x`, as launched. -/
def X (c : Dev nD) : Vec F S256x4096 .f32 := m ((c : Thread nD τ).loc main_arg0)
/-- Device `c`'s copy of `w`, as launched. -/
def W (c : Dev nD) : Vec F S4096x2048 .f32 := m ((c : Thread nD τ).loc main_arg1)

/-- An index of a two-axis shape from its coordinates, taken modulo the extents. -/
def i2 {n k : ℕ} (hn : 0 < n) (hk : 0 < k) (a b : ℕ) : (⟨2, ![n, k]⟩ : Shape).Idx
  | ⟨0, _⟩ => (⟨a % n, Nat.mod_lt _ hn⟩ : Fin n)
  | ⟨1, _⟩ => (⟨b % k, Nat.mod_lt _ hk⟩ : Fin k)

/-- Chunk `j` of `w` — its columns `256 j …` — with the unit leading axis a slot of the double buffer has. -/
def wchunk (c : Dev nD) (j : ℕ) : Vec F S1x4096x256 .f32 := fun i =>
  W m c (i2 (by decide) (by decide) (i 1).val (256 * j + (i 2).val))

/-- Chunk `j` of device `c`'s rows of the product. -/
def ychunk (c : Dev nD) (j : ℕ) : FVec F S256x256 .f32 := k0_pay17 (X m c) (wchunk m c j)

/-- The left (`h = 0`) or right half of a chunk. -/
def half (h : ℕ) (y : FVec F S256x256 .f32) : FVec F S256x128 .f32 :=
  if h = 0 then extractStridedSlice S256x128 ![0, 0] y slices_S256x256_o0_0_S256x128
  else extractStridedSlice S256x128 ![0, 128] y slices_S256x256_o0_128_S256x128

/-- Block `p` of device `c`'s rows of the product: its columns `128 p …`. -/
def yblock (c : Dev nD) (p : ℕ) : FVec F S256x128 .f32 := half (p % 2) (ychunk m c (p / 2))

/-- A block's largest absolute value. -/
def absmax (b : FVec F S256x128 .f32) : F .f32 :=
  extractAt ![0, 0, 0] (shapeCast S1x1x1 (multiReduction .maximumf [1, 2] S1
    (shapeCast S1x256x128 (absf b) shapeCasts_S256x128_S1x256x128) 0xFF800000#32 reduces_S1x256x128_S1 (.inl rfl) rfl)
    shapeCasts_S1_S1x1x1) inpos_S1x1x1_p0_0_0

/-- The reciprocal of a block's 16-bit step, from its largest absolute value. -/
def inv16 (a : F .f32) : F .f32 :=
  Scalar.divf (Scalar.ofBits .f32 0x46FFFE00#32) (Scalar.maximumf a (Scalar.ofBits .f32 0x0DA24260#32))

/-- A block rounded to whole 16-bit steps. -/
def steps16 (b : FVec F S256x128 .f32) : FVec F S256x128 .f32 :=
  roundeven (mulf b (broadcast S256x128 (inv16 (absmax b))))

/-- A block as it travels: clipped to ±32767 and converted. -/
def quant16 (b : FVec F S256x128 .f32) : IVec S256x128 16 :=
  fptosi 16 (minimumf (broadcast S256x128 (Scalar.ofBits .f32 0x46FFFE00#32))
    (maximumf (broadcast S256x128 (Scalar.ofBits .f32 0xC6FFFE00#32)) (steps16 b)))

/-- Block `p`'s largest absolute value. -/
def bmax (c : Dev nD) (p : ℕ) : F .f32 := absmax (yblock m c p)
/-- The largest absolute value over the blocks before `p`. -/
def runmax (c : Dev nD) : ℕ → F .f32
  | 0 => Scalar.ofBits .f32 0x00000000#32
  | p + 1 => Scalar.maximumf (runmax c p) (bmax m c p)
/-- Device `c`'s largest absolute value. -/
def stripeMax (c : Dev nD) : F .f32 := runmax m c 16

/-! ## The buffers -/

/-- Slot `r % 2` of the double buffer once chunk `j` of `w` has landed (read on that slot only). -/
def wbufAt (c : Dev nD) (j : ℕ) : Vec F S2x4096x256 .f32 := fun i =>
  W m c (i2 (by decide) (by decide) (i 1).val (256 * j + (i 2).val))
/-- Device `c`'s rows of the product. -/
def yAt (c : Dev nD) : Vec F S256x2048 .f32 := fun i =>
  ychunk m c ((i 1).val / 256) (i2 (by decide) (by decide) (i 0).val ((i 1).val % 256))
/-- The 16-bit blocks of device `c`'s rows. -/
def d16At (c : Dev nD) : IVec S256x2048 16 := fun i =>
  quant16 (yblock m c ((i 1).val / 128)) (i2 (by decide) (by decide) (i 0).val ((i 1).val % 128))
/-- The blocks' largest absolute values, each filling its slot. -/
def sscaleAt (c : Dev nD) : Vec F S16x8x128 .f32 := fun i => bmax m c (i 0).val
/-- The device of a number, taken modulo the number of devices. -/
def devOf (q : ℕ) : Dev nD := ⟨q % 16, Nat.mod_lt _ (by decide)⟩
/-- What arrives at device `c`: slot `q` holds device `q`'s block `c`, -/
def qrecvAt (c : Dev nD) : IVec S16x256x128 16 := fun i =>
  quant16 (yblock m (devOf (i 0).val) c.val) (i2 (by decide) (by decide) (i 1).val (i 2).val)
/-- its largest absolute value, -/
def srecvAt (c : Dev nD) : Vec F S16x8x128 .f32 := fun i => bmax m (devOf (i 0).val) c.val
/-- and device `q`'s largest absolute value. -/
def arecvAt (c : Dev nD) : Vec F S16x8x128 .f32 := fun i => stripeMax m (devOf (i 0).val)
/-- What device `c` sends to everyone. -/
def asendAt (c : Dev nD) : Vec F S8x128 .f32 := fun _ => stripeMax m c

/-- The largest absolute value of the whole product, as device `c` computes it. -/
def gmax (c : Dev nD) : F .f32 := k0_pay122 (arecvAt m c)
/-- The 8-bit step, -/
def scale8 (c : Dev nD) : F .f32 := Scalar.divf (gmax m c) (Scalar.ofBits .f32 0x42FE0000#32)
/-- and its reciprocal. -/
def inv8 (c : Dev nD) : F .f32 := Scalar.divf (Scalar.ofBits .f32 0x42FE0000#32) (gmax m c)

/-- A block rounded to 8-bit steps, clipped to ±127 and scaled back. -/
def requant (c : Dev nD) (b : FVec F S256x128 .f32) : FVec F S256x128 .f32 :=
  mulf (minimumf (broadcast S256x128 (Scalar.ofBits .f32 0x42FE0000#32))
    (maximumf (broadcast S256x128 (Scalar.ofBits .f32 0xC2FE0000#32)) (roundeven (mulf b (broadcast S256x128 (inv8 m c))))))
    (broadcast S256x128 (scale8 m c))

/-- A received block scaled back from 16 bits. -/
def dequant16 (q : IVec S256x128 16) (a : F .f32) : FVec F S256x128 .f32 :=
  mulf (sitofp .f32 q) (broadcast S256x128 (Scalar.mulf a (Scalar.ofBits .f32 0x38000100#32)))

/-- Row block `q` of device `c`'s result: from its own product where `q = c`, else from what device `q` sent. -/
def outBlock (c : Dev nD) (q : ℕ) : FVec F S256x128 .f32 :=
  if q = c.val then requant m c (yblock m c c.val)
  else requant m c (dequant16 (quant16 (yblock m (devOf q) c.val)) (bmax m (devOf q) c.val))

/-- Device `c`'s result. -/
def outAt (c : Dev nD) : Vec F S4096x128 .f32 := fun i =>
  outBlock m c ((i 0).val / 256) (i2 (by decide) (by decide) ((i 0).val % 256) (i 1).val)

end Cert.KernelIdealProof

end
-- ==== Proof.Cells.lean ====
/-
The semaphores, the schedule of who pays what into each, and the levels.

Per device: the barrier semaphore; one DMA semaphore for the rows of `x`; two for the double buffer of `w`; and six
arrays of sixteen, one element per peer, for the sent and received blocks, the sent and received block maxima and the
sent and received stripe maxima.

* barrier of `d`: every other device `q` pays one unit and hands over ITS slots numbered `d` of the three receive
  buffers; `d` waits for all fifteen.
* `x` and `w`: the device's own copies; the buffer with its contents and the source come back. The `w` semaphores run
  four rounds each: round `r` of semaphore `s` carries chunk `2 r + s`.
* send semaphores: the source comes back. Receive semaphores, element `q` of device `d`: paid by device `q`'s
  transfer, which hands over `d`'s slot `q` with what it then holds.

Levels: everything a device waits for while it still owes something lies below what it owes — its own copies at 0, the
barrier at 1, the receive semaphores at 2.
-/
module

public import proofs.«01_k».proof.Proof.Vals
public import proofs.«01_k».proof.Proof.Gen.KernelIdeal.Launch
public import Idealize.ShloMosaic.Lib.Pipeline.Launch
public import Idealize.ShloMosaic.Lib.Pipeline.Kit

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The semaphores -/

/-- What a device's cell is for. -/
inductive Cell where
  | none | x | w (s : Fin 2) | peer (b : Fin 6) (p : Fin 16)
  deriving DecidableEq

/-- The DMA semaphores in the pool's order. -/
def cellNo : Cell → Fin 100
  | .none => 0
  | .x => 1
  | .w s => ⟨2 + s.val, by have := s.isLt; omega⟩
  | .peer b p => ⟨4 + 16 * b.val + p.val, by have := b.isLt; have := p.isLt; omega⟩

/-- Which cell a DMA semaphore of the pool is. -/
def cellAt (i : Fin 100) : Cell :=
  if i.val = 0 then .none else if i.val = 1 then .x
  else if h : i.val < 4 then .w ⟨i.val - 2, by omega⟩
  else .peer ⟨(i.val - 4) / 16, by have := i.isLt; omega⟩ ⟨(i.val - 4) % 16, Nat.mod_lt _ (by decide)⟩

theorem cellAt_cellNo (k : Cell) : cellAt (cellNo k) = k := by
  cases k with
  | none => rfl
  | x => rfl
  | w s => revert s; decide
  | peer b p => revert b p; decide
theorem cellNo_cellAt (i : Fin 100) : cellNo (cellAt i) = i := by revert i; decide

/-- The runtime's barrier semaphore. -/
abbrev barS : Sem sig := (SemArray.scalar (sig.barrier 0 rfl) : Sems sig S_).sem
/-- The DMA semaphore of a cell. -/
abbrev dmaS (k : Cell) : DmaSem sig := (cellNo k : Fin 100)

abbrev barCell (c : Dev nD) : GSem nD τ sig := ((c : Thread nD τ), .reg barS)
abbrev dCell (c : Dev nD) (k : Cell) : GSem nD τ sig := ((c : Thread nD τ), .dma (dmaS k))

/-- A device's hundred cells: the barrier at 0, DMA semaphore `i` at `i`. -/
abbrev csem (i : Fin 100) : SemLoc sig := if i = 0 then .reg barS else .dma (i : Fin 100)
/-- The kernel's own (scoped) ones. -/
abbrev osem (i : Fin 99) : SemLoc sig := .dma (⟨i.val + 1, by have := i.isLt; omega⟩ : Fin 100)
abbrev kcell (ck : Dev nD × Fin 100) : GSem nD τ sig := ((ck.1 : Thread nD τ), csem ck.2)

theorem kcell_bar (c : Dev nD) : kcell (c, 0) = barCell c := rfl
theorem kcell_dma (c : Dev nD) (k : Cell) (h : k ≠ .none) : kcell (c, cellNo k) = dCell c k := by
  have : cellNo k ≠ 0 := fun e => h (by rw [← cellAt_cellNo k, e]; rfl)
  show ((c : Thread nD τ), csem (cellNo k)) = _
  unfold csem; rw [if_neg this]

/-! ## The pieces of the buffers -/

theorem qslot_inb (p : Fin 16) : ∀ a, (![p.val, 0, 0] : Fin 3 → ℕ) a + S1x256x128.size a ≤ S16x256x128.size a := by revert p; decide
theorem sslot_inb (p : Fin 16) : ∀ a, (![p.val, 0, 0] : Fin 3 → ℕ) a + S1x8x128.size a ≤ S16x8x128.size a := by revert p; decide
theorem wslot_inb (s : Fin 2) : ∀ a, (![s.val, 0, 0] : Fin 3 → ℕ) a + S1x4096x256.size a ≤ S2x4096x256.size a := by revert s; decide
theorem dblk_inb (p : Fin 16) : ∀ a, (![0, 128 * p.val] : Fin 2 → ℕ) a + S256x128.size a ≤ S256x2048.size a := by revert p; decide
theorem ychk_inb (j : Fin 8) : ∀ a, (![0, 256 * j.val] : Fin 2 → ℕ) a + S256x256.size a ≤ S256x2048.size a := by revert j; decide
theorem wcol_inb (j : Fin 8) : ∀ a, (![0, 256 * j.val] : Fin 2 → ℕ) a + S4096x256.size a ≤ S4096x2048.size a := by revert j; decide
theorem oblk_inb (p : Fin 16) : ∀ a, (![256 * p.val, 0] : Fin 2 → ℕ) a + S256x128.size a ≤ S4096x128.size a := by revert p; decide

abbrev qR (p : Fin 16) : Rect S16x256x128 := Rect.unit (s := S16x256x128) ![p.val, 0, 0] S1x256x128.size (qslot_inb p)
abbrev sR (p : Fin 16) : Rect S16x8x128 := Rect.unit (s := S16x8x128) ![p.val, 0, 0] S1x8x128.size (sslot_inb p)
abbrev wR (s : Fin 2) : Rect S2x4096x256 := Rect.unit (s := S2x4096x256) ![s.val, 0, 0] S1x4096x256.size (wslot_inb s)
abbrev dR (p : Fin 16) : Rect S256x2048 := Rect.unit (s := S256x2048) ![0, 128 * p.val] S256x128.size (dblk_inb p)
abbrev yR (j : Fin 8) : Rect S256x2048 := Rect.unit (s := S256x2048) ![0, 256 * j.val] S256x256.size (ychk_inb j)
abbrev cR (j : Fin 8) : Rect S4096x2048 := Rect.unit (s := S4096x2048) ![0, 256 * j.val] S4096x256.size (wcol_inb j)
abbrev oR (p : Fin 16) : Rect S4096x128 := Rect.unit (s := S4096x128) ![256 * p.val, 0] S256x128.size (oblk_inb p)

/-- The share of the sent stripe maximum a transfer to peer `p` holds. -/
def ash (p : Fin 16) : PosShare TreeShare := Transfers.dealOf fullShare Finset.univ p

def qPts (c : Dev nD) (p : Fin 16) (f : IVec S16x256x128 16) : sProp 𝕄 := ((c : Thread nD τ).loc cc0_scratch4) ↦[(qR p).set]{fullShare} f
def srPts (c : Dev nD) (p : Fin 16) (f : Vec F S16x8x128 .f32) : sProp 𝕄 := ((c : Thread nD τ).loc cc0_scratch6) ↦[(sR p).set]{fullShare} f
def arPts (c : Dev nD) (p : Fin 16) (f : Vec F S16x8x128 .f32) : sProp 𝕄 := ((c : Thread nD τ).loc cc0_scratch8) ↦[(sR p).set]{fullShare} f
def ssPts (c : Dev nD) (p : Fin 16) (f : Vec F S16x8x128 .f32) : sProp 𝕄 := ((c : Thread nD τ).loc cc0_scratch5) ↦[(sR p).set]{fullShare} f
def dPts (c : Dev nD) (p : Fin 16) (f : IVec S256x2048 16) : sProp 𝕄 := ((c : Thread nD τ).loc cc0_scratch3) ↦[(dR p).set]{fullShare} f
def asPts (c : Dev nD) (p : Fin 16) (f : Vec F S8x128 .f32) : sProp 𝕄 := ((c : Thread nD τ).loc cc0_scratch7) ↦{ash p} f
def wsPts (c : Dev nD) (s : Fin 2) (f : Vec F S2x4096x256 .f32) : sProp 𝕄 := ((c : Thread nD τ).loc cc0_scratch1) ↦[(wR s).set]{fullShare} f
def wcPts (c : Dev nD) (j : Fin 8) : sProp 𝕄 := ((c : Thread nD τ).loc main_arg1) ↦[(cR j).set]{fullShare} W m c
def xPts (c : Dev nD) (f : Vec F S256x4096 .f32) : sProp 𝕄 := ((c : Thread nD τ).loc cc0_scratch0) ↦{fullShare} f
def xaPts (c : Dev nD) : sProp 𝕄 := ((c : Thread nD τ).loc main_arg0) ↦{fullShare} X m c

section Storable
omit [FloatOps F]
instance (c : Dev nD) (p f) : BI.Storable (upEmb : UEmb _ 𝕄) (qPts (F := F) c p f) := by unfold qPts; infer_instance
instance (c : Dev nD) (p f) : BI.Storable (upEmb : UEmb _ 𝕄) (srPts (F := F) c p f) := by unfold srPts; infer_instance
instance (c : Dev nD) (p f) : BI.Storable (upEmb : UEmb _ 𝕄) (arPts (F := F) c p f) := by unfold arPts; infer_instance
instance (c : Dev nD) (p f) : BI.Storable (upEmb : UEmb _ 𝕄) (ssPts (F := F) c p f) := by unfold ssPts; infer_instance
instance (c : Dev nD) (p f) : BI.Storable (upEmb : UEmb _ 𝕄) (dPts (F := F) c p f) := by unfold dPts; infer_instance
instance (c : Dev nD) (p f) : BI.Storable (upEmb : UEmb _ 𝕄) (asPts (F := F) c p f) := by unfold asPts; infer_instance
instance (c : Dev nD) (s f) : BI.Storable (upEmb : UEmb _ 𝕄) (wsPts (F := F) c s f) := by unfold wsPts; infer_instance
instance (c : Dev nD) (j) : BI.Storable (upEmb : UEmb _ 𝕄) (wcPts (F := F) m c j) := by unfold wcPts; infer_instance
instance (c : Dev nD) (f) : BI.Storable (upEmb : UEmb _ 𝕄) (xPts (F := F) c f) := by unfold xPts; infer_instance
instance (c : Dev nD) : BI.Storable (upEmb : UEmb _ 𝕄) (xaPts (F := F) m c) := by unfold xaPts; infer_instance
end Storable

/-! ## The schedule -/

/-- The credits of one transfer: of the rows of `x`, of a chunk of `w`, of a 16-bit block, of a tile of maxima. -/
def NX : ℕ := (Memref.whole cc0_scratch0 : Memref sig .tc .vmem S256x4096 .f32).view.dmaCredit
def NW : ℕ := ((Memref.whole cc0_scratch1 : Memref sig .tc .vmem S2x4096x256 .f32).slice (wR 0) (fun _ => rfl)).view.dmaCredit
def ND : ℕ := ((Memref.whole cc0_scratch4 : Memref sig .tc .vmem S16x256x128 .i16).slice (qR 0) (fun _ => rfl)).view.dmaCredit
def NS : ℕ := ((Memref.whole cc0_scratch6 : Memref sig .tc .vmem S16x8x128 .f32).slice (sR 0) (fun _ => rfl)).view.dmaCredit

theorem NX_pos : 0 < NX := View.dmaCredit_pos _ (by decide)
theorem NW_pos : 0 < NW := View.dmaCredit_pos _ (by decide)
theorem ND_pos : 0 < ND := View.dmaCredit_pos _ (by decide)
theorem NS_pos : 0 < NS := View.dmaCredit_pos _ (by decide)

/-- How many rounds a cell of device `d` runs. -/
def roundsOf (d : Dev nD) : Cell → ℕ
  | .none => 0
  | .x => 1
  | .w _ => 4
  | .peer _ p => if p = d then 0 else 1

/-- A cell's credit per round. -/
def credOf : Cell → ℕ
  | .none => 1
  | .x => NX
  | .w _ => NW
  | .peer b _ => if b.val < 2 then ND else NS

theorem credOf_pos (k : Cell) : 0 < credOf k := by
  cases k with
  | none => exact Nat.one_pos
  | x => exact NX_pos
  | w => exact NW_pos
  | peer b p =>
    show 0 < if b.val < 2 then ND else NS
    by_cases h : b.val < 2
    · rw [if_pos h]; exact ND_pos
    · rw [if_neg h]; exact NS_pos

/-- What a peer cell's one round hands its owner `d`: of kinds 0, 2, 4 its own source back, of kinds 1, 3, 5 its slot
    `p` with what device `p` sent. -/
def peerPay (d : Dev nD) : Fin 6 → Fin 16 → sProp 𝕄
  | 0, p => dPts d p (d16At m d)
  | 1, p => qPts d p (qrecvAt m d)
  | 2, p => ssPts d p (sscaleAt m d)
  | 3, p => srPts d p (srecvAt m d)
  | 4, p => asPts d p (asendAt m d)
  | 5, p => arPts d p (arecvAt m d)

/-- What round `r` of a DMA cell hands its owner `d`. -/
def payOf (d : Dev nD) (k : Cell) (r : ℕ) : sProp 𝕄 :=
  match k with
  | .none => iprop(emp)
  | .x => iprop(xPts d (X m d) ∗ xaPts m d)
  | .w s => iprop(wsPts d s (wbufAt m d (2 * r + s.val)) ∗ wcPts m d ⟨(2 * r + s.val) % 8, Nat.mod_lt _ (by decide)⟩)
  | .peer b p => peerPay m d b p

/-- What device `q`'s signal hands device `d`: `q`'s slots `d` of the receive buffers. -/
def barPay (d q : Dev nD) : sProp 𝕄 :=
  iprop((∃ f, qPts q d f) ∗ (∃ f, srPts q d f) ∗ (∃ f, arPts q d f))

def ringRd : Rounds.Schedule (GSem nD τ sig) (Fin 16) 𝕄 where
  duties g r := match g.2 with
    | .reg _ => if r = 0 then Finset.univ.erase g.1.1 else ∅
    | .dma i => if r < roundsOf g.1.1 (cellAt i) then {0} else ∅
  unitless _ := False
  amount g _ _ := match g.2 with
    | .reg _ => 1
    | .dma i => credOf (cellAt i)
  payload g r q := match g.2 with
    | .reg _ => barPay g.1.1 q
    | .dma i => payOf m g.1.1 (cellAt i) r
  amount_pos g _ _ _ := by
    rcases g with ⟨t, sm | i⟩
    · exact Nat.one_pos
    · exact credOf_pos _

omit [FloatOps F] in
instance barPay_storable (d q : Dev nD) : BI.Storable (upEmb : UEmb _ 𝕄) (barPay (F := F) d q) := by
  unfold barPay; infer_instance
instance peerPay_storable (d : Dev nD) (b : Fin 6) (p : Fin 16) : BI.Storable (upEmb : UEmb _ 𝕄) (peerPay (F := F) m d b p) := by
  fin_cases b <;> · unfold peerPay; infer_instance
instance payOf_storable (d : Dev nD) (k : Cell) (r : ℕ) : BI.Storable (upEmb : UEmb _ 𝕄) (payOf (F := F) m d k r) := by
  cases k <;> · unfold payOf; infer_instance
instance ringRd_payload_storable (g : GSem nD τ sig) (r : ℕ) (d : Fin 16) :
    BI.Storable (upEmb : UEmb _ 𝕄) ((ringRd (F := F) m).payload g r d) := by
  rcases g with ⟨t, sm | i⟩
  · exact barPay_storable _ _
  · exact payOf_storable m _ _ _

section Sched
variable (c : Dev nD)

theorem duties_bar : (ringRd (F := F) m).duties (barCell c) 0 = Finset.univ.erase c := by
  show (if (0 : ℕ) = 0 then Finset.univ.erase c else ∅) = _
  exact if_pos rfl
theorem amount_bar (q : Fin 16) : (ringRd (F := F) m).amount (barCell c) 0 q = 1 := rfl
theorem payload_bar (q : Fin 16) : (ringRd (F := F) m).payload (barCell c) 0 q = barPay c q := rfl
theorem expect_bar : (ringRd (F := F) m).expect (barCell c) 0 = 15 := by
  unfold Schedule.expect Schedule.amountOf
  rw [duties_bar, Finset.sum_congr rfl fun d _ => amount_bar m c d, Finset.sum_const, Finset.card_erase_of_mem (Finset.mem_univ c), Finset.card_univ]
  rfl
theorem duties_dma (k : Cell) (r : ℕ) (h : r < roundsOf c k) : (ringRd (F := F) m).duties (dCell c k) r = {0} := by
  show (if r < roundsOf c (cellAt (cellNo k)) then {0} else ∅) = _
  rw [cellAt_cellNo, if_pos h]
theorem duties_dma_later (k : Cell) (r : ℕ) (h : roundsOf c k ≤ r) : (ringRd (F := F) m).duties (dCell c k) r = ∅ := by
  show (if r < roundsOf c (cellAt (cellNo k)) then {0} else ∅) = _
  rw [cellAt_cellNo, if_neg (Nat.not_lt.mpr h)]
theorem duties_bar_later (r : ℕ) (h : 1 ≤ r) : (ringRd (F := F) m).duties (barCell c) r = ∅ :=
  if_neg (by omega)
theorem amount_dma (k : Cell) (r : ℕ) (q : Fin 16) : (ringRd (F := F) m).amount (dCell c k) r q = credOf k := by
  show credOf (cellAt (cellNo k)) = _
  rw [cellAt_cellNo]
theorem payload_dma (k : Cell) (r : ℕ) (q : Fin 16) : (ringRd (F := F) m).payload (dCell c k) r q = payOf m c k r := by
  show payOf m c (cellAt (cellNo k)) r = _
  rw [cellAt_cellNo]
theorem expect_dma (k : Cell) (r : ℕ) (h : r < roundsOf c k) : (ringRd (F := F) m).expect (dCell c k) r = credOf k := by
  unfold Schedule.expect Schedule.amountOf; rw [duties_dma m c k r h, Finset.sum_singleton, amount_dma]
theorem rest_dma (k : Cell) (r : ℕ) (h : r < roundsOf c k) :
    bigSep ((ringRd (F := F) m).duties (dCell c k) r \ ∅) (fun q => (ringRd (F := F) m).payload (dCell c k) r q) = payOf m c k r := by
  rw [Finset.sdiff_empty, duties_dma m c k r h, bigSep_singleton, payload_dma]
theorem rest_bar :
    bigSep ((ringRd (F := F) m).duties (barCell c) 0 \ ∅) (fun q => (ringRd (F := F) m).payload (barCell c) 0 q)
      = bigSep (Finset.univ.erase c) (fun q : Dev nD => barPay (F := F) c q) := by
  rw [Finset.sdiff_empty, duties_bar]; rfl

end Sched

/-! ## What a device owes; the levels -/

/-- Device `c`'s unit to device `p`'s barrier, its block and block maximum to `p`'s receive cells, its stripe maximum
    to `p`'s: nothing where `p = c`. -/
def oB (c p : Dev nD) : CellTallies nD τ sig Unit := if p = c then 0 else tallyAt (barCell p) () 1
def oS (c p : Dev nD) : CellTallies nD τ sig Unit := if p = c then 0 else tallyAt (dCell p (.peer 3 c)) () NS
def oD (c p : Dev nD) : CellTallies nD τ sig Unit := if p = c then 0 else tallyAt (dCell p (.peer 1 c)) () ND
def oA (c p : Dev nD) : CellTallies nD τ sig Unit := if p = c then 0 else tallyAt (dCell p (.peer 5 c)) () NS

/-- The members from `n` on, added up. -/
def tailSum (f : Dev nD → CellTallies nD τ sig Unit) (n : ℕ) : CellTallies nD τ sig Unit :=
  ∑ p ∈ Finset.univ.filter (fun p : Dev nD => n ≤ p.val), f p

theorem tailSum_step (f : Dev nD → CellTallies nD τ sig Unit) (p : Dev nD) : tailSum f p.val = tailSum f (p.val + 1) + f p := by
  unfold tailSum
  rw [show (Finset.univ.filter fun q : Dev nD => p.val ≤ q.val) = insert p (Finset.univ.filter fun q : Dev nD => p.val + 1 ≤ q.val) from by
    ext q; simp only [Finset.mem_filter, Finset.mem_univ, true_and, Finset.mem_insert, Fin.ext_iff]; omega,
    Finset.sum_insert (by simp), add_comm]
theorem tailSum_end (f : Dev nD → CellTallies nD τ sig Unit) : tailSum f 16 = 0 := by
  unfold tailSum
  rw [Finset.filter_false_of_mem fun p _ => by have : p.val < 16 := p.isLt; omega, Finset.sum_empty]
theorem tailSum_pos {f : Dev nD → CellTallies nD τ sig Unit} {n : ℕ} {g : GSem nD τ sig} {u : Unit} (h : 0 < tailSum f n g u) :
    ∃ p, 0 < f p g u := by
  unfold tailSum at h
  rw [Finset.sum_apply, Finsupp.finset_sum_apply] at h
  obtain ⟨p, -, hp⟩ := Finset.exists_ne_zero_of_sum_ne_zero (Nat.pos_iff_ne_zero.mp h)
  exact ⟨p, Nat.pos_of_ne_zero hp⟩

/-- What device `c` owes once it has signalled the devices before `nb`, sent blocks to those before `nd` (and the block
    without its maximum to `nd` itself where `nd < ns`) and its stripe maximum to those before `na`. -/
def owed (c : Dev nD) (nb nd ns na : ℕ) : CellTallies nD τ sig Unit :=
  tailSum (oA c) na + tailSum (oS c) ns + tailSum (oD c) nd + tailSum (oB c) nb

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def cellLv : Cell → ℕ
  | .peer b _ => if b.val % 2 = 1 then 2 else 0
  | _ => 0
def lv (g : GSem nD τ sig) (_ : Unit) : ℕ := match g.2 with
  | .reg _ => 1
  | .dma i => cellLv (cellAt i)
theorem lv_bar (c : Dev nD) : lv (barCell c) () = 1 := rfl
theorem lv_dma (c : Dev nD) (k : Cell) : lv (dCell c k) () = cellLv k := by
  show cellLv (cellAt (cellNo k)) = _
  rw [cellAt_cellNo]

theorem tally_pos {g g' : GSem nD τ sig} {u : Unit} {n : ℕ} {P : Prop} [Decidable P]
    (h : 0 < (if P then 0 else tallyAt g' () n : CellTallies nD τ sig Unit) g u) : g = g' := by
  by_cases hP : P
  · rw [if_pos hP] at h; exact absurd h (Nat.lt_irrefl 0)
  · rw [if_neg hP, tallyAt_apply] at h
    by_contra hn
    rw [if_neg fun h' => hn h'.1] at h
    exact absurd h (Nat.lt_irrefl 0)

/-- What is owed is owed to receive cells and, while signals are missing, to barrier cells. -/
theorem owed_pos {c : Dev nD} {nb nd ns na : ℕ} {g : GSem nD τ sig} {u : Unit} (h : 0 < owed c nb nd ns na g u) :
    (∃ p k, g = dCell p k ∧ cellLv k = 2) ∨ (nb < 16 ∧ ∃ p, g = barCell p) := by
  have h' : 0 < tailSum (oA c) na g u + tailSum (oS c) ns g u + tailSum (oD c) nd g u + tailSum (oB c) nb g u := h
  rcases Nat.lt_or_ge 0 (tailSum (oA c) na g u) with h1 | h1
  · obtain ⟨p, hp⟩ := tailSum_pos h1; exact .inl ⟨p, _, tally_pos hp, rfl⟩
  rcases Nat.lt_or_ge 0 (tailSum (oS c) ns g u) with h2 | h2
  · obtain ⟨p, hp⟩ := tailSum_pos h2; exact .inl ⟨p, _, tally_pos hp, rfl⟩
  rcases Nat.lt_or_ge 0 (tailSum (oD c) nd g u) with h3 | h3
  · obtain ⟨p, hp⟩ := tailSum_pos h3; exact .inl ⟨p, _, tally_pos hp, rfl⟩
  have h4 : 0 < tailSum (oB c) nb g u := by omega
  obtain ⟨p, hp⟩ := tailSum_pos h4
  refine .inr ⟨?_, p, tally_pos hp⟩
  by_contra hn
  unfold tailSum at h4
  rw [Finset.filter_false_of_mem fun p _ => by have : p.val < 16 := p.isLt; omega, Finset.sum_empty] at h4
  exact absurd h4 (Nat.lt_irrefl 0)

omit [FloatOps F] in
/-- A device may wait on a cell of level 0 whatever it owes. -/
theorem mayWait_low (c : Dev nD) (i : Fin 100) (hi : cellLv (cellAt i) = 0) (nb nd ns na : ℕ) :
    (levAts L lv : sProp 𝕄) ⊢ MayWait (c : Thread nD τ) (.dma (i : Fin 100)) () (owed c nb nd ns na) :=
  MayOwe.of_cut (L := L) (lev := lv) 0 (fun p hp => by rw [Finset.mem_singleton.mp hp, L_tc]; exact Finset.mem_singleton_self _)
    (fun g u hg => by rcases owed_pos hg with ⟨p, k, rfl, -⟩ | ⟨-, p, rfl⟩ <;> exact Finset.mem_singleton_self _)
    (fun p hp => by rw [Finset.mem_singleton.mp hp]; exact Nat.le_of_eq hi)
    (fun g u hg => by
      rcases owed_pos hg with ⟨p, k, rfl, hk⟩ | ⟨-, p, rfl⟩
      · rw [lv_dma, hk]; decide
      · rw [lv_bar]; decide)

omit [FloatOps F] in
/-- A device may wait on its barrier once it has signalled everyone. -/
theorem mayWait_bar (c : Dev nD) (nd ns na : ℕ) :
    (levAts L lv : sProp 𝕄) ⊢ MayWait (c : Thread nD τ) (.reg barS) () (owed c 16 nd ns na) :=
  MayOwe.of_cut (L := L) (lev := lv) 1 (fun p hp => by rw [Finset.mem_singleton.mp hp, L_tc]; exact Finset.mem_singleton_self _)
    (fun g u hg => by rcases owed_pos hg with ⟨p, k, rfl, -⟩ | ⟨-, p, rfl⟩ <;> exact Finset.mem_singleton_self _)
    (fun p hp => by rw [Finset.mem_singleton.mp hp]; exact Nat.le_of_eq rfl)
    (fun g u hg => by
      rcases owed_pos hg with ⟨p, k, rfl, hk⟩ | ⟨h, -⟩
      · rw [lv_dma, hk]; decide
      · exact absurd h (Nat.lt_irrefl _))

end Cert.KernelIdealProof

end
-- ==== Proof.Families.lean ====
/-
What a device holds of each family of sixteen — slots, tokens, credits, positions, sources — as functions of how far
the body has come, and how one step takes a member out and puts it back changed.
-/
module

public import proofs.«01_k».proof.Proof.Cells

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## One member of a family changed -/

omit [FloatOps F] in
theorem bigSep_at {I : Type} [Fintype I] [DecidableEq I] (i : I) {Φ : I → sProp 𝕄} :
    bigSep Finset.univ Φ = iprop(Φ i ∗ bigSep (Finset.univ.erase i) Φ) := BI.bigSep_univ_split i

omit [FloatOps F] in
/-- A family that differs from another in one member only: that member out, the other's in. -/
theorem bigSep_upd {I : Type} [Fintype I] [DecidableEq I] (i : I) {Φ Ψ : I → sProp 𝕄} (h : ∀ j, j ≠ i → Φ j = Ψ j) :
    bigSep Finset.univ Φ ⊢ iprop(Φ i ∗ (Ψ i -∗ bigSep Finset.univ Ψ)) := by
  rw [bigSep_at i, bigSep_at (Φ := Ψ) i,
    bigSep_congr (Φ := Φ) (Ψ := Ψ) fun j hj => h j (Finset.ne_of_mem_erase hj)]
  iintro ⟨H, Hr⟩
  isplitl [H]; · iexact H
  iintro H
  isplitl [H]; · iexact H
  iexact Hr

/-- The peer of a number below sixteen. -/
abbrev dv (n : ℕ) (h : n < 16) : Dev nD := ⟨n, h⟩

theorem dv_ne {n : ℕ} (h : n < 16) {p : Dev nD} (hp : p ≠ dv n h) : p.val ≠ n := fun e => hp (Fin.ext e)
theorem ne_dv {n : ℕ} (h : n < 16) {p : Dev nD} (hp : p.val ≠ n) : dv n h ≠ p := fun e => hp (by rw [← e])

/-! ## Signals -/

/-- For a peer not yet signalled: this device's slots of that number, and the token of the signal. -/
def SigP (nb : ℕ) (p : Dev nD) : sProp 𝕄 :=
  if p = c ∨ p.val < nb then iprop(emp) else iprop(barPay p c ∗ dutyTok ER (barCell p) 0 c)
def Sig (nb : ℕ) : sProp 𝕄 := bigSep Finset.univ (SigP (F := F) c nb)

omit [FloatOps F] in
theorem sig_skip {n : ℕ} (h : c.val = n) : Sig (F := F) c n = Sig c (n + 1) :=
  bigSep_congr fun p _ => by
    unfold SigP
    by_cases hp : p = c
    · rw [if_pos (.inl hp), if_pos (.inl hp)]
    · have : p.val ≠ n := fun e => hp (Fin.ext (e.trans h.symm))
      by_cases h2 : p.val < n
      · rw [if_pos (.inr h2), if_pos (.inr (by omega))]
      · rw [if_neg (by rintro (h' | h') <;> [exact hp h'; exact h2 h']), if_neg (by rintro (h' | h') <;> [exact hp h'; omega])]
omit [FloatOps F] in
theorem sig_step {n : ℕ} (h : n < 16) (hc : c.val ≠ n) :
    Sig (F := F) c n ⊢ iprop((barPay (dv n h) c ∗ dutyTok ER (barCell (dv n h)) 0 c) ∗ Sig c (n + 1)) := by
  refine (bigSep_upd (dv n h) (Ψ := SigP c (n + 1)) fun p hp => ?_).trans ?_
  · have := dv_ne h hp
    unfold SigP
    have e : (p = c ∨ p.val < n) ↔ (p = c ∨ p.val < n + 1) := or_congr Iff.rfl (by omega)
    simp only [e]
  · rw [show SigP (F := F) c n (dv n h) = iprop(barPay (dv n h) c ∗ dutyTok ER (barCell (dv n h)) 0 c) from
        if_neg (by rintro (h' | h') <;> [exact ne_dv h hc h'; exact Nat.lt_irrefl n h']),
      show SigP (F := F) c (n + 1) (dv n h) = iprop(emp) from if_pos (.inr (Nat.lt_succ_self n))]
    unfold Sig
    iintro ⟨H, Hk⟩
    isplitl [H]; · iexact H
    iapply Hk; iempintro

/-! ## Transfers to peers -/

/-- Device `d`'s slot `q` of the receive buffer of kind `k`, at some contents. -/
def slotAny (d : Dev nD) (k : Fin 3) (q : Dev nD) : sProp 𝕄 :=
  match k with
  | 0 => iprop(∃ f, qPts d q f)
  | 1 => iprop(∃ f, srPts d q f)
  | 2 => iprop(∃ f, arPts d q f)

omit [FloatOps F] in
theorem barPay_eq (d q : Dev nD) : barPay (F := F) d q = iprop(slotAny q 0 d ∗ slotAny q 1 d ∗ slotAny q 2 d) := rfl

abbrev kS (k : Fin 3) : Fin 6 := ⟨2 * k.val, by have := k.isLt; omega⟩
abbrev kR (k : Fin 3) : Fin 6 := ⟨2 * k.val + 1, by have := k.isLt; omega⟩
/-- The send cell of kind `k` for peer `p`, the receive cell from it, their credit. -/
abbrev sCell (d : Dev nD) (k : Fin 3) (p : Dev nD) : GSem nD τ sig := dCell d (.peer (kS k) p)
abbrev rCell (d : Dev nD) (k : Fin 3) (p : Dev nD) : GSem nD τ sig := dCell d (.peer (kR k) p)
def NK (k : Fin 3) : ℕ := if k.val = 0 then ND else NS

/-- Towards peer `p`: the peer's slot (once the barrier is passed, `b = 1`) and the two tokens until the transfer
    starts, the send cell's position and, under way, its credit, the source while it is here. -/
def SndP (k : Fin 3) (A : Dev nD → sProp 𝕄) (b s w : ℕ) (p : Dev nD) : sProp 𝕄 :=
  if p = c then iprop(A p ∗ atPos ER (sCell c k p) 0 ∅ 0)
  else iprop((if b = 1 ∧ s ≤ p.val then slotAny p k c else emp)
    ∗ (if s ≤ p.val then iprop(dutyTok ER (sCell c k p) 0 (0 : Fin 16) ∗ dutyTok ER (rCell p k c) 0 (0 : Fin 16)) else emp)
    ∗ (if p.val < w then atPos ER (sCell c k p) 1 ∅ 0
        else iprop(atPos ER (sCell c k p) 0 ∅ 0 ∗ if p.val < s then cred (tallyAt (sCell c k p) () (NK k)) else emp))
    ∗ (if w ≤ p.val ∧ p.val < s then emp else A p))
def Snd (k : Fin 3) (A : Dev nD → sProp 𝕄) (b s w : ℕ) : sProp 𝕄 := bigSep Finset.univ (SndP (F := F) c k A b s w)

section Snd

theorem snd_congr (k : Fin 3) (A A' : Dev nD → sProp 𝕄) {b s w s' w' : ℕ} {p : Dev nD} (h1 : s ≤ p.val ↔ s' ≤ p.val) (h2 : w ≤ p.val ↔ w' ≤ p.val) (hA : A p = A' p) :
    SndP (F := F) c k A b s w p = SndP c k A' b s' w' p := by
  have h1' : p.val < s ↔ p.val < s' := by omega
  have h2' : p.val < w ↔ p.val < w' := by omega
  unfold SndP; simp only [h1, h2, h1', h2', hA]

theorem snd_self (k : Fin 3) (A : Dev nD → sProp 𝕄)  (b s w s' w' : ℕ) : SndP (F := F) c k A b s w c = SndP c k A b s' w' c := by
  unfold SndP; rw [if_pos rfl, if_pos rfl]

theorem snd_skip (k : Fin 3) (A : Dev nD → sProp 𝕄)  {b n : ℕ} (h : c.val = n) : Snd (F := F) c k A b n 0 = Snd c k A b (n + 1) 0 :=
  bigSep_congr fun p _ => by
    by_cases hp : p = c
    · subst hp; exact snd_self _ k A _ _ _ _ _
    · have : p.val ≠ n := fun e => hp (Fin.ext (e.trans h.symm))
      exact snd_congr c k A A (by omega) Iff.rfl rfl
theorem snd_wait_skip (k : Fin 3) (A : Dev nD → sProp 𝕄)  {b n : ℕ} (h : c.val = n) : Snd (F := F) c k A b 16 n = Snd c k A b 16 (n + 1) :=
  bigSep_congr fun p _ => by
    by_cases hp : p = c
    · subst hp; exact snd_self _ k A _ _ _ _ _
    · have : p.val ≠ n := fun e => hp (Fin.ext (e.trans h.symm))
      exact snd_congr c k A A Iff.rfl (by omega) rfl

/-- Starting the transfer to peer `n`. -/
theorem snd_step (k : Fin 3) (A : Dev nD → sProp 𝕄)  {n : ℕ} (h : n < 16) (hc : c.val ≠ n) :
    Snd (F := F) c k A 1 n 0 ⊢ iprop((slotAny (dv n h) k c ∗ dutyTok ER (sCell c k (dv n h)) 0 (0 : Fin 16)
        ∗ dutyTok ER (rCell (dv n h) k c) 0 (0 : Fin 16) ∗ A (dv n h))
      ∗ (cred (tallyAt (sCell c k (dv n h)) () (NK k)) -∗ Snd c k A 1 (n + 1) 0)) := by
  refine (bigSep_upd (dv n h) (Ψ := SndP c k A 1 (n + 1) 0) fun p hp => ?_).trans ?_
  · have := dv_ne h hp
    exact snd_congr c k A A (by omega) Iff.rfl rfl
  · have e1 : SndP c k A 1 n 0 (dv n h) = iprop(slotAny (F := F) (dv n h) k c
        ∗ iprop(dutyTok ER (sCell c k (dv n h)) 0 (0 : Fin 16) ∗ dutyTok ER (rCell (dv n h) k c) 0 (0 : Fin 16))
        ∗ iprop(atPos ER (sCell c k (dv n h)) 0 ∅ 0 ∗ emp) ∗ A (dv n h)) := by
      unfold SndP
      rw [if_neg (ne_dv h hc), if_pos ⟨rfl, Nat.le_refl n⟩, if_pos (Nat.le_refl n), if_neg (Nat.not_lt_zero n),
        if_neg (Nat.lt_irrefl n), if_neg (by rintro ⟨_, h'⟩; exact Nat.lt_irrefl n h')]
    have e2 : SndP c k A 1 (n + 1) 0 (dv n h) = iprop(emp ∗ emp
        ∗ iprop(atPos ER (sCell c k (dv n h)) 0 ∅ 0 ∗ cred (tallyAt (sCell c k (dv n h)) () (NK k))) ∗ emp) := by
      unfold SndP
      rw [if_neg (ne_dv h hc), if_neg (by rintro ⟨_, h'⟩; exact absurd h' (by show ¬ n + 1 ≤ n; omega)), if_neg (show ¬ n + 1 ≤ n by omega),
        if_neg (Nat.not_lt_zero n), if_pos (Nat.lt_succ_self n), if_pos ⟨Nat.zero_le n, Nat.lt_succ_self n⟩]
    rw [e1, e2]; unfold Snd
    iintro ⟨⟨Hs, ⟨Ht, Hu⟩, ⟨Ha, -⟩, HA⟩, Hk⟩
    isplitl [Hs Ht Hu HA]
    · isplitl [Hs]; · iexact Hs
      isplitl [Ht]; · iexact Ht
      isplitl [Hu] <;> iassumption
    iintro Hc
    iapply Hk
    isplitr; · iempintro
    isplitr; · iempintro
    isplitl [Ha Hc]
    · isplitl [Ha] <;> iassumption
    iempintro

/-- The wait on the send cell for peer `n`. -/
theorem snd_wait (k : Fin 3) (A : Dev nD → sProp 𝕄)  {n : ℕ} (h : n < 16) (hc : c.val ≠ n) :
    Snd (F := F) c k A 1 16 n ⊢ iprop((atPos ER (sCell c k (dv n h)) 0 ∅ 0 ∗ cred (tallyAt (sCell c k (dv n h)) () (NK k)))
      ∗ ((atPos ER (sCell c k (dv n h)) 1 ∅ 0 ∗ A (dv n h)) -∗ Snd c k A 1 16 (n + 1))) := by
  refine (bigSep_upd (dv n h) (Ψ := SndP c k A 1 16 (n + 1)) fun p hp => ?_).trans ?_
  · have := dv_ne h hp
    exact snd_congr c k A A Iff.rfl (by omega) rfl
  · have e1 : SndP c k A 1 16 n (dv n h) = iprop(emp ∗ emp
        ∗ iprop(atPos ER (sCell c k (dv n h)) 0 ∅ 0 ∗ cred (tallyAt (sCell c k (dv n h)) () (NK k))) ∗ emp) := by
      unfold SndP
      rw [if_neg (ne_dv h hc), if_neg (by rintro ⟨_, h'⟩; exact absurd h' (by show ¬ 16 ≤ n; omega)),
        if_neg (show ¬ 16 ≤ n by omega), if_neg (Nat.lt_irrefl n), if_pos h, if_pos ⟨Nat.le_refl n, h⟩]
    have e2 : SndP c k A 1 16 (n + 1) (dv n h) = iprop(emp ∗ emp ∗ atPos ER (sCell c k (dv n h)) 1 ∅ 0 ∗ A (dv n h)) := by
      unfold SndP
      rw [if_neg (ne_dv h hc), if_neg (by rintro ⟨_, h'⟩; exact absurd h' (by show ¬ 16 ≤ n; omega)),
        if_neg (show ¬ 16 ≤ n by omega), if_pos (Nat.lt_succ_self n), if_neg (by rintro ⟨h', _⟩; exact absurd h' (by show ¬ n + 1 ≤ n; omega))]
    rw [e1, e2]; unfold Snd
    iintro ⟨⟨-, -, ⟨Ha, Hc⟩, -⟩, Hk⟩
    isplitl [Ha Hc]
    · isplitl [Ha] <;> iassumption
    iintro ⟨Ha, HA⟩
    iapply Hk
    isplitr; · iempintro
    isplitr; · iempintro
    isplitl [Ha]; · iexact Ha
    iexact HA

/-- The source for peer `n` changed while no transfer to it has started. -/
theorem snd_src (k : Fin 3) (A A' : Dev nD → sProp 𝕄) {b s n : ℕ} (h : n < 16) (hs : s ≤ n) (hA : ∀ p : Dev nD, p.val ≠ n → A p = A' p) :
    Snd (F := F) c k A b s 0 ⊢ iprop(A (dv n h) ∗ (A' (dv n h) -∗ Snd c k A' b s 0)) := by
  refine (bigSep_upd (dv n h) (Ψ := SndP c k A' b s 0) fun p hp => snd_congr c k A A' Iff.rfl Iff.rfl (hA p (dv_ne h hp))).trans ?_
  by_cases hc : dv n h = c
  · have e (B : Dev nD → sProp 𝕄) : SndP c k B b s 0 (dv n h) = iprop(B (dv n h) ∗ atPos ER (sCell c k (dv n h)) 0 ∅ 0) := by
      unfold SndP; rw [if_pos hc]
    rw [e A, e A']; unfold Snd
    iintro ⟨⟨HA, Ha⟩, Hk⟩
    isplitl [HA]; · iexact HA
    iintro HA
    iapply Hk
    isplitl [HA] <;> iassumption
  · have e : ∃ R1 R2 R3 : sProp 𝕄, ∀ B : Dev nD → sProp 𝕄, SndP c k B b s 0 (dv n h) = iprop(R1 ∗ R2 ∗ R3 ∗ B (dv n h)) := by
      refine ⟨if b = 1 ∧ s ≤ n then slotAny (dv n h) k c else iprop(emp),
        if s ≤ n then iprop(dutyTok ER (sCell c k (dv n h)) 0 (0 : Fin 16) ∗ dutyTok ER (rCell (dv n h) k c) 0 (0 : Fin 16)) else iprop(emp),
        if n < 0 then atPos ER (sCell c k (dv n h)) 1 ∅ 0
          else iprop(atPos ER (sCell c k (dv n h)) 0 ∅ 0 ∗ if n < s then cred (tallyAt (sCell c k (dv n h)) () (NK k)) else iprop(emp)), fun B => ?_⟩
      unfold SndP
      rw [if_neg hc, if_neg (c := 0 ≤ (dv n h).val ∧ (dv n h).val < s) (by rintro ⟨_, h'⟩; exact absurd h' (by show ¬ n < s; omega))]
    obtain ⟨R1, R2, R3, e⟩ := e
    rw [e A, e A']; unfold Snd
    iintro ⟨⟨H1, H2, H3, HA⟩, Hk⟩
    isplitl [HA]; · iexact HA
    iintro HA
    iapply Hk
    isplitl [H1]; · iexact H1
    isplitl [H2]; · iexact H2
    isplitl [H3] <;> iassumption

/-- All sources given or taken at once, before anything is sent. -/
theorem snd_all (k : Fin 3) (A' : Dev nD → sProp 𝕄) {b : ℕ} : iprop(bigSep Finset.univ A' ∗ Snd (F := F) c k (fun _ => iprop(emp)) b 0 0) ⊢ Snd c k A' b 0 0 := by
  unfold Snd; rw [← bigSep_sep']
  refine bigSep_mono fun p _ => ?_
  unfold SndP
  by_cases hc : p = c
  · rw [if_pos hc, if_pos hc]
    show (_ : sProp 𝕄) ⊢ _
    iintro ⟨HA, -, Ha⟩
    isplitl [HA] <;> iassumption
  · rw [if_neg hc, if_neg hc]
    rw [if_neg (c := 0 ≤ p.val ∧ p.val < 0) (by rintro ⟨_, h'⟩; exact absurd h' (Nat.not_lt_zero _)),
      if_neg (c := 0 ≤ p.val ∧ p.val < 0) (by rintro ⟨_, h'⟩; exact absurd h' (Nat.not_lt_zero _))]
    show (_ : sProp 𝕄) ⊢ _
    iintro ⟨HA, H1, H2, H3, -⟩
    isplitl [H1]; · iexact H1
    isplitl [H2]; · iexact H2
    isplitl [H3] <;> iassumption

/-- The peers' slots arrive with the barrier. -/
theorem snd_bar (k : Fin 3) (A : Dev nD → sProp 𝕄)  : iprop(bigSep (Finset.univ.erase c) (fun p => slotAny (F := F) p k c) ∗ Snd c k A 0 0 0) ⊢ Snd c k A 1 0 0 := by
  unfold Snd
  rw [bigSep_at (Φ := SndP c k A 0 0 0) c, bigSep_at (Φ := SndP c k A 1 0 0) c]
  have h : iprop(bigSep (Finset.univ.erase c) (fun p => slotAny (F := F) p k c) ∗ bigSep (Finset.univ.erase c) (SndP c k A 0 0 0))
      ⊢ bigSep (Finset.univ.erase c) (SndP c k A 1 0 0) := by
    rw [← bigSep_sep']
    refine bigSep_mono fun p hp => ?_
    have hc := Finset.ne_of_mem_erase hp
    unfold SndP
    rw [if_neg hc, if_neg hc, if_neg (c := (0 : ℕ) = 1 ∧ 0 ≤ p.val) (by rintro ⟨h', _⟩; exact absurd h' (by decide)),
      if_pos (c := (1 : ℕ) = 1 ∧ 0 ≤ p.val) ⟨rfl, Nat.zero_le _⟩]
    show (_ : sProp 𝕄) ⊢ _
    iintro ⟨Hs, -, H2, H3, H4⟩
    isplitl [Hs]; · iexact Hs
    isplitl [H2]; · iexact H2
    isplitl [H3] <;> iassumption
  iintro ⟨Hs, Hc, Hr⟩
  isplitl [Hc]
  · iapply (Entails.of_eq (show SndP (F := F) c k A 0 0 0 c = SndP c k A 1 0 0 c by unfold SndP; rw [if_pos rfl, if_pos rfl])); iexact Hc
  iapply h
  isplitl [Hs] <;> iassumption
end Snd

/-! ## Arrivals from peers -/

/-- From peer `p`: the receive cell's credit until the wait (`r` waits done), then what arrived. -/
def RcvP (k : Fin 3) (r : ℕ) (p : Dev nD) : sProp 𝕄 :=
  if p = c then atPos ER (rCell c k p) 0 ∅ 0
  else if p.val < r then iprop(atPos ER (rCell c k p) 1 ∅ 0 ∗ peerPay m c (kR k) p)
  else iprop(atPos ER (rCell c k p) 0 ∅ 0 ∗ cred (tallyAt (rCell c k p) () (NK k)))
def Rcv (k : Fin 3) (r : ℕ) : sProp 𝕄 := bigSep Finset.univ (RcvP m c k r)

theorem rcv_congr (k : Fin 3) {r r' : ℕ} {p : Dev nD} (h : p = c ∨ (p.val < r ↔ p.val < r')) : RcvP m c k r p = RcvP m c k r' p := by
  unfold RcvP
  rcases h with h | h
  · rw [if_pos h, if_pos h]
  · simp only [h]
theorem rcv_skip (k : Fin 3) {n : ℕ} (h : c.val = n) : Rcv m c k n = Rcv m c k (n + 1) :=
  bigSep_congr fun p _ => rcv_congr m c k (by
    by_cases hp : p = c
    · exact .inl hp
    · have : p.val ≠ n := fun e => hp (Fin.ext (e.trans h.symm))
      exact .inr (by omega))
theorem rcv_step (k : Fin 3) {n : ℕ} (h : n < 16) (hc : c.val ≠ n) :
    Rcv m c k n ⊢ iprop((atPos ER (rCell c k (dv n h)) 0 ∅ 0 ∗ cred (tallyAt (rCell c k (dv n h)) () (NK k)))
      ∗ ((atPos ER (rCell c k (dv n h)) 1 ∅ 0 ∗ peerPay m c (kR k) (dv n h)) -∗ Rcv m c k (n + 1))) := by
  refine (bigSep_upd (dv n h) (Ψ := RcvP m c k (n + 1)) fun p hp => rcv_congr m c k (.inr (by have := dv_ne h hp; omega))).trans ?_
  rw [show RcvP m c k n (dv n h) = iprop(atPos ER (rCell c k (dv n h)) 0 ∅ 0 ∗ cred (tallyAt (rCell c k (dv n h)) () (NK k))) from by
      unfold RcvP; rw [if_neg (ne_dv h hc), if_neg (Nat.lt_irrefl n)],
    show RcvP m c k (n + 1) (dv n h) = iprop(atPos ER (rCell c k (dv n h)) 1 ∅ 0 ∗ peerPay m c (kR k) (dv n h)) from by
      unfold RcvP; rw [if_neg (ne_dv h hc), if_pos (Nat.lt_succ_self n)]]
  exact Entails.of_eq rfl
/-- What has arrived from peer `n` can be looked at. -/
theorem rcv_look (k : Fin 3) {n : ℕ} (h : n < 16) (hc : c.val ≠ n) :
    Rcv m c k (n + 1) ⊢ iprop(peerPay m c (kR k) (dv n h) ∗ (peerPay m c (kR k) (dv n h) -∗ Rcv m c k (n + 1))) := by
  refine (bigSep_upd (dv n h) (Ψ := RcvP m c k (n + 1)) fun p _ => rfl).trans ?_
  rw [show RcvP m c k (n + 1) (dv n h) = iprop(atPos ER (rCell c k (dv n h)) 1 ∅ 0 ∗ peerPay m c (kR k) (dv n h)) from by
      unfold RcvP; rw [if_neg (ne_dv h hc), if_pos (Nat.lt_succ_self n)]]
  unfold Rcv
  iintro ⟨⟨Ha, Hp⟩, Hk⟩
  isplitl [Hp]; · iexact Hp
  iintro Hp
  iapply Hk
  isplitl [Ha] <;> iassumption

/-! ## The double buffer of `w` -/

/-- Slot `s`, of which `fs` chunks were started and `ws` have landed. -/
def WsP (nf nw : ℕ) (s : Fin 2) : sProp 𝕄 :=
  iprop(atPos ER (dCell c (.w s)) ((nw + 1 - s.val) / 2) ∅ 0 ∗ reached ER (dCell c (.w s)) ((nw + 1 - s.val) / 2)
    ∗ (if (nf + 1 - s.val) / 2 = (nw + 1 - s.val) / 2 then
        iprop(∃ f, ⌜0 < (nw + 1 - s.val) / 2 → f = wbufAt m c (2 * ((nw + 1 - s.val) / 2 - 1) + s.val)⌝ ∗ wsPts c s f)
      else cred (tallyAt (dCell c (.w s)) () NW)))
/-- Chunk `j`'s token until it is started, its columns while no copy reads them. -/
def WcP (nf nw : ℕ) (j : Fin 8) : sProp 𝕄 :=
  iprop((if nf ≤ j.val then dutyTok ER (dCell c (.w ⟨j.val % 2, Nat.mod_lt _ (by decide)⟩)) (j.val / 2) (0 : Fin 16) else emp)
    ∗ (if nw ≤ j.val ∧ j.val < nf then emp else wcPts m c j))
def WW (nf nw : ℕ) : sProp 𝕄 :=
  iprop(bigSep Finset.univ (WsP m c nf nw) ∗ bigSep Finset.univ (WcP m c nf nw))

/-- Starting chunk `nf = 2 r + s`. -/
theorem w_start {nf nw r : ℕ} (s : Fin 2) (hj : nf = 2 * r + s.val) (h8 : nf < 8) (hw : (nw + 1 - s.val) / 2 = r)
    (ho : ∀ s' : Fin 2, s' ≠ s → (nf + 1 - s'.val) / 2 = (nf + 1 + 1 - s'.val) / 2) (hlt : nw ≤ nf) :
    WW m c nf nw ⊢ iprop(((∃ f, wsPts c s f) ∗ wcPts m c ⟨nf, h8⟩ ∗ dutyTok ER (dCell c (.w s)) r (0 : Fin 16) ∗ reached ER (dCell c (.w s)) r)
      ∗ (cred (tallyAt (dCell c (.w s)) () NW) -∗ WW m c (nf + 1) nw)) := by
  have h1 := bigSep_upd s (Φ := WsP m c nf nw) (Ψ := WsP m c (nf + 1) nw) fun s' hs' => by
    unfold WsP; rw [ho s' hs']
  have h2 := bigSep_upd (⟨nf, h8⟩ : Fin 8) (Φ := WcP m c nf nw) (Ψ := WcP m c (nf + 1) nw) fun j hj' => by
    have hne : j.val ≠ nf := fun e => hj' (Fin.ext e)
    have e1 : nf ≤ j.val ↔ nf + 1 ≤ j.val := by omega
    have e2 : j.val < nf ↔ j.val < nf + 1 := by omega
    unfold WcP; simp only [e1, e2]
  unfold WW
  refine (BIClass.sep_mono h1 h2).trans ?_
  have e3 : (nf + 1 - s.val) / 2 = (nw + 1 - s.val) / 2 := by have := s.isLt; omega
  have e4 : (nf + 1 + 1 - s.val) / 2 ≠ (nw + 1 - s.val) / 2 := by have := s.isLt; omega
  have e5 : (⟨nf % 2, Nat.mod_lt _ (by decide)⟩ : Fin 2) = s := Fin.ext (by have := s.isLt; show nf % 2 = s.val; omega)
  have e6 : nf / 2 = r := by have := s.isLt; omega
  have a1 : WsP m c nf nw s = iprop(atPos ER (dCell c (.w s)) r ∅ 0 ∗ reached ER (dCell c (.w s)) r
      ∗ (∃ f, ⌜0 < (nw + 1 - s.val) / 2 → f = wbufAt m c (2 * ((nw + 1 - s.val) / 2 - 1) + s.val)⌝ ∗ wsPts c s f)) := by
    unfold WsP; rw [if_pos e3, hw]
  have a2 : WsP m c (nf + 1) nw s = iprop(atPos ER (dCell c (.w s)) r ∅ 0 ∗ reached ER (dCell c (.w s)) r
      ∗ cred (tallyAt (dCell c (.w s)) () NW)) := by
    unfold WsP; rw [if_neg e4, hw]
  have b1 : WcP m c nf nw ⟨nf, h8⟩ = iprop(dutyTok ER (dCell c (.w s)) r (0 : Fin 16) ∗ wcPts m c ⟨nf, h8⟩) := by
    unfold WcP; simp only [e5, e6]
    rw [if_pos (Nat.le_refl nf), if_neg (show ¬ (nw ≤ nf ∧ nf < nf) from fun h => Nat.lt_irrefl _ h.2)]
  have b2 : WcP m c (nf + 1) nw ⟨nf, h8⟩ = iprop(emp ∗ emp) := by
    unfold WcP
    rw [if_neg (show ¬ nf + 1 ≤ nf by omega), if_pos (show nw ≤ nf ∧ nf < nf + 1 from ⟨hlt, Nat.lt_succ_self _⟩)]
  rw [a1, a2, b1, b2]
  iintro ⟨⟨⟨Ha, #Hr, ⟨%f, -, Hs⟩⟩, Hk1⟩, ⟨⟨Ht, Hc⟩, Hk2⟩⟩
  isplitl [Hs Hc Ht]
  · isplitl [Hs]; · iexists f; iexact Hs
    isplitl [Hc]; · iexact Hc
    isplitl [Ht]; · iexact Ht
    iexact Hr
  iintro Hcr
  isplitl [Ha Hk1 Hcr]
  · iapply Hk1
    isplitl [Ha]; · iexact Ha
    isplitr; · iexact Hr
    iexact Hcr
  iapply Hk2
  isplitr <;> iempintro

/-- The wait for chunk `nw = 2 r + s`. -/
theorem w_wait {nf nw r : ℕ} (s : Fin 2) (hj : nw = 2 * r + s.val) (h8 : nw < 8) (hf : (nf + 1 - s.val) / 2 = r + 1) (hlt : nw < nf)
    (ho : ∀ s' : Fin 2, s' ≠ s → (nw + 1 - s'.val) / 2 = (nw + 1 + 1 - s'.val) / 2) :
    WW m c nf nw ⊢ iprop((atPos ER (dCell c (.w s)) r ∅ 0 ∗ cred (tallyAt (dCell c (.w s)) () NW))
      ∗ ((atPos ER (dCell c (.w s)) (r + 1) ∅ 0 ∗ reached ER (dCell c (.w s)) (r + 1) ∗ payOf m c (.w s) r) -∗ WW m c nf (nw + 1))) := by
  have h1 := bigSep_upd s (Φ := WsP m c nf nw) (Ψ := WsP m c nf (nw + 1)) fun s' hs' => by
    unfold WsP; rw [ho s' hs']
  have h2 := bigSep_upd (⟨nw, h8⟩ : Fin 8) (Φ := WcP m c nf nw) (Ψ := WcP m c nf (nw + 1)) fun j hj' => by
    have hne : j.val ≠ nw := fun e => hj' (Fin.ext e)
    have e1 : nw ≤ j.val ↔ nw + 1 ≤ j.val := by omega
    unfold WcP; simp only [e1]
  unfold WW
  refine (BIClass.sep_mono h1 h2).trans ?_
  have e3 : (nw + 1 - s.val) / 2 = r := by have := s.isLt; omega
  have e4 : (nw + 1 + 1 - s.val) / 2 = r + 1 := by have := s.isLt; omega
  have e5 : (⟨(2 * r + s.val) % 8, Nat.mod_lt _ (by decide)⟩ : Fin 8) = ⟨nw, h8⟩ := Fin.ext (by show (2 * r + s.val) % 8 = nw; omega)
  have e6 : 2 * (r + 1 - 1) + s.val = 2 * r + s.val := by omega
  have a1 : WsP m c nf nw s = iprop(atPos ER (dCell c (.w s)) r ∅ 0 ∗ reached ER (dCell c (.w s)) r ∗ cred (tallyAt (dCell c (.w s)) () NW)) := by
    unfold WsP; rw [e3, hf, if_neg (show ¬ r + 1 = r by omega)]
  have a2 : WsP m c nf (nw + 1) s = iprop(atPos ER (dCell c (.w s)) (r + 1) ∅ 0 ∗ reached ER (dCell c (.w s)) (r + 1)
      ∗ (∃ f, ⌜0 < r + 1 → f = wbufAt m c (2 * r + s.val)⌝ ∗ wsPts c s f)) := by
    unfold WsP; rw [e4, hf, e6, if_pos rfl]
  have b1 : WcP m c nf nw ⟨nw, h8⟩ = iprop(emp ∗ emp) := by
    unfold WcP; rw [if_neg (show ¬ nf ≤ nw by omega), if_pos (show nw ≤ nw ∧ nw < nf from ⟨Nat.le_refl _, hlt⟩)]
  have b2 : WcP m c nf (nw + 1) ⟨nw, h8⟩ = iprop(emp ∗ wcPts m c ⟨nw, h8⟩) := by
    unfold WcP; rw [if_neg (show ¬ nf ≤ nw by omega), if_neg (show ¬ (nw + 1 ≤ nw ∧ nw < nf) by omega)]
  have p1 : payOf m c (.w s) r = iprop(wsPts c s (wbufAt m c (2 * r + s.val)) ∗ wcPts m c ⟨nw, h8⟩) := by
    show iprop(_ ∗ wcPts m c ⟨(2 * r + s.val) % 8, _⟩) = _
    rw [e5]
  rw [a1, a2, b1, b2, p1]
  iintro ⟨⟨⟨Ha, #Hr, Hcr⟩, Hk1⟩, ⟨-, Hk2⟩⟩
  isplitl [Ha Hcr]
  · isplitl [Ha] <;> iassumption
  iintro ⟨Ha, #Hr', Hw, Hc⟩
  isplitl [Ha Hw Hk1]
  · iapply Hk1
    isplitl [Ha]; · iexact Ha
    isplitr; · iexact Hr'
    iexists _
    isplitr
    · ipureintro; intro _; rfl
    · iexact Hw
  iapply Hk2
  isplitr; · iempintro
  iexact Hc

/-- Chunk `2 r + s`, the last landed in slot `s`, can be looked at. -/
theorem w_look {nf nw r : ℕ} (s : Fin 2) (hw : (nw + 1 - s.val) / 2 = r + 1) (hf : (nf + 1 - s.val) / 2 = r + 1) :
    WW m c nf nw ⊢ iprop(wsPts c s (wbufAt m c (2 * r + s.val)) ∗ (wsPts c s (wbufAt m c (2 * r + s.val)) -∗ WW m c nf nw)) := by
  have h1 := bigSep_upd s (Φ := WsP m c nf nw) (Ψ := WsP m c nf nw) fun s' hs' => rfl
  unfold WW
  refine (BIClass.sep_mono h1 (Entails.of_eq rfl)).trans ?_
  have a1 : WsP m c nf nw s = iprop(atPos ER (dCell c (.w s)) (r + 1) ∅ 0 ∗ reached ER (dCell c (.w s)) (r + 1)
      ∗ (∃ f, ⌜0 < r + 1 → f = wbufAt m c (2 * r + s.val)⌝ ∗ wsPts c s f)) := by
    unfold WsP; rw [hw, hf, if_pos rfl, show 2 * (r + 1 - 1) + s.val = 2 * r + s.val by omega]
  rw [a1]
  iintro ⟨⟨⟨Ha, #Hr, ⟨%f, %hf', Hs⟩⟩, Hk⟩, Hc⟩
  have := hf' (Nat.succ_pos r); subst this
  isplitl [Hs]; · iexact Hs
  iintro Hs
  isplitl [Ha Hs Hk]
  · iapply Hk
    isplitl [Ha]; · iexact Ha
    isplitr; · iexact Hr
    iexists _
    isplitr
    · ipureintro; intro _; rfl
    · iexact Hs
  iexact Hc

end Cert.KernelIdealProof

end
-- ==== Proof.Views.lean ====
/-
Where the kernel's slices lie in their buffers, and what their copies, loads and stores leave there.
-/
module

public import proofs.«01_k».proof.Proof.Families
public import Idealize.ShloMosaic.Lib.ValueLayout
public import Idealize.ShloMosaic.Lib.Ring

@[expose] public section

set_option maxRecDepth 65536

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (c : Dev nD)

attribute [local irreducible] bmax stripeMax yblock quant16 ychunk outBlock

/-! ## The slices -/

/-- A slot of a receive buffer, without its unit axis. -/
abbrev qM (o : Fin 3 → ℕ) (h : ∀ a, o a + S1x256x128.size a ≤ S16x256x128.size a) : Memref sig .tc .vmem S256x128 .i16 :=
  ((Memref.whole cc0_scratch4 : Memref sig .tc .vmem S16x256x128 .i16).slice (Rect.unit (s := S16x256x128) o S1x256x128.size h) (fun _ => rfl)).squeeze S256x128 squeezes_S1x256x128_S256x128
abbrev srM (o : Fin 3 → ℕ) (h : ∀ a, o a + S1x8x128.size a ≤ S16x8x128.size a) : Memref sig .tc .vmem S8x128 .f32 :=
  ((Memref.whole cc0_scratch6 : Memref sig .tc .vmem S16x8x128 .f32).slice (Rect.unit (s := S16x8x128) o S1x8x128.size h) (fun _ => rfl)).squeeze S8x128 squeezes_S1x8x128_S8x128
abbrev arM (o : Fin 3 → ℕ) (h : ∀ a, o a + S1x8x128.size a ≤ S16x8x128.size a) : Memref sig .tc .vmem S8x128 .f32 :=
  ((Memref.whole cc0_scratch8 : Memref sig .tc .vmem S16x8x128 .f32).slice (Rect.unit (s := S16x8x128) o S1x8x128.size h) (fun _ => rfl)).squeeze S8x128 squeezes_S1x8x128_S8x128
abbrev ssM (o : Fin 3 → ℕ) (h : ∀ a, o a + S1x8x128.size a ≤ S16x8x128.size a) : Memref sig .tc .vmem S8x128 .f32 :=
  ((Memref.whole cc0_scratch5 : Memref sig .tc .vmem S16x8x128 .f32).slice (Rect.unit (s := S16x8x128) o S1x8x128.size h) (fun _ => rfl)).squeeze S8x128 squeezes_S1x8x128_S8x128
abbrev dM (o : Fin 2 → ℕ) (h : ∀ a, o a + S256x128.size a ≤ S256x2048.size a) : Memref sig .tc .vmem S256x128 .i16 :=
  (Memref.whole cc0_scratch3 : Memref sig .tc .vmem S256x2048 .i16).slice (Rect.unit (s := S256x2048) o S256x128.size h) (fun _ => rfl)
abbrev asM : Memref sig .tc .vmem S8x128 .f32 := Memref.whole cc0_scratch7
abbrev wM (o : Fin 3 → ℕ) (h : ∀ a, o a + S1x4096x256.size a ≤ S2x4096x256.size a) : Memref sig .tc .vmem S4096x256 .f32 :=
  ((Memref.whole cc0_scratch1 : Memref sig .tc .vmem S2x4096x256 .f32).slice (Rect.unit (s := S2x4096x256) o S1x4096x256.size h) (fun _ => rfl)).squeeze S4096x256 squeezes_S1x4096x256_S4096x256
abbrev wcM (o : Fin 2 → ℕ) (h : ∀ a, o a + S4096x256.size a ≤ S4096x2048.size a) : Memref sig .tc .hbm S4096x256 .f32 :=
  (Memref.whole main_arg1 : Memref sig .tc .hbm S4096x2048 .f32).slice (Rect.unit (s := S4096x2048) o S4096x256.size h) (fun _ => rfl)

section Set
omit [FloatOps F]
theorem q_pts (d : Dev nD) (p : Fin 16) (h) (f : IVec S16x256x128 16) :
    (((qM ![p.val, 0, 0] h).view.loc (d : Thread nD τ)) ↦[(qM ![p.val, 0, 0] h).view.set]{fullShare} f : sProp 𝕄) = qPts d p f := by
  unfold qPts
  rw [show (qM ![p.val, 0, 0] h).view.set = (qR p).set from (View.set_reshape _ _).trans (View.set_slice_whole cc0_scratch4 (qR p))]
theorem sr_pts (d : Dev nD) (p : Fin 16) (h) (f : Vec F S16x8x128 .f32) :
    (((srM ![p.val, 0, 0] h).view.loc (d : Thread nD τ)) ↦[(srM ![p.val, 0, 0] h).view.set]{fullShare} f : sProp 𝕄) = srPts d p f := by
  unfold srPts
  rw [show (srM ![p.val, 0, 0] h).view.set = (sR p).set from (View.set_reshape _ _).trans (View.set_slice_whole cc0_scratch6 (sR p))]
theorem ar_pts (d : Dev nD) (p : Fin 16) (h) (f : Vec F S16x8x128 .f32) :
    (((arM ![p.val, 0, 0] h).view.loc (d : Thread nD τ)) ↦[(arM ![p.val, 0, 0] h).view.set]{fullShare} f : sProp 𝕄) = arPts d p f := by
  unfold arPts
  rw [show (arM ![p.val, 0, 0] h).view.set = (sR p).set from (View.set_reshape _ _).trans (View.set_slice_whole cc0_scratch8 (sR p))]
theorem ss_pts (d : Dev nD) (p : Fin 16) (h) (f : Vec F S16x8x128 .f32) :
    (((ssM ![p.val, 0, 0] h).view.loc (d : Thread nD τ)) ↦[(ssM ![p.val, 0, 0] h).view.set]{fullShare} f : sProp 𝕄) = ssPts d p f := by
  unfold ssPts
  rw [show (ssM ![p.val, 0, 0] h).view.set = (sR p).set from (View.set_reshape _ _).trans (View.set_slice_whole cc0_scratch5 (sR p))]
theorem d_pts (d : Dev nD) (p : Fin 16) (h) (f : IVec S256x2048 16) :
    (((dM ![0, 128 * p.val] h).view.loc (d : Thread nD τ)) ↦[(dM ![0, 128 * p.val] h).view.set]{fullShare} f : sProp 𝕄) = dPts d p f := by
  unfold dPts
  rw [show (dM ![0, 128 * p.val] h).view.set = (dR p).set from View.set_slice_whole cc0_scratch3 (dR p)]
theorem as_pts (d : Dev nD) (p : Fin 16) (f : Vec F S8x128 .f32) :
    ((asM.view.loc (d : Thread nD τ)) ↦[asM.view.set]{ash p} f : sProp 𝕄) = asPts d p f := by
  unfold asPts
  rw [show asM.view.set = Finset.univ from View.set_whole cc0_scratch7]
theorem ws_pts (d : Dev nD) (s : Fin 2) (h) (f : Vec F S2x4096x256 .f32) :
    (((wM ![s.val, 0, 0] h).view.loc (d : Thread nD τ)) ↦[(wM ![s.val, 0, 0] h).view.set]{fullShare} f : sProp 𝕄) = wsPts d s f := by
  unfold wsPts
  rw [show (wM ![s.val, 0, 0] h).view.set = (wR s).set from (View.set_reshape _ _).trans (View.set_slice_whole cc0_scratch1 (wR s))]
theorem wc_pts (d : Dev nD) (j : Fin 8) (h) :
    (((wcM ![0, 256 * j.val] h).view.loc (d : Thread nD τ)) ↦[(wcM ![0, 256 * j.val] h).view.set]{fullShare} W m d : sProp 𝕄) = wcPts m d j := by
  unfold wcPts
  rw [show (wcM ![0, 256 * j.val] h).view.set = (cR j).set from View.set_slice_whole main_arg1 (cR j)]

/-- Elements written through a view hold what is claimed of them where each written value is. -/
theorem land {sp : Space} {s : Shape} {e : EltTy} (v : View sig .tc sp s e) (d : Dev nD) {q : PosShare TreeShare}
    (f g : Buf (Elt F) (v.loc (d : Thread nD τ))) (w : s.Idx → Elt F e)
    (hw : ∀ x, HEq (w x) (g (v.emb x))) :
    ((v.loc (d : Thread nD τ)) ↦[v.set]{q} v.write (Elt F) f w Finset.univ : sProp 𝕄) = ((v.loc (d : Thread nD τ)) ↦[v.set]{q} g) :=
  pointsTo_congr fun i hi => by
    obtain ⟨x, -, rfl⟩ := Finset.mem_map.mp hi
    exact (View.write_emb_of_mem f w (Finset.mem_univ x)).trans (eq_of_heq ((cast_heq _ _).trans (hw x)))
/-- What a view reads is what its buffer holds there. -/
theorem read_heq {sp : Space} {s : Shape} {e : EltTy} (v : View sig .tc sp s e) (f : v.ty.Contents (Elt F)) (x : s.Idx) :
    HEq (v.read (Elt F) f x) (f (v.emb x)) := cast_heq _ _
end Set

/-! ## Coordinates -/

/-- Where an index of a unit-stride rectangle lies. -/
theorem unit_val {sh : Shape} (o sz : Fin sh.rank → ℕ) (h) (j : (Rect.unit (s := sh) o sz h).shape.Idx) (a : Fin sh.rank) :
    (((Rect.unit (s := sh) o sz h).emb j a : Fin _) : ℕ) = o a + (j a : ℕ) := by
  rw [Rect.emb_apply]; show o a + 1 * (j a : ℕ) = _; omega

section Emb
omit [FloatOps F]
variable (o : Fin 3 → ℕ)
theorem q_emb (h) (x : S256x128.Idx) : ∀ a, (((qM o h).view.emb x) a).val = o a + (![0, (x 0).val, (x 1).val] : Fin 3 → ℕ) a := by
  intro a
  obtain ⟨x0, x1, rfl⟩ : ∃ a b, x = ix2 a b := ⟨x 0, x 1, eq_ix2 x⟩
  have e : (qM o h).view.emb (ix2 x0 x1) = (Rect.unit (s := S16x256x128) o S1x256x128.size h).emb (ix3 (⟨0, Nat.one_pos⟩ : Fin 1) x0 x1) :=
    congrArg (Rect.unit (s := S16x256x128) o S1x256x128.size h).emb (reshapeEquiv_ix2_1ab _ x0 x1)
  rw [e, unit_val]
  match a with | ⟨0, _⟩ => rfl | ⟨1, _⟩ => rfl | ⟨2, _⟩ => rfl
theorem sr_emb (h) (x : S8x128.Idx) : ((srM o h).view.emb x 0).val = o 0 := by
  obtain ⟨x0, x1, rfl⟩ : ∃ a b, x = ix2 a b := ⟨x 0, x 1, eq_ix2 x⟩
  have e : (srM o h).view.emb (ix2 x0 x1) = (Rect.unit (s := S16x8x128) o S1x8x128.size h).emb (ix3 (⟨0, Nat.one_pos⟩ : Fin 1) x0 x1) :=
    congrArg (Rect.unit (s := S16x8x128) o S1x8x128.size h).emb (reshapeEquiv_ix2_1ab _ x0 x1)
  rw [e, unit_val]; rfl
theorem ar_emb (h) (x : S8x128.Idx) : ((arM o h).view.emb x 0).val = o 0 := sr_emb o h x
theorem ss_emb (h) (x : S8x128.Idx) : ((ssM o h).view.emb x 0).val = o 0 := sr_emb o h x
theorem w_emb (h) (x : S4096x256.Idx) : ∀ a, (((wM o h).view.emb x) a).val = o a + (![0, (x 0).val, (x 1).val] : Fin 3 → ℕ) a := by
  intro a
  obtain ⟨x0, x1, rfl⟩ : ∃ a b, x = ix2 a b := ⟨x 0, x 1, eq_ix2 x⟩
  have e : (wM o h).view.emb (ix2 x0 x1) = (Rect.unit (s := S2x4096x256) o S1x4096x256.size h).emb (ix3 (⟨0, Nat.one_pos⟩ : Fin 1) x0 x1) :=
    congrArg (Rect.unit (s := S2x4096x256) o S1x4096x256.size h).emb (reshapeEquiv_ix2_1ab _ x0 x1)
  rw [e, unit_val]
  match a with | ⟨0, _⟩ => rfl | ⟨1, _⟩ => rfl | ⟨2, _⟩ => rfl

theorem i2_eq {n k : ℕ} (hn : 0 < n) (hk : 0 < k) {a b : ℕ} (i : (⟨2, ![n, k]⟩ : Shape).Idx) (ha : a % n = (i 0).val) (hb : b % k = (i 1).val) :
    i2 hn hk a b = i := by
  funext t
  match t with | ⟨0, _⟩ => exact Fin.ext ha | ⟨1, _⟩ => exact Fin.ext hb
end Emb

/-! ## What lands -/

/-- The rows of `x`. -/
theorem x_land (d : Dev nD) (f : Vec F S256x4096 .f32) :
    (((Memref.whole cc0_scratch0 : Memref sig .tc .vmem S256x4096 .f32).view.loc (d : Thread nD τ))
      ↦[(Memref.whole cc0_scratch0 : Memref sig .tc .vmem S256x4096 .f32).view.set]{fullShare}
      (Memref.whole cc0_scratch0 : Memref sig .tc .vmem S256x4096 .f32).view.write (Elt F) f
        ((Memref.whole main_arg0 : Memref sig .tc .hbm S256x4096 .f32).view.read (Elt F) (X m d)) Finset.univ : sProp 𝕄)
      = xPts d (X m d) := by
  refine (land ((Memref.whole cc0_scratch0 : Memref sig .tc .vmem S256x4096 .f32).view) d f (X m d) _ fun x => read_heq _ _ _).trans ?_
  unfold xPts
  rw [show (Memref.whole cc0_scratch0 : Memref sig .tc .vmem S256x4096 .f32).view.set = Finset.univ from View.set_whole cc0_scratch0]

/-- A chunk of `w`. -/
theorem w_land (d : Dev nD) (s : Fin 2) (j : Fin 8) (h h') (f : Vec F S2x4096x256 .f32) :
    (((wM ![s.val, 0, 0] h).view.loc (d : Thread nD τ)) ↦[(wM ![s.val, 0, 0] h).view.set]{fullShare}
      (wM ![s.val, 0, 0] h).view.write (Elt F) f ((wcM ![0, 256 * j.val] h').view.read (Elt F) (W m d)) Finset.univ : sProp 𝕄)
      = wsPts d s (wbufAt m d j.val) := by
  refine (land ((wM ![s.val, 0, 0] h).view) d f (wbufAt m d j.val) _ fun x => ?_).trans (ws_pts ..)
  refine (read_heq (wcM ![0, 256 * j.val] h').view (W m d) x).trans (heq_of_eq ?_)
  show W m d ((wcM ![0, 256 * j.val] h').view.emb x) = W m d (i2 _ _ _ _)
  refine congrArg (W m d) (i2_eq _ _ _ ?_ ?_).symm
  · rw [w_emb]
    rw [show (((wcM ![0, 256 * j.val] h').view.emb x) 0).val = 0 + (x 0).val from unit_val _ _ _ _ _]
    have : (x 0).val < 4096 := (x 0).isLt
    show (0 + (x 0).val) % 4096 = _; omega
  · rw [w_emb]
    rw [show (((wcM ![0, 256 * j.val] h').view.emb x) 1).val = 256 * j.val + (x 1).val from unit_val _ _ _ _ _]
    have : (x 1).val < 256 := (x 1).isLt
    have := j.isLt
    show (256 * j.val + (0 + (x 1).val)) % 2048 = _; omega

/-- A 16-bit block, at the peer. -/
theorem q_land (p : Dev nD) (h h') (f : IVec S16x256x128 16) :
    (((qM ![c.val, 0, 0] h).view.loc (p : Thread nD τ)) ↦[(qM ![c.val, 0, 0] h).view.set]{fullShare}
      (qM ![c.val, 0, 0] h).view.write (Elt F) f ((dM ![0, 128 * p.val] h').view.read (Elt F) (d16At m c)) Finset.univ : sProp 𝕄)
      = qPts p c (qrecvAt m p) := by
  refine (land ((qM ![c.val, 0, 0] h).view) p f (qrecvAt m p) _ fun x => ?_).trans (q_pts ..)
  refine (read_heq (dM ![0, 128 * p.val] h').view (d16At m c) x).trans (heq_of_eq ?_)
  show d16At m c ((dM ![0, 128 * p.val] h').view.emb x) = qrecvAt m p ((qM ![c.val, 0, 0] h).view.emb x)
  unfold d16At qrecvAt
  rw [q_emb, q_emb, q_emb]
  rw [show (((dM ![0, 128 * p.val] h').view.emb x) 0).val = 0 + (x 0).val from unit_val _ _ _ _ _,
    show (((dM ![0, 128 * p.val] h').view.emb x) 1).val = 128 * p.val + (x 1).val from unit_val _ _ _ _ _]
  have h0 : (x 0).val < 256 := (x 0).isLt
  have h1 : (x 1).val < 128 := (x 1).isLt
  have hc : c.val < 16 := c.isLt
  have e1 : (128 * p.val + (x 1).val) / 128 = p.val := by omega
  have e2 : (128 * p.val + (x 1).val) % 128 = (x 1).val := by omega
  have e3 : devOf (c.val + 0) = c := Fin.ext (by show (c.val + 0) % 16 = c.val; omega)
  rw [e1, e2]
  show _ = quant16 (yblock m (devOf (c.val + 0)) p.val) (i2 _ _ (0 + (x 0).val) (0 + (x 1).val))
  rw [e3, Nat.zero_add, Nat.zero_add]

/-- A block maximum, at the peer. -/
theorem sr_land (p : Dev nD) (h h') (f : Vec F S16x8x128 .f32) :
    (((srM ![c.val, 0, 0] h).view.loc (p : Thread nD τ)) ↦[(srM ![c.val, 0, 0] h).view.set]{fullShare}
      (srM ![c.val, 0, 0] h).view.write (Elt F) f ((ssM ![p.val, 0, 0] h').view.read (Elt F) (sscaleAt m c)) Finset.univ : sProp 𝕄)
      = srPts p c (srecvAt m p) := by
  refine (land ((srM ![c.val, 0, 0] h).view) p f (srecvAt m p) _ fun x => ?_).trans (sr_pts ..)
  refine (read_heq (ssM ![p.val, 0, 0] h').view (sscaleAt m c) x).trans (heq_of_eq ?_)
  show sscaleAt m c ((ssM ![p.val, 0, 0] h').view.emb x) = srecvAt m p ((srM ![c.val, 0, 0] h).view.emb x)
  unfold sscaleAt srecvAt
  rw [sr_emb, ss_emb]
  have hc : c.val < 16 := c.isLt
  have e3 : devOf c.val = c := Fin.ext (by show c.val % 16 = c.val; omega)
  show bmax m c p.val = bmax m (devOf c.val) p.val
  rw [e3]

/-- The stripe maximum, at the peer. -/
theorem ar_land (p : Dev nD) (h) (f : Vec F S16x8x128 .f32) :
    (((arM ![c.val, 0, 0] h).view.loc (p : Thread nD τ)) ↦[(arM ![c.val, 0, 0] h).view.set]{fullShare}
      (arM ![c.val, 0, 0] h).view.write (Elt F) f (asM.view.read (Elt F) (asendAt m c)) Finset.univ : sProp 𝕄)
      = arPts p c (arecvAt m p) := by
  refine (land ((arM ![c.val, 0, 0] h).view) p f (arecvAt m p) _ fun x => ?_).trans (ar_pts ..)
  refine (read_heq asM.view (asendAt m c) x).trans (heq_of_eq ?_)
  show asendAt m c (asM.view.emb x) = arecvAt m p ((arM ![c.val, 0, 0] h).view.emb x)
  unfold asendAt
  unfold arecvAt
  rw [ar_emb]
  have hc : c.val < 16 := c.isLt
  have e3 : devOf c.val = c := Fin.ext (by show c.val % 16 = c.val; omega)
  show stripeMax m c = stripeMax m (devOf c.val)
  rw [e3]

/-! ## What loads read -/

theorem x_read (h) (f : Vec F S256x4096 .f32) :
    (Memref.whole cc0_scratch0 : Memref sig .tc .vmem S256x4096 .f32).view.readAt (Elt F) (Rect.unit (s := S256x4096) ![0, 0] S256x4096.size h).toLoadRect f = f :=
  Memref.readAt_unit_zero (Elt F) cc0_scratch0 (by funext a; fin_cases a <;> rfl) h f

theorem w_read (s : Fin 2) (j : ℕ) (h) :
    (Memref.whole cc0_scratch1 : Memref sig .tc .vmem S2x4096x256 .f32).view.readAt (Elt F) (Rect.unit (s := S2x4096x256) ![s.val, 0, 0] S1x4096x256.size h).toLoadRect (wbufAt m c j)
      = wchunk m c j := by
  funext i
  show W m c (i2 _ _ ((Rect.unit (s := S2x4096x256) ![s.val, 0, 0] S1x4096x256.size h).emb i 1).val
    (256 * j + ((Rect.unit (s := S2x4096x256) ![s.val, 0, 0] S1x4096x256.size h).emb i 2).val)) = W m c (i2 _ _ _ _)
  rw [unit_val, unit_val]
  show W m c (i2 _ _ (0 + (i 1).val) (256 * j + (0 + (i 2).val))) = _
  rw [Nat.zero_add, Nat.zero_add]

/-- A received block, as loaded. -/
def qload (p : Dev nD) : Vec F S1x256x128 .i16 := fun i =>
  quant16 (yblock m p c.val) (i2 (by decide) (by decide) (i 1).val (i 2).val)

theorem q_read (p : Dev nD) (h) :
    (Memref.whole cc0_scratch4 : Memref sig .tc .vmem S16x256x128 .i16).view.readAt (Elt F) (Rect.unit (s := S16x256x128) ![p.val, 0, 0] S1x256x128.size h).toLoadRect (qrecvAt m c)
      = qload m c p := by
  funext i
  refine eq_of_heq ((read_heq (Memref.whole cc0_scratch4 : Memref sig .tc .vmem S16x256x128 .i16).view (qrecvAt m c) _).trans (heq_of_eq ?_))
  show qrecvAt m c ((Rect.unit (s := S16x256x128) ![p.val, 0, 0] S1x256x128.size h).emb i) = qload m c p i
  unfold qrecvAt qload
  rw [unit_val, unit_val, unit_val]
  have hp : p.val < 16 := p.isLt
  have h0 : (i 0).val < 1 := (i 0).isLt
  have e3 : devOf (p.val + (i 0).val) = p := Fin.ext (by show (p.val + (i 0).val) % 16 = p.val; omega)
  show quant16 (yblock m (devOf (p.val + (i 0).val)) c.val) (i2 _ _ (0 + (i 1).val) (0 + (i 2).val)) = quant16 (yblock m p c.val) (i2 _ _ (i 1).val (i 2).val)
  rw [e3, Nat.zero_add, Nat.zero_add]

theorem sr_read (p : Dev nD) (h) :
    (Memref.whole cc0_scratch6 : Memref sig .tc .vmem S16x8x128 .f32).view.readAt (Elt F) (Rect.unit (s := S16x8x128) ![p.val, 0, 0] S1x1x1.size h).toLoadRect (srecvAt m c)
      = fun _ => bmax m p c.val := by
  funext i
  refine eq_of_heq ((read_heq (Memref.whole cc0_scratch6 : Memref sig .tc .vmem S16x8x128 .f32).view (srecvAt m c) _).trans (heq_of_eq ?_))
  show srecvAt m c ((Rect.unit (s := S16x8x128) ![p.val, 0, 0] S1x1x1.size h).emb i) = _
  unfold srecvAt
  rw [unit_val]
  have hp : p.val < 16 := p.isLt
  have h0 : (i 0).val < 1 := (i 0).isLt
  have e3 : devOf (p.val + (i 0).val) = p := Fin.ext (by show (p.val + (i 0).val) % 16 = p.val; omega)
  show bmax m (devOf (p.val + (i 0).val)) c.val = _
  rw [e3]

theorem ar_read (h) (f : Vec F S16x8x128 .f32) :
    (Memref.whole cc0_scratch8 : Memref sig .tc .vmem S16x8x128 .f32).view.readAt (Elt F) (Rect.unit (s := S16x8x128) ![0, 0, 0] S16x8x128.size h).toLoadRect f = f :=
  Memref.readAt_unit_zero (Elt F) cc0_scratch8 (by funext a; fin_cases a <;> rfl) h f

/-! ## What stores leave -/

/-- A 16-bit block, stored. -/
theorem d_store (p : Dev nD) (h) (f : IVec S256x2048 16) :
    (((dM ![0, 128 * p.val] h).view.loc (c : Thread nD τ)) ↦[(dM ![0, 128 * p.val] h).view.set]{fullShare}
      (dM ![0, 128 * p.val] h).view.write (Elt F) f (quant16 (yblock m c p.val)) Finset.univ : sProp 𝕄) = dPts c p (d16At m c) := by
  refine (land ((dM ![0, 128 * p.val] h).view) c f (d16At m c) _ fun x => ?_).trans (d_pts ..)
  refine heq_of_eq ?_
  show quant16 (yblock m c p.val) x = d16At m c ((dM ![0, 128 * p.val] h).view.emb x)
  unfold d16At
  rw [show (((dM ![0, 128 * p.val] h).view.emb x) 0).val = 0 + (x 0).val from unit_val _ _ _ _ _,
    show (((dM ![0, 128 * p.val] h).view.emb x) 1).val = 128 * p.val + (x 1).val from unit_val _ _ _ _ _]
  have h0 : (x 0).val < 256 := (x 0).isLt
  have h1 : (x 1).val < 128 := (x 1).isLt
  have e1 : (128 * p.val + (x 1).val) / 128 = p.val := by omega
  have e2 : (128 * p.val + (x 1).val) % 128 = (x 1).val := by omega
  rw [e1, e2, Nat.zero_add]
  exact congrArg _ (i2_eq _ _ x (Nat.mod_eq_of_lt h0) (Nat.mod_eq_of_lt h1)).symm

/-- The slots' views as a store goes through them. -/
abbrev ssA (o : Fin 3 → ℕ) (h : ∀ a, o a + S1x8x128.size a ≤ S16x8x128.size a) : View sig .tc .vmem S1x8x128 .f32 :=
  (Memref.whole cc0_scratch5 : Memref sig .tc .vmem S16x8x128 .f32).access (Rect.unit (s := S16x8x128) o S1x8x128.size h)
abbrev arA (o : Fin 3 → ℕ) (h : ∀ a, o a + S1x8x128.size a ≤ S16x8x128.size a) : View sig .tc .vmem S1x8x128 .f32 :=
  (Memref.whole cc0_scratch8 : Memref sig .tc .vmem S16x8x128 .f32).access (Rect.unit (s := S16x8x128) o S1x8x128.size h)

theorem ss_store (p : Dev nD) (h) (f : Vec F S16x8x128 .f32) (w : Vec F S1x8x128 .f32) (hw : w = fun _ => bmax m c p.val) :
    (((ssA ![p.val, 0, 0] h).loc (c : Thread nD τ)) ↦[(ssA ![p.val, 0, 0] h).set]{fullShare}
      (ssA ![p.val, 0, 0] h).write (Elt F) f w Finset.univ : sProp 𝕄) = ssPts c p (sscaleAt m c) := by
  subst hw
  refine (land (ssA ![p.val, 0, 0] h) c f (sscaleAt m c) _ fun x => ?_).trans ?_
  · refine heq_of_eq ?_
    show bmax m c p.val = sscaleAt m c ((Rect.unit (s := S16x8x128) ![p.val, 0, 0] S1x8x128.size h).emb x)
    unfold sscaleAt
    rw [unit_val]
    have h0 : (x 0).val < 1 := (x 0).isLt
    show _ = bmax m c (p.val + (x 0).val)
    rw [show p.val + (x 0).val = p.val by omega]
  · unfold ssPts
    rw [show (ssA ![p.val, 0, 0] h).set = (sR p).set from View.set_slice_whole cc0_scratch5 (sR p)]

theorem ar_store (h) (f : Vec F S16x8x128 .f32) (w : Vec F S1x8x128 .f32) (hw : w = fun _ => stripeMax m c) :
    (((arA ![c.val, 0, 0] h).loc (c : Thread nD τ)) ↦[(arA ![c.val, 0, 0] h).set]{fullShare}
      (arA ![c.val, 0, 0] h).write (Elt F) f w Finset.univ : sProp 𝕄) = arPts c c (arecvAt m c) := by
  subst hw
  refine (land (arA ![c.val, 0, 0] h) c f (arecvAt m c) _ fun x => ?_).trans ?_
  · refine heq_of_eq ?_
    show stripeMax m c = arecvAt m c ((Rect.unit (s := S16x8x128) ![c.val, 0, 0] S1x8x128.size h).emb x)
    unfold arecvAt
    rw [unit_val]
    have hc : c.val < 16 := c.isLt
    have h0 : (x 0).val < 1 := (x 0).isLt
    have e3 : devOf (c.val + (x 0).val) = c := Fin.ext (by show (c.val + (x 0).val) % 16 = c.val; omega)
    show _ = stripeMax m (devOf (c.val + (x 0).val))
    rw [e3]
  · unfold arPts
    rw [show (arA ![c.val, 0, 0] h).set = (sR c).set from View.set_slice_whole cc0_scratch8 (sR c)]

theorem as_store (h) (f w : Vec F S8x128 .f32) :
    ((Memref.whole cc0_scratch7 : Memref sig .tc .vmem S8x128 .f32).access (Rect.unit (s := S8x128) ![0, 0] S8x128.size h)).write (Elt F) f w Finset.univ = w :=
  Memref.write_access_unit_zero_univ (Elt F) cc0_scratch7 (by funext a; fin_cases a <;> rfl) h f w

/-- A chunk of the product, stored: the chunks before it are kept. -/
abbrev yA (o : Fin 2 → ℕ) (h : ∀ a, o a + S256x256.size a ≤ S256x2048.size a) : View sig .tc .vmem S256x256 .f32 :=
  (Memref.whole cc0_scratch2 : Memref sig .tc .vmem S256x2048 .f32).access (Rect.unit (s := S256x2048) o S256x256.size h)
abbrev yPut (o : Fin 2 → ℕ) (h : ∀ a, o a + S256x256.size a ≤ S256x2048.size a) (f : Vec F S256x2048 .f32) (w : FVec F S256x256 .f32) : Vec F S256x2048 .f32 := (yA o h).write (Elt F) f w Finset.univ
theorem y_store (j : Fin 8) (h) (f : Vec F S256x2048 .f32) (hf : ∀ i : S256x2048.Idx, (i 1).val < 256 * j.val → f i = yAt m c i)
    (i : S256x2048.Idx) (hi : (i 1).val < 256 * (j.val + 1)) :
    yPut ![0, 256 * j.val] h f (ychunk m c j.val) i = yAt m c i := by
  by_cases hm : i ∈ (yA ![0, 256 * j.val] h).set
  · obtain ⟨x, -, rfl⟩ := Finset.mem_map.mp hm
    refine (View.write_emb_of_mem (v := yA ![0, 256 * j.val] h) f _ (Finset.mem_univ x)).trans (eq_of_heq ((cast_heq _ _).trans (heq_of_eq ?_)))
    show ychunk m c j.val x = yAt m c ((yA ![0, 256 * j.val] h).emb x)
    unfold yAt
    rw [show (((yA ![0, 256 * j.val] h).emb x) 0).val = 0 + (x 0).val from unit_val _ _ _ _ _,
      show (((yA ![0, 256 * j.val] h).emb x) 1).val = 256 * j.val + (x 1).val from unit_val _ _ _ _ _]
    have h0 : (x 0).val < 256 := (x 0).isLt
    have h1 : (x 1).val < 256 := (x 1).isLt
    have e1 : (256 * j.val + (x 1).val) / 256 = j.val := by omega
    have e2 : (256 * j.val + (x 1).val) % 256 = (x 1).val := by omega
    rw [e1, e2, Nat.zero_add]
    exact congrArg _ (i2_eq _ _ x (Nat.mod_eq_of_lt h0) (Nat.mod_eq_of_lt h1)).symm
  · refine (View.write_of_not_mem (v := yA ![0, 256 * j.val] h) f _ _ (by rwa [View.setOn_univ])).trans (hf i ?_)
    by_contra hlt
    refine hm ?_
    rw [show (yA ![0, 256 * j.val] h).set = (yR j).set from View.set_slice_whole cc0_scratch2 (yR j), Rect.mem_set_unit]
    intro a
    match a with
    | ⟨0, _⟩ => exact ⟨Nat.zero_le _, by have : (i 0).val < 256 := (i 0).isLt; show (i 0).val < 0 + 256; omega⟩
    | ⟨1, _⟩ => exact ⟨by show 256 * j.val ≤ (i 1).val; omega, by show (i 1).val < 256 * j.val + 256; omega⟩

/-- A row block of the result, stored: the other row blocks are kept. -/
abbrev oA' (o : Fin 2 → ℕ) (h : ∀ a, o a + S256x128.size a ≤ S4096x128.size a) : View sig .tc .vmem S256x128 .f32 :=
  (Memref.whole cc0_stg0_0 : Memref sig .tc .vmem S4096x128 .f32).access (Rect.unit (s := S4096x128) o S256x128.size h)
abbrev oPut (o : Fin 2 → ℕ) (h : ∀ a, o a + S256x128.size a ≤ S4096x128.size a) (f : Vec F S4096x128 .f32) (w : FVec F S256x128 .f32) : Vec F S4096x128 .f32 := (oA' o h).write (Elt F) f w Finset.univ
theorem o_store (p : Dev nD) (h) (f : Vec F S4096x128 .f32) (w : FVec F S256x128 .f32) (hw : w = outBlock m c p.val)
    (i : S4096x128.Idx) : oPut ![256 * p.val, 0] h f w i
      = if (i 0).val / 256 = p.val then outAt m c i else f i := by
  subst hw
  by_cases hm : i ∈ (oA' ![256 * p.val, 0] h).set
  · obtain ⟨x, -, rfl⟩ := Finset.mem_map.mp hm
    have h0 : (x 0).val < 256 := (x 0).isLt
    have h1 : (x 1).val < 128 := (x 1).isLt
    have a0 : (((oA' ![256 * p.val, 0] h).emb x) 0).val = 256 * p.val + (x 0).val := unit_val _ _ _ _ _
    have a1 : (((oA' ![256 * p.val, 0] h).emb x) 1).val = 0 + (x 1).val := unit_val _ _ _ _ _
    have e1 : (256 * p.val + (x 0).val) / 256 = p.val := by omega
    have e2 : (256 * p.val + (x 0).val) % 256 = (x 0).val := by omega
    rw [if_pos (by rw [a0]; exact e1)]
    refine (View.write_emb_of_mem (v := oA' ![256 * p.val, 0] h) f _ (Finset.mem_univ x)).trans (eq_of_heq ((cast_heq _ _).trans (heq_of_eq ?_)))
    show outBlock m c p.val x = outAt m c ((oA' ![256 * p.val, 0] h).emb x)
    unfold outAt
    rw [a0, a1, e1, e2, Nat.zero_add]
    exact congrArg _ (i2_eq _ _ x (Nat.mod_eq_of_lt h0) (Nat.mod_eq_of_lt h1)).symm
  · rw [if_neg]
    · exact View.write_of_not_mem (v := oA' ![256 * p.val, 0] h) f _ _ (by rwa [View.setOn_univ])
    · intro he
      refine hm ?_
      rw [show (oA' ![256 * p.val, 0] h).set = (oR p).set from View.set_slice_whole cc0_stg0_0 (oR p), Rect.mem_set_unit]
      intro a
      match a with
      | ⟨0, _⟩ => exact ⟨by show 256 * p.val ≤ (i 0).val; omega, by show (i 0).val < 256 * p.val + 256; omega⟩
      | ⟨1, _⟩ => exact ⟨Nat.zero_le _, by have : (i 1).val < 128 := (i 1).isLt; show (i 1).val < 0 + 128; omega⟩

end Cert.KernelIdealProof

end
-- ==== Proof.State.lean ====
/-
The state of a device inside the body: one assertion `St`, with a clock per stage of the program; and the steps of the
machine — a wait, a copy, a transfer — at the cells of this schedule.
-/
module

public import proofs.«01_k».proof.Proof.Families
public import proofs.«01_k».proof.Proof.Views

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 100 → ℕ) (c : Dev nD)

/-- A program of a device's core. -/
abbrev Prg (F : FTy → Type) [FloatOps F] (α : Type) : Type 1 := Prog (TpuEff nD τ sig (Elt F) Λ₀ .tc) α
/-- From here, on device `c`'s core, the program runs without fault and ends in `Q`. -/
abbrev WP {α : Type} (p : Prg F α) (Q : α → sProp 𝕄) : sProp 𝕄 :=
  wp frame (wpE (defs₀ (F := F)) Variants.none (c : Thread nD τ) none) Set.univ p Q

/-! ## What every device knows -/

/-- The levels, and every cell's invariant and first round. -/
def Rec : sProp 𝕄 :=
  iprop(levAts L lv ∗ (bigSep Finset.univ fun ck : Dev nD × Fin 100 => cellInv ER (ringRd m) (K ck) (kcell ck))
    ∗ bigSep Finset.univ fun ck : Dev nD × Fin 100 => reached ER (kcell ck) 0)
instance Rec_persistent : BI.Persistent (Rec (F := F) m K) := by unfold Rec; infer_instance

theorem rec_lev : Rec (F := F) m K ⊢ levAts L lv := by
  unfold Rec; iintro ⟨H, -, -⟩; iexact H
theorem rec_inv (ck : Dev nD × Fin 100) : Rec (F := F) m K ⊢ cellInv ER (ringRd m) (K ck) (kcell ck) := by
  have h : (bigSep Finset.univ fun ck : Dev nD × Fin 100 => (cellInv ER (ringRd m) (K ck) (kcell ck) : sProp 𝕄)) ⊢ cellInv ER (ringRd m) (K ck) (kcell ck) :=
    bigSep_elim (Finset.mem_univ ck)
  unfold Rec; iintro ⟨-, H, -⟩; iapply h; iexact H
theorem rec_reached (ck : Dev nD × Fin 100) : Rec (F := F) m K ⊢ reached ER (kcell ck) 0 := by
  have h : (bigSep Finset.univ fun ck : Dev nD × Fin 100 => (reached ER (kcell ck) 0 : sProp 𝕄)) ⊢ reached ER (kcell ck) 0 :=
    bigSep_elim (Finset.mem_univ ck)
  unfold Rec; iintro ⟨-, -, H⟩; iapply h; iexact H
theorem rec_inv_dma (d : Dev nD) (k : Cell) (h : k ≠ .none) : Rec (F := F) m K ⊢ cellInv ER (ringRd m) (K (d, cellNo k)) (dCell d k) := by
  have := rec_inv m K (d, cellNo k); rwa [kcell_dma d k h] at this
theorem rec_reached_dma (d : Dev nD) (k : Cell) (h : k ≠ .none) : Rec (F := F) m K ⊢ reached ER (dCell d k) 0 := by
  have := rec_reached m K (d, cellNo k); rwa [kcell_dma d k h] at this

/-- What the device owes, whatever it has waited for. -/
def Ow (O : CellTallies nD τ sig Unit) : sProp 𝕄 := iprop(∃ W, owes (c : Thread nD τ) O W)

/-! ## The machine's steps at this schedule's cells -/

theorem wait_core (k : Cell) (hk : k ≠ .none) {r : ℕ} (hr : r < roundsOf c k) {O : CellTallies nD τ sig Unit}
    (hm : (levAts L lv : sProp 𝕄) ⊢ MayWait (c : Thread nD τ) (.dma (dmaS k)) () O)
    {sp sp' : Space} {s s' : Shape} {e e' : EltTy} {sem : DmaSem sig} (hs : sem = dmaS k)
    {src : Memref sig .tc sp' s' e'} {dst : Memref sig .tc sp s e} {hsrc : src.view.WordExact} {hdst : dst.view.WordExact}
    (hN : dst.view.dmaCredit = credOf k)
    {α : Type} {Q : α → sProp 𝕄} {f : PUnit → Prg F α} :
    iprop(Rec m K ∗ cred (tallyAt (dCell c k) () (credOf k)) ∗ Ow c O ∗ atPos ER (dCell c k) r ∅ 0)
      ⊢ iprop(((Ow c O ∗ atPos ER (dCell c k) (r + 1) ∅ 0 ∗ reached ER (dCell c k) (r + 1) ∗ payOf m c k r) -∗ WP c (f ⟨⟩) Q)
        -∗ WP c (.op (.waitDma2 sem src dst hsrc hdst) f) Q) := by
  subst hs
  unfold Ow
  iintro ⟨#HR, Hc, ⟨%W, HO⟩, Ha⟩ Hk
  iapply (Rounds.wp_wait_rest_token Variants.none ER (ringRd m) (c : Thread nD τ) none (κ := K (c, cellNo k))
      (sm := .dma (dmaS k)) (k' := credOf k)
      (fun T => (wpE_waitDma2_eq Variants.none (c : Thread nD τ) none Set.univ T).trans (congrArg (fun n => waitSpec (c : Thread nD τ) Set.univ (.dma (dmaS k)) n T) hN)) (Set.mem_univ _) () (O := O) (W := W) (R := r) (m := 0) (T := ∅)
      (by rw [Nat.zero_add, expect_dma m c k r hr])) $$ [Hc HO Ha]
  · isplitr; · iapply (rec_inv_dma m K c k hk); iexact HR
    isplitl [Hc]; · iexact Hc
    isplitl [HO]; · iexact HO
    isplitr; · iapply ((rec_lev m K).trans hm); iexact HR
    iexact Ha
  iintro ⟨HO, Ha, Hr, Hp⟩
  iapply Hk
  isplitl [HO]; · iexists _; iexact HO
  isplitl [Ha]; · iexact Ha
  isplitl [Hr]; · iexact Hr
  iapply (Entails.of_eq (rest_dma m c k r hr)); iexact Hp

theorem copy_core (k : Cell) (hk : k ≠ .none) {r : ℕ} (hr : r < roundsOf c k)
    {sp sp' : Space} {s : Shape} {e : EltTy} {sem : SemLoc sig} (hs : sem = .dma (dmaS k))
    {src : Memref sig (c : Thread nD τ).2.kind sp s e} {dst : Memref sig (c : Thread nD τ).2.kind sp' s e}
    {hsrc : src.view.WordExact} {hdst : dst.view.WordExact} {hsem : DmaTarget.Typed (nD := nD) sp sem (.here dst)}
    {q : PosShare TreeShare} {fs : Buf (Elt F) (src.view.loc (c : Thread nD τ))} {fd : Buf (Elt F) (dst.view.loc (c : Thread nD τ))}
    (hN : dst.view.amount sem = credOf k)
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ payOf m c k r)
    {α : Type} {Q : α → sProp 𝕄} {f : PUnit → Prg F α} :
    iprop(Rec m K ∗ (src.view.loc (c : Thread nD τ) ↦[src.view.set]{q} fs) ∗ (dst.view.loc (c : Thread nD τ) ↦[dst.view.set]{fullShare} fd)
        ∗ dutyTok ER (dCell c k) r (0 : Fin 16) ∗ reached ER (dCell c k) r)
      ⊢ iprop((cred (tallyAt (dCell c k) () (credOf k)) -∗ WP c (f ⟨⟩) Q)
        -∗ WP c (.op (.enqueueDma src (.here dst) sem hsrc hdst hsem) f) Q) := by
  subst hs
  iintro ⟨#HR, Hs, Hd, Ht, Hr⟩ Hk
  iapply (Rounds.wp_copy_pointsTo Variants.none ER (ringRd m) (c : Thread nD τ) none (κ := K (c, cellNo k)) (r := r) (d := (0 : Fin 16))
      (by rw [duties_dma m c k r hr]; exact Finset.mem_singleton_self _) () (credOf k) hN (amount_dma m c k r 0)
      (by rw [payload_dma]; exact hpay)) $$ [Hs Hd Ht Hr]
  · isplitr; · iapply (rec_inv_dma m K c k hk); iexact HR
    isplitl [Hs]; · iexact Hs
    isplitl [Hd]; · iexact Hd
    isplitl [Ht] <;> iassumption
  iexact Hk

theorem NK_S (k : Fin 3) (p : Fin 16) : credOf (.peer (kS k) p) = NK k := by fin_cases k <;> rfl
theorem NK_R (k : Fin 3) (p : Fin 16) : credOf (.peer (kR k) p) = NK k := by fin_cases k <;> rfl

theorem send_core (k : Fin 3) (p : Dev nD) (hp : p ≠ c) {n : Dev nD} (hn : n = p)
    {sp sp' : Space} {s : Shape} {e : EltTy} {sS sem : SemLoc sig} (hsS : sS = .dma (dmaS (.peer (kS k) p))) (hsR : sem = .dma (dmaS (.peer (kR k) c)))
    {src : Memref sig .tc sp s e} {dst : Memref sig (Dev.tc n : Thread nD τ).2.kind sp' s e} {hsc : dst.view.ref.isScScratch = false}
    {hsrc : src.view.WordExact} {hdst : dst.view.WordExact} {hsem : DmaTarget.Typed sp sem (.remote (Dev.tc n : Thread nD τ) dst sS hsc)}
    {q : PosShare TreeShare} {fs : Buf (Elt F) (src.view.loc (c : Thread nD τ))} {fd : Buf (Elt F) (dst.view.loc (Dev.tc n : Thread nD τ))}
    (hN : dst.view.amount sem = NK k)
    (hpay₁ : (src.view.loc (c : Thread nD τ) ↦[src.view.set]{q} fs : sProp 𝕄) ⊢ peerPay m c (kS k) p)
    (hpay₂ : (dst.view.loc (Dev.tc n : Thread nD τ) ↦[dst.view.set]{fullShare} (dst.view.write (Elt F) fd (src.view.read (Elt F) fs) Finset.univ) : sProp 𝕄)
      ⊢ peerPay m p (kR k) c)
    {O : CellTallies nD τ sig Unit} {α : Type} {Q : α → sProp 𝕄} {f : PUnit → Prg F α} :
    iprop(Rec m K ∗ (src.view.loc (c : Thread nD τ) ↦[src.view.set]{q} fs) ∗ (dst.view.loc (Dev.tc n : Thread nD τ) ↦[dst.view.set]{fullShare} fd)
        ∗ Ow c (O + tallyAt (rCell p k c) () (NK k))
        ∗ dutyTok ER (sCell c k p) 0 (0 : Fin 16) ∗ dutyTok ER (rCell p k c) 0 (0 : Fin 16))
      ⊢ iprop(((cred (tallyAt (sCell c k p) () (NK k)) ∗ Ow c O) -∗ WP c (f ⟨⟩) Q)
        -∗ WP c (.op (.enqueueDma src (.remote (Dev.tc n : Thread nD τ) dst sS hsc) sem hsrc hdst hsem) f) Q) := by
  subst hsS hsR hn
  unfold Ow
  iintro ⟨#HR, Hs, Hd, ⟨%W, HO⟩, Ht, Hu⟩ Hk
  iapply (Rounds.wp_send_pointsTo Variants.none ER (ringRd m) (c : Thread nD τ) none (κ₁ := K (c, cellNo (.peer (kS k) n))) (κ₂ := K (n, cellNo (.peer (kR k) c)))
      (r₁ := 0) (r₂ := 0) (d₁ := (0 : Fin 16)) (d₂ := (0 : Fin 16))
      (by rw [duties_dma m c (.peer (kS k) n) 0 (by show 0 < if n = c then 0 else 1; rw [if_neg hp]; decide)]; exact Finset.mem_singleton_self _)
      (by rw [duties_dma m n (.peer (kR k) c) 0 (by show 0 < if c = n then 0 else 1; rw [if_neg (Ne.symm hp)]; decide)]; exact Finset.mem_singleton_self _)
      () () (NK k) hN ((amount_dma m c (.peer (kS k) n) 0 0).trans (NK_S k n)) ((amount_dma m n (.peer (kR k) c) 0 0).trans (NK_R k c)) O rfl (W := W)
      (by rw [payload_dma]; exact hpay₁) (by rw [payload_dma]; exact hpay₂)) $$ [Hs Hd HO Ht Hu]
  · isplitr; · iapply (rec_inv_dma m K c (.peer (kS k) n) (by simp)); iexact HR
    isplitr; · iapply (rec_inv_dma m K n (.peer (kR k) c) (by simp)); iexact HR
    isplitl [Hs]; · iexact Hs
    isplitl [Hd]; · iexact Hd
    isplitl [HO]; · iexact HO
    isplitl [Ht]; · iexact Ht
    isplitr; · iapply (rec_reached_dma m K c (.peer (kS k) n) (by simp)); iexact HR
    isplitl [Hu]; · iexact Hu
    iapply (rec_reached_dma m K n (.peer (kR k) c) (by simp)); iexact HR
  iintro ⟨Hc, HO⟩
  iapply Hk
  isplitl [Hc]; · iexact Hc
  iexists W; iexact HO

/-! ## The state -/

/-- The barrier before (`bw = 0`) and after its wait. -/
def Bar (bw : ℕ) : sProp 𝕄 :=
  if bw = 0 then iprop(cred (tallyAt (barCell c) () 15) ∗ atPos ER (barCell c) 0 ∅ 0) else atPos ER (barCell c) 1 ∅ 0
/-- The rows of `x`: before the copy, under way, landed. -/
def XX (xs : ℕ) : sProp 𝕄 :=
  if xs = 0 then iprop(xaPts m c ∗ (∃ f, xPts c f) ∗ dutyTok ER (dCell c .x) 0 (0 : Fin 16) ∗ atPos ER (dCell c .x) 0 ∅ 0)
  else if xs = 1 then iprop(cred (tallyAt (dCell c .x) () NX) ∗ atPos ER (dCell c .x) 0 ∅ 0)
  else iprop(xPts c (X m c) ∗ xaPts m c ∗ atPos ER (dCell c .x) 1 ∅ 0)
/-- The product's first `ny` chunks are stored. -/
def YY (ny : ℕ) : sProp 𝕄 :=
  iprop(∃ f : Vec F S256x2048 .f32, ⌜∀ i : S256x2048.Idx, (i 1).val < 256 * ny → f i = yAt m c i⌝ ∗ (((c : Thread nD τ).loc cc0_scratch2) ↦{fullShare} f))
/-- The sources of the three kinds of transfer. -/
def A0 (dd : ℕ) (p : Dev nD) : sProp 𝕄 := if p.val < dd then dPts c p (d16At m c) else iprop(∃ f, dPts c p f)
def A1 (ss : ℕ) (p : Dev nD) : sProp 𝕄 := if p.val < ss then ssPts c p (sscaleAt m c) else iprop(∃ f, ssPts c p f)
def A2 (st : ℕ) (p : Dev nD) : sProp 𝕄 := if st = 1 then asPts c p (asendAt m c) else iprop(emp)
def AS (st : ℕ) : sProp 𝕄 := if st = 0 then iprop(∃ f : Vec F S8x128 .f32, ((c : Thread nD τ).loc cc0_scratch7) ↦{fullShare} f) else iprop(emp)
/-- The device's own slot of the stripe maxima; its own slots of the other two. -/
def OwnA (ow : ℕ) : sProp 𝕄 := if ow = 0 then slotAny c 2 c else arPts c c (arecvAt m c)
def Own : sProp 𝕄 := iprop(slotAny c 0 c ∗ slotAny c 1 c)
/-- The result: the own rows once branch `c` is passed, the rows of the first `ro` peers. -/
def OO (oo ro : ℕ) : sProp 𝕄 :=
  iprop(∃ f : Vec F S4096x128 .f32, ⌜∀ i : S4096x128.Idx, ((i 0).val / 256 = c.val ∧ c.val < oo) ∨ ((i 0).val / 256 ≠ c.val ∧ (i 0).val / 256 < ro) → f i = outAt m c i⌝
    ∗ (((c : Thread nD τ).loc cc0_stg0_0) ↦{fullShare} f))

def St (nb bw xs nf nw ny dd ss nd st ow na ra oo rr ro ww : ℕ) : sProp 𝕄 :=
  iprop(Rec m K ∗ Ow c (owed c nb nd nd na) ∗ (Sig c nb ∗ Bar c bw ∗ XX m c xs ∗ WW m c nf nw) ∗ YY m c ny
    ∗ (Snd c 0 (A0 m c dd) bw nd ww ∗ Snd c 1 (A1 m c ss) bw nd ww ∗ Snd c 2 (A2 m c st) bw na ww ∗ AS c st)
    ∗ (Rcv m c 0 rr ∗ Rcv m c 1 rr ∗ Rcv m c 2 ra ∗ OwnA m c ow) ∗ (OO m c oo ro ∗ Own c))

end Cert.KernelIdealProof

end
-- ==== Proof.Steps.lean ====
/-
The steps of the body on the state, first half: identity, own copies, signals, the barrier, the waits for them.
-/
module

public import proofs.«01_k».proof.Proof.State

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 100 → ℕ} {c : Dev nD}
  {nb bw xs nf nw ny dd ss nd st ow na ra oo rr ro ww : ℕ} {α : Type}

/-- * The credit of a slot of the chunk buffer. -/
theorem wM_credit (o : Fin 3 → ℕ) (h) : (wM o h).view.dmaCredit = NW := rfl
/-- * The credit of a copy of `w`. -/
theorem credOf_w (s : Fin 2) : credOf (.w s) = NW := rfl
/-- * The credit of the copy of `x`. -/
theorem credOf_x : credOf .x = NX := rfl
/-- * The credit of a copy of `w`. -/
theorem wM_amount (s : Fin 2) (o : Fin 3 → ℕ) (h) (sm : DmaSem sig) : (wM o h).view.amount (.dma sm) = credOf (.w s) := by
  rw [View.amount_dma, wM_credit, credOf_w]
/-- * The credit of the copy of `x`. -/
theorem xM_amount (sm : DmaSem sig) : (Memref.whole cc0_scratch0 : Memref sig .tc .vmem S256x4096 .f32).view.amount (.dma sm) = credOf .x := by
  rw [View.amount_dma, credOf_x]; rfl
/-- * The token of a copy of `w`. -/
theorem cred_w (c : Dev nD) (s : Fin 2) : (cred (tallyAt (dCell c (.w s)) () (credOf (.w s))) : sProp 𝕄) = cred (tallyAt (dCell c (.w s)) () NW) := by
  rw [credOf_w]
/-- * The token of the copy of `x`. -/
theorem cred_x (c : Dev nD) : (cred (tallyAt (dCell c .x) () (credOf .x)) : sProp 𝕄) = cred (tallyAt (dCell c .x) () NX) := by
  rw [credOf_x]
/-- * A device may wait for its own copies. -/
theorem mayWait_w (c : Dev nD) (s : Fin 2) (nb nd na : ℕ) : (levAts L lv : sProp 𝕄) ⊢ MayWait (c : Thread nD τ) (.dma (dmaS (.w s))) () (owed c nb nd nd na) :=
  mayWait_low c (cellNo (.w s)) (by rw [cellAt_cellNo]; rfl) nb nd nd na
/-- * A device may wait for its own rows. -/
theorem mayWait_x (c : Dev nD) (nb nd na : ℕ) : (levAts L lv : sProp 𝕄) ⊢ MayWait (c : Thread nD τ) (.dma (dmaS .x)) () (owed c nb nd nd na) :=
  mayWait_low c (cellNo .x) (by rw [cellAt_cellNo]; rfl) nb nd nd na
/-- * The rows of `x` before the copy. -/
theorem XX_0 (m : (ℓ : Loc nD τ sig) → Buf (Elt F) ℓ) (c : Dev nD) :
    XX m c 0 = iprop(xaPts m c ∗ (∃ f, xPts c f) ∗ dutyTok ER (dCell c .x) 0 (0 : Fin 16) ∗ atPos ER (dCell c .x) 0 ∅ 0) := rfl
/-- * The rows of `x` under way. -/
theorem XX_1 (m : (ℓ : Loc nD τ sig) → Buf (Elt F) ℓ) (c : Dev nD) :
    XX m c 1 = iprop(cred (tallyAt (dCell c .x) () NX) ∗ atPos ER (dCell c .x) 0 ∅ 0) := rfl
/-- * The rows of `x` landed. -/
theorem XX_2 (m : (ℓ : Loc nD τ sig) → Buf (Elt F) ℓ) (c : Dev nD) :
    XX m c 2 = iprop(xPts c (X m c) ∗ xaPts m c ∗ atPos ER (dCell c .x) 1 ∅ 0) := rfl
/-- * The rows of `x` where the copy reads them. -/
theorem xa_pts (m : (ℓ : Loc nD τ sig) → Buf (Elt F) ℓ) (c : Dev nD) :
    (((Memref.whole main_arg0 : Memref sig .tc .hbm S256x4096 .f32).view.loc (c : Thread nD τ))
      ↦[(Memref.whole main_arg0 : Memref sig .tc .hbm S256x4096 .f32).view.set]{fullShare} X m c : sProp 𝕄) = xaPts m c := by
  unfold xaPts
  rw [show (Memref.whole main_arg0 : Memref sig .tc .hbm S256x4096 .f32).view.set = Finset.univ from View.set_whole main_arg0]
/-- * The buffer the copy of the rows of `x` writes. -/
theorem x_pts (c : Dev nD) (f : Vec F S256x4096 .f32) :
    (((Memref.whole cc0_scratch0 : Memref sig .tc .vmem S256x4096 .f32).view.loc (c : Thread nD τ))
      ↦[(Memref.whole cc0_scratch0 : Memref sig .tc .vmem S256x4096 .f32).view.set]{fullShare} f : sProp 𝕄) = xPts c f := by
  unfold xPts
  rw [show (Memref.whole cc0_scratch0 : Memref sig .tc .vmem S256x4096 .f32).view.set = Finset.univ from View.set_whole cc0_scratch0]
/-- * The barrier ahead. -/
theorem Bar_0 (c : Dev nD) : Bar (F := F) c 0 = iprop(cred (tallyAt (barCell c) () 15) ∗ atPos ER (barCell c) 0 ∅ 0) := rfl
/-- * The barrier passed. -/
theorem Bar_1 (c : Dev nD) : Bar (F := F) c 1 = atPos ER (barCell c) 1 ∅ 0 := rfl

/-- The device's identity. -/
theorem r_dev {P : sProp 𝕄} {Q : α → sProp 𝕄} {f : Dev nD → Prg F α} (hk : P ⊢ WP c (f c) Q) : P ⊢ WP c (Prog.lift .deviceId >>= f) Q := by
  simp only [Prog.lift, Prog.bind_op, Prog.bind_ret]
  unfold WP; rw [wp_deviceId]; exact hk

/-- The copy of the rows of `x` starts. -/
theorem r_xcopy {Q : α → sProp 𝕄} {f : PUnit → Prg F α} {sm : DmaSem sig} (hsm : sm = dmaS .x) {h1 h2 h3}
    (hk : St m K c nb bw 1 nf nw ny dd ss nd st ow na ra oo rr ro ww ⊢ WP c (f ⟨⟩) Q) :
    St m K c nb bw 0 nf nw ny dd ss nd st ow na ra oo rr ro ww ⊢ WP c (Prog.lift (.enqueueDma (Memref.whole main_arg0 : Memref sig .tc .hbm S256x4096 .f32) (.here (Memref.whole cc0_scratch0 : Memref sig .tc .vmem S256x4096 .f32)) (.dma sm) h1 h2 h3) >>= f) Q := by
  simp only [Prog.lift, Prog.bind_op, Prog.bind_ret]
  unfold St
  iintro ⟨#HR, HO, ⟨HS, HB, HX, HW⟩, HY, HN, HV, HE⟩
  ihave HX := (Entails.of_eq (XX_0 m c)) $$ HX
  icases HX with ⟨Ha, ⟨%g, Hx⟩, Ht, Hp⟩
  iapply (copy_core m K c .x (by simp) (r := 0) Nat.zero_lt_one (by rw [hsm]) (src := (Memref.whole main_arg0 : Memref sig .tc .hbm S256x4096 .f32)) (dst := (Memref.whole cc0_scratch0 : Memref sig .tc .vmem S256x4096 .f32)) (fs := X m c) (fd := g) (q := fullShare) (xM_amount sm)
      (by rw [x_land, xa_pts]; unfold payOf; exact Entails.of_eq rfl)) $$ [Ha Hx Ht]
  · isplitr; · iexact HR
    isplitl [Ha]; · rw [xa_pts]; iexact Ha
    isplitl [Hx]; · rw [x_pts]; iexact Hx
    isplitl [Ht]; · iexact Ht
    iapply (rec_reached_dma m K c .x (by simp)); iexact HR
  iintro Hc
  ihave Hc := (Entails.of_eq (cred_x c)) $$ Hc
  ihave HX := (Entails.of_eq (XX_1 m c).symm) $$ [Hc Hp]
  · isplitl [Hc]
    · iexact Hc
    · iexact Hp
  iapply hk; unfold St
  isplitr; · iexact HR
  isplitl [HO]; · iexact HO
  isplitl [HS HB HX HW]
  · isplitl [HS]; · iexact HS
    isplitl [HB]; · iexact HB
    isplitl [HX]; · iexact HX
    iexact HW
  isplitl [HY]; · iexact HY
  isplitl [HN]; · iexact HN
  isplitl [HV]; · iexact HV
  iexact HE

/-- The copy of chunk `nf = 2 r + s` of `w` starts. -/
theorem r_wcopy (s : Fin 2) (r : ℕ) (hj : nf = 2 * r + s.val) (h8 : nf < 8) (hw : (nw + 1 - s.val) / 2 = r)
    (ho : ∀ s' : Fin 2, s' ≠ s → (nf + 1 - s'.val) / 2 = (nf + 1 + 1 - s'.val) / 2) (hlt : nw ≤ nf)
    {Q : α → sProp 𝕄} {f : PUnit → Prg F α} {sm : DmaSem sig} (hsm : sm = dmaS (.w s)) {o o' h h'} (e1 : o = ![s.val, 0, 0]) (e2 : o' = ![0, 256 * nf]) {h1 h2 h3}
    (hk : St m K c nb bw xs (nf + 1) nw ny dd ss nd st ow na ra oo rr ro ww ⊢ WP c (f ⟨⟩) Q) :
    St m K c nb bw xs nf nw ny dd ss nd st ow na ra oo rr ro ww ⊢ WP c (Prog.lift (.enqueueDma (wcM o' h') (.here (wM o h)) (.dma sm) h1 h2 h3) >>= f) Q := by
  subst e1 e2
  simp only [Prog.lift, Prog.bind_op, Prog.bind_ret]
  unfold St
  iintro ⟨#HR, HO, ⟨HS, HB, HX, HW⟩, HY, HN, HV, HE⟩
  ihave HW := (w_start m c s hj h8 hw ho hlt) $$ HW
  icases HW with ⟨⟨⟨%g, Hs⟩, Hc, Ht, Hr⟩, HW⟩
  iapply (copy_core m K c (.w s) (by simp) (r := r) (by show r < 4; have := s.isLt; omega) (by rw [hsm]) (src := wcM ![0, 256 * nf] h') (dst := wM ![s.val, 0, 0] h) (fs := W m c) (fd := g) (q := fullShare) (wM_amount s _ h sm)
      (by
        rw [w_land m c s ⟨nf, h8⟩ h h' g, wc_pts m c ⟨nf, h8⟩ h']
        have e5 : (⟨nf, h8⟩ : Fin 8) = ⟨(2 * r + s.val) % 8, Nat.mod_lt _ (by decide)⟩ := Fin.ext (by show nf = (2 * r + s.val) % 8; omega)
        have e6 : wbufAt m c nf = wbufAt m c (2 * r + s.val) := by rw [hj]
        exact Entails.of_eq (by unfold payOf; exact congrArg₂ (fun z j => iprop(wsPts c s z ∗ wcPts m c j)) e6 e5))) $$ [Hs Hc Ht Hr]
  · isplitr; · iexact HR
    isplitl [Hc]; · rw [wc_pts m c ⟨nf, h8⟩ h']; iexact Hc
    isplitl [Hs]; · rw [ws_pts c s h g]; iexact Hs
    isplitl [Ht] <;> iassumption
  iintro Hc
  ihave Hc := (Entails.of_eq (cred_w c s)) $$ Hc
  ihave HW := HW $$ Hc
  iapply hk; unfold St
  isplitr; · iexact HR
  isplitl [HO]; · iexact HO
  isplitl [HS HB HX HW]
  · isplitl [HS]; · iexact HS
    isplitl [HB]; · iexact HB
    isplitl [HX]; · iexact HX
    iexact HW
  isplitl [HY]; · iexact HY
  isplitl [HN]; · iexact HN
  isplitl [HV]; · iexact HV
  iexact HE

/-- The wait for the rows of `x`. -/
theorem r_xwait {Q : α → sProp 𝕄} {f : PUnit → Prg F α} {sm : DmaSem sig} (hsm : sm = dmaS .x) {h1 h2}
    (hk : St m K c nb bw 2 nf nw ny dd ss nd st ow na ra oo rr ro ww ⊢ WP c (f ⟨⟩) Q) :
    St m K c nb bw 1 nf nw ny dd ss nd st ow na ra oo rr ro ww ⊢ WP c (Prog.lift (.waitDma2 sm (Memref.whole main_arg0 : Memref sig .tc .hbm S256x4096 .f32) (Memref.whole cc0_scratch0 : Memref sig .tc .vmem S256x4096 .f32) h1 h2) >>= f) Q := by
  simp only [Prog.lift, Prog.bind_op, Prog.bind_ret]
  unfold St
  iintro ⟨#HR, HO, ⟨HS, HB, HX, HW⟩, HY, HN, HV, HE⟩
  ihave HX := (Entails.of_eq (XX_1 m c)) $$ HX
  icases HX with ⟨Hc, Hp⟩
  ihave Hc := (Entails.of_eq (cred_x c).symm) $$ Hc
  iapply (wait_core m K c .x (by simp) (r := 0) Nat.zero_lt_one (mayWait_x c nb nd na) hsm (dst := (Memref.whole cc0_scratch0 : Memref sig .tc .vmem S256x4096 .f32)) credOf_x.symm) $$ [Hc HO Hp]
  · isplitr; · iexact HR
    isplitl [Hc]; · iexact Hc
    isplitl [HO] <;> iassumption
  iintro ⟨HO, Hp, -, Hx⟩
  ihave HX := (Entails.of_eq (show iprop(payOf m c .x 0 ∗ atPos ER (dCell c .x) 1 ∅ 0) = iprop((xPts c (X m c) ∗ xaPts m c) ∗ atPos ER (dCell c .x) 1 ∅ 0) from rfl)) $$ [Hx Hp]
  · isplitl [Hx]
    · iexact Hx
    · iexact Hp
  icases HX with ⟨⟨Hx, Ha⟩, Hp⟩
  ihave HX := (Entails.of_eq (XX_2 m c).symm) $$ [Hx Ha Hp]
  · isplitl [Hx]; · iexact Hx
    isplitl [Ha]
    · iexact Ha
    · iexact Hp
  iapply hk; unfold St
  isplitr; · iexact HR
  isplitl [HO]; · iexact HO
  isplitl [HS HB HX HW]
  · isplitl [HS]; · iexact HS
    isplitl [HB]; · iexact HB
    isplitl [HX]; · iexact HX
    iexact HW
  isplitl [HY]; · iexact HY
  isplitl [HN]; · iexact HN
  isplitl [HV]; · iexact HV
  iexact HE

/-- The wait for chunk `nw = 2 r + s` of `w`. -/
theorem r_wwait (s : Fin 2) (r : ℕ) (hj : nw = 2 * r + s.val) (h8 : nw < 8) (hf : (nf + 1 - s.val) / 2 = r + 1) (hlt : nw < nf)
    (ho : ∀ s' : Fin 2, s' ≠ s → (nw + 1 - s'.val) / 2 = (nw + 1 + 1 - s'.val) / 2)
    {Q : α → sProp 𝕄} {f : PUnit → Prg F α} {sm : DmaSem sig} (hsm : sm = dmaS (.w s)) {o h} {src : Memref sig .tc .hbm S4096x256 .f32} {h1 h2}
    (hk : St m K c nb bw xs nf (nw + 1) ny dd ss nd st ow na ra oo rr ro ww ⊢ WP c (f ⟨⟩) Q) :
    St m K c nb bw xs nf nw ny dd ss nd st ow na ra oo rr ro ww ⊢ WP c (Prog.lift (.waitDma2 sm src (wM o h) h1 h2) >>= f) Q := by
  simp only [Prog.lift, Prog.bind_op, Prog.bind_ret]
  unfold St
  iintro ⟨#HR, HO, ⟨HS, HB, HX, HW⟩, HY, HN, HV, HE⟩
  ihave HW := (w_wait m c s hj h8 hf hlt ho) $$ HW
  icases HW with ⟨⟨Hp, Hc⟩, HW⟩
  ihave Hc := (Entails.of_eq (cred_w c s).symm) $$ Hc
  iapply (wait_core m K c (.w s) (by simp) (r := r) (by show r < 4; have := s.isLt; omega)
      (mayWait_w c s nb nd na) hsm (dst := wM o h) ((wM_credit o h).trans (credOf_w s).symm)) $$ [Hc HO Hp]
  · isplitr; · iexact HR
    isplitl [Hc]; · iexact Hc
    isplitl [HO] <;> iassumption
  iintro ⟨HO, Hp, Hr, Hx⟩
  ihave HW := HW $$ [Hp Hr Hx]
  · isplitl [Hp]; · iexact Hp
    isplitl [Hr] <;> iassumption
  iapply hk; unfold St
  isplitr; · iexact HR
  isplitl [HO]; · iexact HO
  isplitl [HS HB HX HW]
  · isplitl [HS]; · iexact HS
    isplitl [HB]; · iexact HB
    isplitl [HX]; · iexact HX
    iexact HW
  isplitl [HY]; · iexact HY
  isplitl [HN]; · iexact HN
  isplitl [HV]; · iexact HV
  iexact HE

/-- The signal to the device of number `n`, where that is another. -/
theorem r_signal (n : ℕ) (hn : n < 16) {Q : α → sProp 𝕄} {f : Prg F α} {cond : BitVec 1} (hc : cond = 1#1 ↔ c.val ≠ n) {dst : cond = 1#1 → Dev nD} (hd : ∀ h, dst h = dv n hn)
    {sm : Sem sig} (hs : sm = barS)
    (hk : St m K c (n + 1) bw xs nf nw ny dd ss nd st ow na ra oo rr ro ww ⊢ WP c f Q) :
    St m K c n bw xs nf nw ny dd ss nd st ow na ra oo rr ro ww ⊢ WP c (dite (cond = 1#1) (fun h => semSignalWord (dst h : Dev nD) sm 1#32 >>= fun _ => f) (fun _ => f)) Q := by
  subst hs
  by_cases h : cond = 1#1
  · rw [dif_pos h, hd h]
    have hcn : c.val ≠ n := hc.mp h
    simp only [semSignalWord, Prog.lift, Prog.bind_op, Prog.bind_ret]
    unfold St
    iintro ⟨#HR, HO, ⟨HS, HB, HX, HW⟩, HY, HN, HV, HE⟩
    unfold Ow
    icases HO with ⟨%V, HO⟩
    ihave HS := (sig_step c hn hcn) $$ HS
    icases HS with ⟨⟨Hp, Ht⟩, HS⟩
    have eO : owed c n nd nd na = owed c (n + 1) nd nd na + tallyAt (barCell (dv n hn)) () 1 := by
      unfold owed
      rw [show tailSum (oB c) n = tailSum (oB c) (n + 1) + oB c (dv n hn) from tailSum_step (oB c) (dv n hn),
        show oB c (dv n hn) = tallyAt (barCell (dv n hn)) () 1 from if_neg (ne_dv hn hcn), ← add_assoc]
    iapply (Rounds.wp_signal Variants.none ER (ringRd m) (c : Thread nD τ) none (dst := ((dv n hn : Dev nD) : Thread nD τ)) (κ := K (dv n hn, 0))
        (d := (c : Fin 16)) (by rw [duties_bar]; exact Finset.mem_erase.mpr ⟨fun e => hcn (congrArg Fin.val e), Finset.mem_univ _⟩)
        ((amount_bar m (dv n hn) c).trans (by decide)) () (owed c (n + 1) nd nd na) eO (W := V)) $$ [HO Hp Ht]
    · isplitr; · iapply (rec_inv m K (dv n hn, 0)); iexact HR
      isplitl [HO]; · iexact HO
      isplitl [Ht]; · iexact Ht
      isplitl [Hp]; · rw [payload_bar]; iexact Hp
      iapply (rec_reached m K (dv n hn, 0)); iexact HR
    iintro HO
    ihave HO := (show owes (c : Thread nD τ) (owed c (n + 1) nd nd na) V ⊢ Ow (F := F) c (owed c (n + 1) nd nd na) by unfold Ow; iintro H; iexists V; iexact H) $$ HO
    iapply hk; unfold St
    isplitr; · iexact HR
    isplitl [HO]; · iexact HO
    isplitl [HS HB HX HW]
    · isplitl [HS]; · iexact HS
      isplitl [HB]; · iexact HB
      isplitl [HX]; · iexact HX
      iexact HW
    isplitl [HY]; · iexact HY
    isplitl [HN]; · iexact HN
    isplitl [HV]; · iexact HV
    iexact HE
  · rw [dif_neg h]
    have hcn : c.val = n := by by_contra hx; exact h (hc.mpr hx)
    refine Entails.trans (Entails.of_eq ?_) hk
    unfold St
    rw [sig_skip c hcn, show owed c n nd nd na = owed c (n + 1) nd nd na by
      unfold owed
      rw [show tailSum (oB c) n = tailSum (oB c) (n + 1) + oB c (dv n hn) from tailSum_step (oB c) (dv n hn),
        show oB c (dv n hn) = 0 from if_pos (Fin.ext hcn.symm), add_zero]]

/-- The wait for everyone's signal: everyone's slots of this device's number arrive. -/
theorem r_barrier {Q : α → sProp 𝕄} {f : PUnit → Prg F α} {sm : Sem sig} (hs : sm = barS)
    (hk : St m K c 16 1 xs nf nw ny dd ss 0 st ow 0 ra oo rr ro 0 ⊢ WP c (f ⟨⟩) Q) :
    St m K c 16 0 xs nf nw ny dd ss 0 st ow 0 ra oo rr ro 0 ⊢ WP c (semWaitWord sm 15#32 >>= f) Q := by
  subst hs
  simp only [semWaitWord, Prog.lift, Prog.bind_op, Prog.bind_ret]
  unfold St
  iintro ⟨#HR, HO, ⟨HS, HB, HX, HW⟩, HY, ⟨H0, H1, H2, HA⟩, HV, HE⟩
  ihave HB := (Entails.of_eq (Bar_0 c)) $$ HB
  unfold Ow
  icases HB with ⟨Hc, Hp⟩
  icases HO with ⟨%V, HO⟩
  iapply (Rounds.wp_wait_rest_token Variants.none ER (ringRd m) (c : Thread nD τ) none (κ := K (c, 0))
      (wpE_semWait_eq Variants.none (c : Thread nD τ) none Set.univ) (Set.mem_univ _) () (O := owed c 16 0 0 0) (W := V) (R := 0) (m := 0) (T := ∅)
      (by rw [expect_bar]; decide)) $$ [Hc HO Hp]
  · isplitr; · iapply (rec_inv m K (c, 0)); iexact HR
    isplitl [Hc]; · iexact Hc
    isplitl [HO]; · iexact HO
    isplitr; · iapply ((rec_lev m K).trans (mayWait_bar c 0 0 0)); iexact HR
    iexact Hp
  iintro ⟨HO, HB, -, Hpay⟩
  ihave Hpay := (Entails.of_eq (rest_bar m c)) $$ Hpay
  ihave Hpay := (show bigSep (Finset.univ.erase c) (fun q : Dev nD => barPay (F := F) c q)
      ⊢ iprop(bigSep (Finset.univ.erase c) (fun q => slotAny (F := F) q 0 c) ∗ bigSep (Finset.univ.erase c) (fun q => slotAny (F := F) q 1 c)
        ∗ bigSep (Finset.univ.erase c) (fun q => slotAny (F := F) q 2 c)) by
    rw [← bigSep_sep', ← bigSep_sep']; exact Entails.of_eq rfl) $$ Hpay
  icases Hpay with ⟨P0, P1, P2⟩
  ihave H0 := (snd_bar c 0 (A0 m c dd)) $$ [P0 H0]
  · isplitl [P0]
    · iexact P0
    · iexact H0
  ihave H1 := (snd_bar c 1 (A1 m c ss)) $$ [P1 H1]
  · isplitl [P1]
    · iexact P1
    · iexact H1
  ihave H2 := (snd_bar c 2 (A2 m c st)) $$ [P2 H2]
  · isplitl [P2]
    · iexact P2
    · iexact H2
  ihave HO := (show owes (c : Thread nD τ) (owed c 16 0 0 0) (insert (SemLoc.reg barS, ()) V) ⊢ Ow (F := F) c (owed c 16 0 0 0) by unfold Ow; iintro H; iexists _; iexact H) $$ HO
  ihave HB := (Entails.of_eq (Bar_1 c).symm) $$ HB
  iapply hk; unfold St
  isplitr; · iexact HR
  isplitl [HO]; · iexact HO
  isplitl [HS HB HX HW]
  · isplitl [HS]; · iexact HS
    isplitl [HB]; · iexact HB
    isplitl [HX]; · iexact HX
    iexact HW
  isplitl [HY]; · iexact HY
  isplitl [H0 H1 H2 HA]
  · isplitl [H0]; · iexact H0
    isplitl [H1]; · iexact H1
    isplitl [H2]; · iexact H2
    iexact HA
  isplitl [HV]; · iexact HV
  iexact HE

end Cert.KernelIdealProof

end
-- ==== Proof.Steps2.lean ====
/-
The steps of the body on the state, second part: loads and stores of the device's own buffers.
-/
module

public import proofs.«01_k».proof.Proof.Steps

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 100 → ℕ} {c : Dev nD}
  {nb bw xs nf nw ny dd ss nd st ow na ra oo rr ro ww : ℕ} {α : Type}

/-- * A slot of the maxima as an access reaches it. -/
theorem ss_acc (d : Dev nD) (p : Fin 16) (h) (f : Vec F S16x8x128 .f32) :
    (((ssA ![p.val, 0, 0] h).loc (d : Thread nD τ)) ↦[(ssA ![p.val, 0, 0] h).set]{fullShare} f : sProp 𝕄) = ssPts d p f := by
  unfold ssPts
  rw [show (ssA ![p.val, 0, 0] h).set = (sR p).set from View.set_slice_whole cc0_scratch5 (sR p)]
/-- * A slot of the received maxima as an access reaches it. -/
theorem ar_acc (d : Dev nD) (p : Fin 16) (h) (f : Vec F S16x8x128 .f32) :
    (((arA ![p.val, 0, 0] h).loc (d : Thread nD τ)) ↦[(arA ![p.val, 0, 0] h).set]{fullShare} f : sProp 𝕄) = arPts d p f := by
  unfold arPts
  rw [show (arA ![p.val, 0, 0] h).set = (sR p).set from View.set_slice_whole cc0_scratch8 (sR p)]
/-- * The stored tile is dealt to the sixteen transfers that read it. -/
theorem as_deal (m : (ℓ : Loc nD τ sig) → Buf (Elt F) ℓ) (c : Dev nD) : ((((c : Thread nD τ).loc cc0_scratch7) ↦{fullShare} asendAt m c) : sProp 𝕄) ⊢ bigSep Finset.univ (A2 m c 1) := by
  rw [Transfers.pointsTo_deal (Finset.univ : Finset (Fin 16)) Finset.univ_nonempty fullShare]
  refine Entails.of_eq (bigSep_congr fun p _ => ?_)
  unfold A2
  rw [if_pos rfl]
  rfl
/-- * The tile of the device's own maximum before it is stored. -/
theorem AS_0 (c : Dev nD) : AS (F := F) c 0 = iprop(∃ f : Vec F S8x128 .f32, ((c : Thread nD τ).loc cc0_scratch7) ↦{fullShare} f) := rfl
/-- * A block's columns of the product. -/
theorem y_read (m : (ℓ : Loc nD τ sig) → Buf (Elt F) ℓ) (c : Dev nD) (n : ℕ) (h16 : n < 16) (h) (g : Vec F S256x2048 .f32) (hg : ∀ i, g i = yAt m c i) :
    (Memref.whole cc0_scratch2 : Memref sig .tc .vmem S256x2048 .f32).view.readAt (Elt F) (Rect.unit (s := S256x2048) ![0, 128 * n] S256x128.size h).toLoadRect g
      = yblock m c n := by
  have hg' : g = yAt m c := funext hg
  subst hg'
  funext i
  refine eq_of_heq ((read_heq (Memref.whole cc0_scratch2 : Memref sig .tc .vmem S256x2048 .f32).view (yAt m c) _).trans (heq_of_eq ?_))
  show yAt m c ((Rect.unit (s := S256x2048) ![0, 128 * n] S256x128.size h).emb i) = _
  have h0 : (i 0).val < 256 := (i 0).isLt
  have h1 : (i 1).val < 128 := (i 1).isLt
  unfold yAt
  rw [show (((Rect.unit (s := S256x2048) ![0, 128 * n] S256x128.size h).emb i) 0).val = 0 + (i 0).val from unit_val _ _ _ _ _,
    show (((Rect.unit (s := S256x2048) ![0, 128 * n] S256x128.size h).emb i) 1).val = 128 * n + (i 1).val from unit_val _ _ _ _ _,
    show (128 * n + (i 1).val) / 256 = n / 2 by omega]
  unfold yblock half
  split
  · refine congrArg (ychunk m c (n / 2)) ?_
    funext a
    match a with
    | ⟨0, _⟩ => exact Fin.ext (by show (0 + (i 0).val) % 256 = 0 + (i 0).val; omega)
    | ⟨1, _⟩ => exact Fin.ext (by show ((128 * n + (i 1).val) % 256) % 256 = 0 + (i 1).val; omega)
  · refine congrArg (ychunk m c (n / 2)) ?_
    funext a
    match a with
    | ⟨0, _⟩ => exact Fin.ext (by show (0 + (i 0).val) % 256 = 0 + (i 0).val; omega)
    | ⟨1, _⟩ => exact Fin.ext (by show ((128 * n + (i 1).val) % 256) % 256 = 128 + (i 1).val; omega)

/-- The rows of `x` are loaded. -/
theorem r_xload {Q : α → sProp 𝕄} {f : Vec F S256x4096 .f32 → Prg F α} {h hl}
    (hk : St m K c nb bw 2 nf nw ny dd ss nd st ow na ra oo rr ro ww ⊢ WP c (f (X m c)) Q) :
    St m K c nb bw 2 nf nw ny dd ss nd st ow na ra oo rr ro ww ⊢ WP c (Prog.lift (.load (Memref.whole cc0_scratch0 : Memref sig .tc .vmem S256x4096 .f32) (Rect.unit (s := S256x4096) ![0, 0] S256x4096.size h).toLoadRect hl) >>= f) Q := by
  simp only [Prog.lift, Prog.bind_op, Prog.bind_ret]
  unfold St
  iintro ⟨#HR, HO, ⟨HS, HB, HX, HW⟩, HY, HN, HV, HE⟩
  ihave HX := (Entails.of_eq (XX_2 m c)) $$ HX
  icases HX with ⟨Hx, Ha, Hp⟩
  unfold xPts
  iapply (wp_load Variants.none (c : Thread nD τ) none Set.univ (m := (Memref.whole cc0_scratch0 : Memref sig .tc .vmem S256x4096 .f32)) (f := X m c) (S := Finset.univ) (Finset.subset_univ _)) $$ Hx
  iintro Hx
  rw [x_read h (X m c)]
  ihave Hx := (show ((((Memref.whole cc0_scratch0 : Memref sig .tc .vmem S256x4096 .f32)).view.loc (c : Thread nD τ)) ↦[Finset.univ]{fullShare} X m c : sProp 𝕄) ⊢ xPts c (X m c) by unfold xPts; exact Entails.of_eq rfl) $$ Hx
  ihave HX := (Entails.of_eq (XX_2 m c).symm) $$ [Hx Ha Hp]
  · isplitl [Hx]; · iexact Hx
    isplitl [Ha]
    · iexact Ha
    · iexact Hp
  iapply hk; unfold St
  isplitr; · iexact HR
  isplitl [HO]; · iexact HO
  isplitl [HS HB HX HW]
  · isplitl [HS]; · iexact HS
    isplitl [HB]; · iexact HB
    isplitl [HX]; · iexact HX
    iexact HW
  isplitl [HY]; · iexact HY
  isplitl [HN]; · iexact HN
  isplitl [HV]; · iexact HV
  iexact HE

/-- Chunk `j = 2 r + s` of `w` is loaded. -/
theorem r_wload (j : ℕ) (s : Fin 2) (r : ℕ) (hj : j = 2 * r + s.val) (hw : (nw + 1 - s.val) / 2 = r + 1) (hf : (nf + 1 - s.val) / 2 = r + 1)
    {Q : α → sProp 𝕄} {f : Vec F S1x4096x256 .f32 → Prg F α} {o h hl} (e1 : o = ![s.val, 0, 0])
    (hk : St m K c nb bw xs nf nw ny dd ss nd st ow na ra oo rr ro ww ⊢ WP c (f (wchunk m c j)) Q) :
    St m K c nb bw xs nf nw ny dd ss nd st ow na ra oo rr ro ww ⊢ WP c (Prog.lift (.load (Memref.whole cc0_scratch1 : Memref sig .tc .vmem S2x4096x256 .f32) (Rect.unit (s := S2x4096x256) o S1x4096x256.size h).toLoadRect hl) >>= f) Q := by
  subst e1 hj
  simp only [Prog.lift, Prog.bind_op, Prog.bind_ret]
  unfold St
  iintro ⟨#HR, HO, ⟨HS, HB, HX, HW⟩, HY, HN, HV, HE⟩
  ihave HW := (w_look m c s hw hf) $$ HW
  icases HW with ⟨Hs, HW⟩
  ihave Hs := (Entails.of_eq (ws_pts c s h (wbufAt m c (2 * r + s.val))).symm) $$ Hs
  iapply (wp_load Variants.none (c : Thread nD τ) none Set.univ (m := (Memref.whole cc0_scratch1 : Memref sig .tc .vmem S2x4096x256 .f32)) (f := wbufAt m c (2 * r + s.val)) (S := (wM ![s.val, 0, 0] h).view.set)
    (by rw [show (wM ![s.val, 0, 0] h).view.set = _ from View.set_reshape _ _]; exact (View.set_slice _ _).symm.subset)) $$ Hs
  iintro Hs
  rw [w_read m c s (2 * r + s.val) h]
  ihave Hs := (Entails.of_eq (ws_pts c s h (wbufAt m c (2 * r + s.val)))) $$ Hs
  ihave HW := HW $$ Hs
  iapply hk; unfold St
  isplitr; · iexact HR
  isplitl [HO]; · iexact HO
  isplitl [HS HB HX HW]
  · isplitl [HS]; · iexact HS
    isplitl [HB]; · iexact HB
    isplitl [HX]; · iexact HX
    iexact HW
  isplitl [HY]; · iexact HY
  isplitl [HN]; · iexact HN
  isplitl [HV]; · iexact HV
  iexact HE

/-- A load of part of the product whose value is not used. -/
theorem r_yload {Q : α → sProp 𝕄} {r : Rect S256x2048} {f : (r.shape.Idx → Elt F .f32) → Prg F α} {hl}
    (hk : ∀ v, St m K c nb bw xs nf nw ny dd ss nd st ow na ra oo rr ro ww ⊢ WP c (f v) Q) :
    St m K c nb bw xs nf nw ny dd ss nd st ow na ra oo rr ro ww ⊢ WP c (Prog.lift (.load (Memref.whole cc0_scratch2 : Memref sig .tc .vmem S256x2048 .f32) r.toLoadRect hl) >>= f) Q := by
  simp only [Prog.lift, Prog.bind_op, Prog.bind_ret]
  unfold St
  iintro ⟨#HR, HO, HF, HY, HN, HV, HE⟩
  unfold YY
  icases HY with ⟨%g, %hg, Hy⟩
  iapply (wp_load Variants.none (c : Thread nD τ) none Set.univ (m := (Memref.whole cc0_scratch2 : Memref sig .tc .vmem S256x2048 .f32)) (f := g) (S := Finset.univ) (Finset.subset_univ _)) $$ Hy
  iintro Hy
  ihave HY := (show ((((Memref.whole cc0_scratch2 : Memref sig .tc .vmem S256x2048 .f32)).view.loc (c : Thread nD τ)) ↦[Finset.univ]{fullShare} g : sProp 𝕄) ⊢ YY m c ny by
    unfold YY; iintro H; iexists g; isplitr; · ipureintro; exact hg
    iexact H) $$ Hy
  iapply (hk _); unfold St
  isplitr; · iexact HR
  isplitl [HO]; · iexact HO
  isplitl [HF]; · iexact HF
  isplitl [HY]; · iexact HY
  isplitl [HN]; · iexact HN
  isplitl [HV]; · iexact HV
  iexact HE

/-- Chunk `ny` of the product is stored. -/
theorem r_ystore (h8 : ny < 8) {Q : α → sProp 𝕄} {f : PUnit → Prg F α} {o h} {w : FVec F S256x256 .f32} {hx hm} (e1 : o = ![0, 256 * ny]) (hw : w = ychunk m c ny)
    (hk : St m K c nb bw xs nf nw (ny + 1) dd ss nd st ow na ra oo rr ro ww ⊢ WP c (f ⟨⟩) Q) :
    St m K c nb bw xs nf nw ny dd ss nd st ow na ra oo rr ro ww ⊢ WP c (Prog.lift (.store (Memref.whole cc0_scratch2 : Memref sig .tc .vmem S256x2048 .f32) (Rect.unit (s := S256x2048) o S256x256.size h) w Finset.univ hx hm) >>= f) Q := by
  subst e1 hw
  simp only [Prog.lift, Prog.bind_op, Prog.bind_ret]
  unfold St
  iintro ⟨#HR, HO, HF, HY, HN, HV, HE⟩
  unfold YY
  icases HY with ⟨%g, %hg, Hy⟩
  iapply (wp_store Variants.none (c : Thread nD τ) none Set.univ (m := (Memref.whole cc0_scratch2 : Memref sig .tc .vmem S256x2048 .f32)) (r := Rect.unit (s := S256x2048) ![0, 256 * ny] S256x256.size h) (f := g) (S := Finset.univ) (Finset.subset_univ _)) $$ Hy
  iintro Hy
  ihave HY := (show ((((Memref.whole cc0_scratch2 : Memref sig .tc .vmem S256x2048 .f32)).view.loc (c : Thread nD τ)) ↦[Finset.univ]{fullShare} (yPut ![0, 256 * ny] h g (ychunk m c ny)) : sProp 𝕄) ⊢ YY m c (ny + 1) by
    unfold YY; iintro H; iexists _; isplitr; · ipureintro; exact y_store m c ⟨ny, h8⟩ h g hg
    iexact H) $$ Hy
  iapply hk; unfold St
  isplitr; · iexact HR
  isplitl [HO]; · iexact HO
  isplitl [HF]; · iexact HF
  isplitl [HY]; · iexact HY
  isplitl [HN]; · iexact HN
  isplitl [HV]; · iexact HV
  iexact HE

/-- A load of a 16-bit block whose value is not used. -/
theorem r_dload (h16 : dd < 16) (hnd : nd ≤ dd) {Q : α → sProp 𝕄} {f : Vec F S256x128 .i16 → Prg F α} {o h hl} (e1 : o = ![0, 128 * dd])
    (hk : ∀ v, St m K c nb bw xs nf nw ny dd ss nd st ow na ra oo rr ro 0 ⊢ WP c (f v) Q) :
    St m K c nb bw xs nf nw ny dd ss nd st ow na ra oo rr ro 0 ⊢ WP c (Prog.lift (.load (Memref.whole cc0_scratch3 : Memref sig .tc .vmem S256x2048 .i16) (Rect.unit (s := S256x2048) o S256x128.size h).toLoadRect hl) >>= f) Q := by
  subst e1
  simp only [Prog.lift, Prog.bind_op, Prog.bind_ret]
  unfold St
  iintro ⟨#HR, HO, HF, HY, ⟨H0, H1, H2, HA⟩, HV, HE⟩
  ihave H0 := (snd_src c 0 (A0 m c dd) (A0 m c dd) (n := dd) h16 hnd (fun _ _ => rfl)) $$ H0
  icases H0 with ⟨Hd, H0⟩
  ihave Hd := (Entails.of_eq (show A0 m c dd (dv dd h16) = iprop(∃ f, dPts c (dv dd h16) f) from if_neg (Nat.lt_irrefl _))) $$ Hd
  icases Hd with ⟨%g, Hd⟩
  ihave Hd := (Entails.of_eq (d_pts c (dv dd h16) h g).symm) $$ Hd
  iapply (wp_load_rect Variants.none (c : Thread nD τ) none Set.univ (m := (Memref.whole cc0_scratch3 : Memref sig .tc .vmem S256x2048 .i16)) (r := Rect.unit (s := S256x2048) ![0, 128 * dd] S256x128.size h) (f := g) (Finset.Subset.refl _)) $$ Hd
  iintro Hd
  ihave Hd := (show ((dM ![0, 128 * (dv dd h16).val] h).view.loc (c : Thread nD τ) ↦[(dM ![0, 128 * (dv dd h16).val] h).view.set]{fullShare} g : sProp 𝕄) ⊢ A0 m c dd (dv dd h16) by
    rw [show A0 m c dd (dv dd h16) = iprop(∃ f, dPts c (dv dd h16) f) from if_neg (Nat.lt_irrefl _), d_pts c (dv dd h16) h g]
    iintro H; iexists g; iexact H) $$ Hd
  ihave H0 := H0 $$ Hd
  iapply (hk _); unfold St
  isplitr; · iexact HR
  isplitl [HO]; · iexact HO
  isplitl [HF]; · iexact HF
  isplitl [HY]; · iexact HY
  isplitl [H0 H1 H2 HA]
  · isplitl [H0]; · iexact H0
    isplitl [H1]; · iexact H1
    isplitl [H2]; · iexact H2
    iexact HA
  isplitl [HV]; · iexact HV
  iexact HE

/-- The 16-bit block `dd` is stored. -/
theorem r_dstore (h16 : dd < 16) (hnd : nd ≤ dd) {Q : α → sProp 𝕄} {f : PUnit → Prg F α} {o h} {w : IVec S256x128 16} {hx hm} (e1 : o = ![0, 128 * dd]) (hw : w = quant16 (yblock m c dd))
    (hk : St m K c nb bw xs nf nw ny (dd + 1) ss nd st ow na ra oo rr ro 0 ⊢ WP c (f ⟨⟩) Q) :
    St m K c nb bw xs nf nw ny dd ss nd st ow na ra oo rr ro 0 ⊢ WP c (Prog.lift (.store (Memref.whole cc0_scratch3 : Memref sig .tc .vmem S256x2048 .i16) (Rect.unit (s := S256x2048) o S256x128.size h) w Finset.univ hx hm) >>= f) Q := by
  subst e1 hw
  simp only [Prog.lift, Prog.bind_op, Prog.bind_ret]
  unfold St
  iintro ⟨#HR, HO, HF, HY, ⟨H0, H1, H2, HA⟩, HV, HE⟩
  ihave H0 := (snd_src c 0 (A0 m c dd) (A0 m c (dd + 1)) (n := dd) h16 hnd (fun p hp => by unfold A0; simp only [show p.val < dd ↔ p.val < dd + 1 by omega])) $$ H0
  icases H0 with ⟨Hd, H0⟩
  ihave Hd := (Entails.of_eq (show A0 m c dd (dv dd h16) = iprop(∃ f, dPts c (dv dd h16) f) from if_neg (Nat.lt_irrefl _))) $$ Hd
  icases Hd with ⟨%g, Hd⟩
  ihave Hd := (Entails.of_eq (d_pts c (dv dd h16) h g).symm) $$ Hd
  iapply (wp_store Variants.none (c : Thread nD τ) none Set.univ (m := (Memref.whole cc0_scratch3 : Memref sig .tc .vmem S256x2048 .i16)) (r := Rect.unit (s := S256x2048) ![0, 128 * dd] S256x128.size h) (f := g) (by rw [View.setOn_univ])) $$ Hd
  iintro Hd
  ihave Hd := (Entails.of_eq (d_store m c (dv dd h16) h g)) $$ Hd
  ihave Hd := (Entails.of_eq (show dPts c (dv dd h16) (d16At m c) = A0 m c (dd + 1) (dv dd h16) from (if_pos (Nat.lt_succ_self _)).symm)) $$ Hd
  ihave H0 := H0 $$ Hd
  iapply hk; unfold St
  isplitr; · iexact HR
  isplitl [HO]; · iexact HO
  isplitl [HF]; · iexact HF
  isplitl [HY]; · iexact HY
  isplitl [H0 H1 H2 HA]
  · isplitl [H0]; · iexact H0
    isplitl [H1]; · iexact H1
    isplitl [H2]; · iexact H2
    iexact HA
  isplitl [HV]; · iexact HV
  iexact HE

/-- A load of a slot of the blocks' maxima whose value is not used. -/
theorem r_ssload (h16 : ss < 16) (hnd : nd ≤ ss) {Q : α → sProp 𝕄} {f : Vec F S1x8x128 .f32 → Prg F α} {o h hl} (e1 : o = ![ss, 0, 0])
    (hk : ∀ v, St m K c nb bw xs nf nw ny dd ss nd st ow na ra oo rr ro 0 ⊢ WP c (f v) Q) :
    St m K c nb bw xs nf nw ny dd ss nd st ow na ra oo rr ro 0 ⊢ WP c (Prog.lift (.load (Memref.whole cc0_scratch5 : Memref sig .tc .vmem S16x8x128 .f32) (Rect.unit (s := S16x8x128) o S1x8x128.size h).toLoadRect hl) >>= f) Q := by
  subst e1
  simp only [Prog.lift, Prog.bind_op, Prog.bind_ret]
  unfold St
  iintro ⟨#HR, HO, HF, HY, ⟨H0, H1, H2, HA⟩, HV, HE⟩
  ihave H1 := (snd_src c 1 (A1 m c ss) (A1 m c ss) (n := ss) h16 hnd (fun _ _ => rfl)) $$ H1
  icases H1 with ⟨Hd, H1⟩
  ihave Hd := (Entails.of_eq (show A1 m c ss (dv ss h16) = iprop(∃ f, ssPts c (dv ss h16) f) from if_neg (Nat.lt_irrefl _))) $$ Hd
  icases Hd with ⟨%g, Hd⟩
  ihave Hd := (Entails.of_eq (ss_acc c (dv ss h16) h g).symm) $$ Hd
  iapply (wp_load_rect Variants.none (c : Thread nD τ) none Set.univ (m := (Memref.whole cc0_scratch5 : Memref sig .tc .vmem S16x8x128 .f32)) (r := Rect.unit (s := S16x8x128) ![ss, 0, 0] S1x8x128.size h) (f := g) (Finset.Subset.refl _)) $$ Hd
  iintro Hd
  ihave Hd := (show ((ssA ![(dv ss h16).val, 0, 0] h).loc (c : Thread nD τ) ↦[(ssA ![(dv ss h16).val, 0, 0] h).set]{fullShare} g : sProp 𝕄) ⊢ A1 m c ss (dv ss h16) by
    rw [show A1 m c ss (dv ss h16) = iprop(∃ f, ssPts c (dv ss h16) f) from if_neg (Nat.lt_irrefl _), ss_acc c (dv ss h16) h g]
    iintro H; iexists g; iexact H) $$ Hd
  ihave H1 := H1 $$ Hd
  iapply (hk _); unfold St
  isplitr; · iexact HR
  isplitl [HO]; · iexact HO
  isplitl [HF]; · iexact HF
  isplitl [HY]; · iexact HY
  isplitl [H0 H1 H2 HA]
  · isplitl [H0]; · iexact H0
    isplitl [H1]; · iexact H1
    isplitl [H2]; · iexact H2
    iexact HA
  isplitl [HV]; · iexact HV
  iexact HE

/-- The slot `ss` of the blocks' maxima is stored. -/
theorem r_ssstore (h16 : ss < 16) (hnd : nd ≤ ss) {Q : α → sProp 𝕄} {f : PUnit → Prg F α} {o h} {w : Vec F S1x8x128 .f32} {hx hm} (e1 : o = ![ss, 0, 0]) (hw : w = fun _ => bmax m c ss)
    (hk : St m K c nb bw xs nf nw ny dd (ss + 1) nd st ow na ra oo rr ro 0 ⊢ WP c (f ⟨⟩) Q) :
    St m K c nb bw xs nf nw ny dd ss nd st ow na ra oo rr ro 0 ⊢ WP c (Prog.lift (.store (Memref.whole cc0_scratch5 : Memref sig .tc .vmem S16x8x128 .f32) (Rect.unit (s := S16x8x128) o S1x8x128.size h) w Finset.univ hx hm) >>= f) Q := by
  subst e1
  simp only [Prog.lift, Prog.bind_op, Prog.bind_ret]
  unfold St
  iintro ⟨#HR, HO, HF, HY, ⟨H0, H1, H2, HA⟩, HV, HE⟩
  ihave H1 := (snd_src c 1 (A1 m c ss) (A1 m c (ss + 1)) (n := ss) h16 hnd (fun p hp => by unfold A1; simp only [show p.val < ss ↔ p.val < ss + 1 by omega])) $$ H1
  icases H1 with ⟨Hd, H1⟩
  ihave Hd := (Entails.of_eq (show A1 m c ss (dv ss h16) = iprop(∃ f, ssPts c (dv ss h16) f) from if_neg (Nat.lt_irrefl _))) $$ Hd
  icases Hd with ⟨%g, Hd⟩
  ihave Hd := (Entails.of_eq (ss_acc c (dv ss h16) h g).symm) $$ Hd
  iapply (wp_store Variants.none (c : Thread nD τ) none Set.univ (m := (Memref.whole cc0_scratch5 : Memref sig .tc .vmem S16x8x128 .f32)) (r := Rect.unit (s := S16x8x128) ![ss, 0, 0] S1x8x128.size h) (f := g) (by rw [View.setOn_univ])) $$ Hd
  iintro Hd
  ihave Hd := (Entails.of_eq (ss_store m c (dv ss h16) h g w hw)) $$ Hd
  ihave Hd := (Entails.of_eq (show ssPts c (dv ss h16) (sscaleAt m c) = A1 m c (ss + 1) (dv ss h16) from (if_pos (Nat.lt_succ_self _)).symm)) $$ Hd
  ihave H1 := H1 $$ Hd
  iapply hk; unfold St
  isplitr; · iexact HR
  isplitl [HO]; · iexact HO
  isplitl [HF]; · iexact HF
  isplitl [HY]; · iexact HY
  isplitl [H0 H1 H2 HA]
  · isplitl [H0]; · iexact H0
    isplitl [H1]; · iexact H1
    isplitl [H2]; · iexact H2
    iexact HA
  isplitl [HV]; · iexact HV
  iexact HE

/-- A load of the tile of the device's own maximum whose value is not used. -/
theorem r_asload {Q : α → sProp 𝕄} {r : Rect S8x128} {f : (r.shape.Idx → Elt F .f32) → Prg F α} {hl}
    (hk : ∀ v, St m K c nb bw xs nf nw ny dd ss nd 0 ow na ra oo rr ro ww ⊢ WP c (f v) Q) :
    St m K c nb bw xs nf nw ny dd ss nd 0 ow na ra oo rr ro ww ⊢ WP c (Prog.lift (.load (Memref.whole cc0_scratch7 : Memref sig .tc .vmem S8x128 .f32) r.toLoadRect hl) >>= f) Q := by
  simp only [Prog.lift, Prog.bind_op, Prog.bind_ret]
  unfold St
  iintro ⟨#HR, HO, HF, HY, ⟨H0, H1, H2, HA⟩, HV, HE⟩
  ihave HA := (Entails.of_eq (AS_0 c)) $$ HA
  icases HA with ⟨%g, HA⟩
  iapply (wp_load Variants.none (c : Thread nD τ) none Set.univ (m := (Memref.whole cc0_scratch7 : Memref sig .tc .vmem S8x128 .f32)) (f := g) (S := Finset.univ) (Finset.subset_univ _)) $$ HA
  iintro HA
  ihave HA := (show ((((Memref.whole cc0_scratch7 : Memref sig .tc .vmem S8x128 .f32)).view.loc (c : Thread nD τ)) ↦[Finset.univ]{fullShare} g : sProp 𝕄) ⊢ AS (F := F) c 0 by
    rw [AS_0]; iintro H; iexists g; iexact H) $$ HA
  iapply (hk _); unfold St
  isplitr; · iexact HR
  isplitl [HO]; · iexact HO
  isplitl [HF]; · iexact HF
  isplitl [HY]; · iexact HY
  isplitl [H0 H1 H2 HA]
  · isplitl [H0]; · iexact H0
    isplitl [H1]; · iexact H1
    isplitl [H2]; · iexact H2
    iexact HA
  isplitl [HV]; · iexact HV
  iexact HE

/-- The tile of the device's own maximum is stored, and dealt to the sixteen transfers that read it. -/
theorem r_asstore {Q : α → sProp 𝕄} {f : PUnit → Prg F α} {h} {w : Vec F S8x128 .f32} {hx hm} (hw : w = asendAt m c)
    (hk : St m K c nb bw xs nf nw ny dd ss nd 1 ow 0 ra oo rr ro 0 ⊢ WP c (f ⟨⟩) Q) :
    St m K c nb bw xs nf nw ny dd ss nd 0 ow 0 ra oo rr ro 0 ⊢ WP c (Prog.lift (.store (Memref.whole cc0_scratch7 : Memref sig .tc .vmem S8x128 .f32) (Rect.unit (s := S8x128) ![0, 0] S8x128.size h) w Finset.univ hx hm) >>= f) Q := by
  simp only [Prog.lift, Prog.bind_op, Prog.bind_ret]
  unfold St
  iintro ⟨#HR, HO, HF, HY, ⟨H0, H1, H2, HA⟩, HV, HE⟩
  ihave HA := (Entails.of_eq (AS_0 c)) $$ HA
  icases HA with ⟨%g, HA⟩
  iapply (wp_store Variants.none (c : Thread nD τ) none Set.univ (m := (Memref.whole cc0_scratch7 : Memref sig .tc .vmem S8x128 .f32)) (r := Rect.unit (s := S8x128) ![0, 0] S8x128.size h) (f := g) (S := Finset.univ) (Finset.subset_univ _)) $$ HA
  iintro HA
  rw [as_store h g w, hw]
  ihave HA := (show ((((Memref.whole cc0_scratch7 : Memref sig .tc .vmem S8x128 .f32)).view.loc (c : Thread nD τ)) ↦[Finset.univ]{fullShare} asendAt m c : sProp 𝕄) ⊢ bigSep Finset.univ (A2 m c 1) from as_deal m c) $$ HA
  ihave H2 := (Entails.of_eq (show Snd c 2 (A2 m c 0) bw 0 0 = Snd c 2 (fun _ => iprop(emp)) bw 0 0 from rfl)) $$ H2
  ihave H2 := (snd_all c 2 (A2 m c 1)) $$ [HA H2]
  · isplitl [HA]
    · iexact HA
    · iexact H2
  ihave HA := (show (emp : sProp 𝕄) ⊢ AS (F := F) c 1 from Entails.of_eq rfl) $$ []
  · iempintro
  iapply hk; unfold St
  isplitr; · iexact HR
  isplitl [HO]; · iexact HO
  isplitl [HF]; · iexact HF
  isplitl [HY]; · iexact HY
  isplitl [H0 H1 H2 HA]
  · isplitl [H0]; · iexact H0
    isplitl [H1]; · iexact H1
    isplitl [H2]; · iexact H2
    iexact HA
  isplitl [HV]; · iexact HV
  iexact HE

/-- A load of the device's own slot of the maxima whose value is not used. -/
theorem r_arload {Q : α → sProp 𝕄} {f : Vec F S1x8x128 .f32 → Prg F α} {o h hl} (e1 : o = ![c.val, 0, 0])
    (hk : ∀ v, St m K c nb bw xs nf nw ny dd ss nd st 0 na ra oo rr ro ww ⊢ WP c (f v) Q) :
    St m K c nb bw xs nf nw ny dd ss nd st 0 na ra oo rr ro ww ⊢ WP c (Prog.lift (.load (Memref.whole cc0_scratch8 : Memref sig .tc .vmem S16x8x128 .f32) (Rect.unit (s := S16x8x128) o S1x8x128.size h).toLoadRect hl) >>= f) Q := by
  subst e1
  simp only [Prog.lift, Prog.bind_op, Prog.bind_ret]
  unfold St
  iintro ⟨#HR, HO, HF, HY, HN, ⟨R0, R1, R2, HZ⟩, HE⟩
  ihave HZ := (Entails.of_eq (show OwnA m c 0 = iprop(∃ f, arPts c c f) from rfl)) $$ HZ
  icases HZ with ⟨%g, HZ⟩
  ihave HZ := (Entails.of_eq (ar_acc c c h g).symm) $$ HZ
  iapply (wp_load_rect Variants.none (c : Thread nD τ) none Set.univ (m := (Memref.whole cc0_scratch8 : Memref sig .tc .vmem S16x8x128 .f32)) (r := Rect.unit (s := S16x8x128) ![c.val, 0, 0] S1x8x128.size h) (f := g) (Finset.Subset.refl _)) $$ HZ
  iintro HZ
  ihave HZ := (show ((arA ![c.val, 0, 0] h).loc (c : Thread nD τ) ↦[(arA ![c.val, 0, 0] h).set]{fullShare} g : sProp 𝕄) ⊢ OwnA m c 0 by
    rw [show OwnA m c 0 = iprop(∃ f, arPts c c f) from rfl, ar_acc c c h g]
    iintro H; iexists g; iexact H) $$ HZ
  iapply (hk _); unfold St
  isplitr; · iexact HR
  isplitl [HO]; · iexact HO
  isplitl [HF]; · iexact HF
  isplitl [HY]; · iexact HY
  isplitl [HN]; · iexact HN
  isplitl [R0 R1 R2 HZ]
  · isplitl [R0]; · iexact R0
    isplitl [R1]; · iexact R1
    isplitl [R2]; · iexact R2
    iexact HZ
  iexact HE

/-- The device's own slot of the maxima is stored. -/
theorem r_arstore {Q : α → sProp 𝕄} {f : PUnit → Prg F α} {o h} {w : Vec F S1x8x128 .f32} {hx hm} (e1 : o = ![c.val, 0, 0]) (hw : w = fun _ => stripeMax m c)
    (hk : St m K c nb bw xs nf nw ny dd ss nd st 1 na ra oo rr ro ww ⊢ WP c (f ⟨⟩) Q) :
    St m K c nb bw xs nf nw ny dd ss nd st 0 na ra oo rr ro ww ⊢ WP c (Prog.lift (.store (Memref.whole cc0_scratch8 : Memref sig .tc .vmem S16x8x128 .f32) (Rect.unit (s := S16x8x128) o S1x8x128.size h) w Finset.univ hx hm) >>= f) Q := by
  subst e1
  simp only [Prog.lift, Prog.bind_op, Prog.bind_ret]
  unfold St
  iintro ⟨#HR, HO, HF, HY, HN, ⟨R0, R1, R2, HZ⟩, HE⟩
  ihave HZ := (Entails.of_eq (show OwnA m c 0 = iprop(∃ f, arPts c c f) from rfl)) $$ HZ
  icases HZ with ⟨%g, HZ⟩
  ihave HZ := (Entails.of_eq (ar_acc c c h g).symm) $$ HZ
  iapply (wp_store Variants.none (c : Thread nD τ) none Set.univ (m := (Memref.whole cc0_scratch8 : Memref sig .tc .vmem S16x8x128 .f32)) (r := Rect.unit (s := S16x8x128) ![c.val, 0, 0] S1x8x128.size h) (f := g) (by rw [View.setOn_univ])) $$ HZ
  iintro HZ
  ihave HZ := (Entails.of_eq (ar_store m c h g w hw)) $$ HZ
  ihave HZ := (show arPts c c (arecvAt m c) ⊢ OwnA m c 1 from Entails.of_eq rfl) $$ HZ
  iapply hk; unfold St
  isplitr; · iexact HR
  isplitl [HO]; · iexact HO
  isplitl [HF]; · iexact HF
  isplitl [HY]; · iexact HY
  isplitl [HN]; · iexact HN
  isplitl [R0 R1 R2 HZ]
  · isplitl [R0]; · iexact R0
    isplitl [R1]; · iexact R1
    isplitl [R2]; · iexact R2
    iexact HZ
  iexact HE

/-- A load of rows of the result whose value is not used. -/
theorem r_oload {Q : α → sProp 𝕄} {r : Rect S4096x128} {f : (r.shape.Idx → Elt F .f32) → Prg F α} {hl}
    (hk : ∀ v, St m K c nb bw xs nf nw ny dd ss nd st ow na ra oo rr ro ww ⊢ WP c (f v) Q) :
    St m K c nb bw xs nf nw ny dd ss nd st ow na ra oo rr ro ww ⊢ WP c (Prog.lift (.load (Memref.whole cc0_stg0_0 : Memref sig .tc .vmem S4096x128 .f32) r.toLoadRect hl) >>= f) Q := by
  simp only [Prog.lift, Prog.bind_op, Prog.bind_ret]
  unfold St
  iintro ⟨#HR, HO, HF, HY, HN, HV, ⟨HOO, HW⟩⟩
  unfold OO
  icases HOO with ⟨%g, %hg, Hy⟩
  iapply (wp_load Variants.none (c : Thread nD τ) none Set.univ (m := (Memref.whole cc0_stg0_0 : Memref sig .tc .vmem S4096x128 .f32)) (f := g) (S := Finset.univ) (Finset.subset_univ _)) $$ Hy
  iintro Hy
  ihave HOO := (show ((((Memref.whole cc0_stg0_0 : Memref sig .tc .vmem S4096x128 .f32)).view.loc (c : Thread nD τ)) ↦[Finset.univ]{fullShare} g : sProp 𝕄) ⊢ OO m c oo ro by
    unfold OO; iintro H; iexists g; isplitr; · ipureintro; exact hg
    iexact H) $$ Hy
  iapply (hk _); unfold St
  isplitr; · iexact HR
  isplitl [HO]; · iexact HO
  isplitl [HF]; · iexact HF
  isplitl [HY]; · iexact HY
  isplitl [HN]; · iexact HN
  isplitl [HV]; · iexact HV
  isplitl [HOO]; · iexact HOO
  iexact HW

/-- Peer `ro`'s rows of the result are stored. -/
theorem r_ostore (h16 : ro < 16) (hc : c.val ≠ ro) {Q : α → sProp 𝕄} {f : PUnit → Prg F α} {o h} {w : FVec F S256x128 .f32} {hx hm} (e1 : o = ![256 * ro, 0]) (hw : w = outBlock m c ro)
    (hk : St m K c nb bw xs nf nw ny dd ss nd st ow na ra oo rr (ro + 1) ww ⊢ WP c (f ⟨⟩) Q) :
    St m K c nb bw xs nf nw ny dd ss nd st ow na ra oo rr ro ww ⊢ WP c (Prog.lift (.store (Memref.whole cc0_stg0_0 : Memref sig .tc .vmem S4096x128 .f32) (Rect.unit (s := S4096x128) o S256x128.size h) w Finset.univ hx hm) >>= f) Q := by
  subst e1
  simp only [Prog.lift, Prog.bind_op, Prog.bind_ret]
  unfold St
  iintro ⟨#HR, HO, HF, HY, HN, HV, ⟨HOO, HW⟩⟩
  unfold OO
  icases HOO with ⟨%g, %hg, Hy⟩
  iapply (wp_store Variants.none (c : Thread nD τ) none Set.univ (m := (Memref.whole cc0_stg0_0 : Memref sig .tc .vmem S4096x128 .f32)) (r := Rect.unit (s := S4096x128) ![256 * ro, 0] S256x128.size h) (f := g) (S := Finset.univ) (Finset.subset_univ _)) $$ Hy
  iintro Hy
  ihave HOO := (show ((((Memref.whole cc0_stg0_0 : Memref sig .tc .vmem S4096x128 .f32)).view.loc (c : Thread nD τ)) ↦[Finset.univ]{fullShare} (oPut ![256 * ro, 0] h g w) : sProp 𝕄) ⊢ OO m c oo (ro + 1) by
    unfold OO; iintro H; iexists _; isplitr
    · ipureintro
      intro i hi
      refine (o_store m c (dv ro h16) h g w hw i).trans ?_
      by_cases he : (i 0).val / 256 = ro
      · rw [if_pos he]
      · rw [if_neg he]; exact hg i (by omega)
    iexact H) $$ Hy
  iapply hk; unfold St
  isplitr; · iexact HR
  isplitl [HO]; · iexact HO
  isplitl [HF]; · iexact HF
  isplitl [HY]; · iexact HY
  isplitl [HN]; · iexact HN
  isplitl [HV]; · iexact HV
  isplitl [HOO]; · iexact HOO
  iexact HW

/-- The own rows of the result are stored. -/
theorem r_ownstore (h16 : oo < 16) (hc : c.val = oo) {Q : α → sProp 𝕄} {f : PUnit → Prg F α} {o h} {w : FVec F S256x128 .f32} {hx hm} (e1 : o = ![256 * oo, 0]) (hw : w = outBlock m c oo)
    (hk : St m K c nb bw xs nf nw ny dd ss nd st ow na ra (oo + 1) rr ro ww ⊢ WP c (f ⟨⟩) Q) :
    St m K c nb bw xs nf nw ny dd ss nd st ow na ra oo rr ro ww ⊢ WP c (Prog.lift (.store (Memref.whole cc0_stg0_0 : Memref sig .tc .vmem S4096x128 .f32) (Rect.unit (s := S4096x128) o S256x128.size h) w Finset.univ hx hm) >>= f) Q := by
  subst e1
  simp only [Prog.lift, Prog.bind_op, Prog.bind_ret]
  unfold St
  iintro ⟨#HR, HO, HF, HY, HN, HV, ⟨HOO, HW⟩⟩
  unfold OO
  icases HOO with ⟨%g, %hg, Hy⟩
  iapply (wp_store Variants.none (c : Thread nD τ) none Set.univ (m := (Memref.whole cc0_stg0_0 : Memref sig .tc .vmem S4096x128 .f32)) (r := Rect.unit (s := S4096x128) ![256 * oo, 0] S256x128.size h) (f := g) (S := Finset.univ) (Finset.subset_univ _)) $$ Hy
  iintro Hy
  ihave HOO := (show ((((Memref.whole cc0_stg0_0 : Memref sig .tc .vmem S4096x128 .f32)).view.loc (c : Thread nD τ)) ↦[Finset.univ]{fullShare} (oPut ![256 * oo, 0] h g w) : sProp 𝕄) ⊢ OO m c (oo + 1) ro by
    unfold OO; iintro H; iexists _; isplitr
    · ipureintro
      intro i hi
      refine (o_store m c (dv oo h16) h g w hw i).trans ?_
      by_cases he : (i 0).val / 256 = oo
      · rw [if_pos he]
      · rw [if_neg he]; exact hg i (by omega)
    iexact H) $$ Hy
  iapply hk; unfold St
  isplitr; · iexact HR
  isplitl [HO]; · iexact HO
  isplitl [HF]; · iexact HF
  isplitl [HY]; · iexact HY
  isplitl [HN]; · iexact HN
  isplitl [HV]; · iexact HV
  isplitl [HOO]; · iexact HOO
  iexact HW

/-- A block of the product is loaded. -/
theorem r_ycol (n : ℕ) (h16 : n < 16) {Q : α → sProp 𝕄} {f : Vec F S256x128 .f32 → Prg F α} {o h hl} (e1 : o = ![0, 128 * n])
    (hk : St m K c nb bw xs nf nw 8 dd ss nd st ow na ra oo rr ro ww ⊢ WP c (f (yblock m c n)) Q) :
    St m K c nb bw xs nf nw 8 dd ss nd st ow na ra oo rr ro ww ⊢ WP c (Prog.lift (.load (Memref.whole cc0_scratch2 : Memref sig .tc .vmem S256x2048 .f32) (Rect.unit (s := S256x2048) o S256x128.size h).toLoadRect hl) >>= f) Q := by
  subst e1
  simp only [Prog.lift, Prog.bind_op, Prog.bind_ret]
  unfold St
  iintro ⟨#HR, HO, HF, HY, HN, HV, HE⟩
  unfold YY
  icases HY with ⟨%g, %hg, Hy⟩
  iapply (wp_load Variants.none (c : Thread nD τ) none Set.univ (m := (Memref.whole cc0_scratch2 : Memref sig .tc .vmem S256x2048 .f32)) (f := g) (S := Finset.univ) (Finset.subset_univ _)) $$ Hy
  iintro Hy
  rw [y_read m c n h16 h g (fun i => hg i (by have : (i 1).val < 2048 := (i 1).isLt; omega))]
  ihave HY := (show ((((Memref.whole cc0_scratch2 : Memref sig .tc .vmem S256x2048 .f32)).view.loc (c : Thread nD τ)) ↦[Finset.univ]{fullShare} g : sProp 𝕄) ⊢ YY m c 8 by
    unfold YY; iintro H; iexists g; isplitr; · ipureintro; exact hg
    iexact H) $$ Hy
  iapply hk; unfold St
  isplitr; · iexact HR
  isplitl [HO]; · iexact HO
  isplitl [HF]; · iexact HF
  isplitl [HY]; · iexact HY
  isplitl [HN]; · iexact HN
  isplitl [HV]; · iexact HV
  iexact HE

end Cert.KernelIdealProof

end
-- ==== Proof.Steps3.lean ====
/-
The steps of the body on the state, third part: the transfers to the peers and the waits for them.
-/
module

public import proofs.«01_k».proof.Proof.Steps2

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 100 → ℕ} {c : Dev nD}
  {nb bw xs nf nw ny dd ss nd st ow na ra oo rr ro ww : ℕ} {α : Type}

/-- * The credits of the three kinds of transfer. -/
theorem NK_0 : NK 0 = ND := rfl
/-- * A tile's. -/
theorem NK_1 : NK 1 = NS := rfl
/-- * A tile's. -/
theorem NK_2 : NK 2 = NS := rfl
/-- * The credit of a slot of the received blocks. -/
theorem qM_credit (o : Fin 3 → ℕ) (h) : (qM o h).view.dmaCredit = ND := rfl
/-- * The credit of a slot of the received blocks' maxima. -/
theorem srM_credit (o : Fin 3 → ℕ) (h) : (srM o h).view.dmaCredit = NS := rfl
/-- * The credit of a slot of the received maxima. -/
theorem arM_credit (o : Fin 3 → ℕ) (h) : (arM o h).view.dmaCredit = NS := rfl
/-- * The credit of a block. -/
theorem dM_credit (o : Fin 2 → ℕ) (h) : (dM o h).view.dmaCredit = ND := rfl
/-- * The credit of a slot of the blocks' maxima. -/
theorem ssM_credit (o : Fin 3 → ℕ) (h) : (ssM o h).view.dmaCredit = NS := rfl
/-- * The credit of the device's own tile. -/
theorem asM_credit : asM.view.dmaCredit = NS := rfl
/-- * A device that owes nothing may wait. -/
theorem mayWait_end (c : Dev nD) (s : SemLoc sig) : (levAts L lv : sProp 𝕄) ⊢ MayWait (c : Thread nD τ) s () (owed c 16 16 16 16) := by
  rw [show owed c 16 16 16 16 = 0 by unfold owed; rw [tailSum_end, tailSum_end, tailSum_end, tailSum_end]; simp only [add_zero], MayWait_zero]
  exact Affine.affine
/-- * The blocks' debts, one peer on. -/
theorem tail_D (c : Dev nD) {n : ℕ} (hn : n < 16) (hc : c.val ≠ n) : tailSum (oD c) n = tailSum (oD c) (n + 1) + tallyAt (rCell (dv n hn) 0 c) () (NK 0) := by
  rw [show tailSum (oD c) n = tailSum (oD c) (n + 1) + oD c (dv n hn) from tailSum_step (oD c) (dv n hn),
    show oD c (dv n hn) = tallyAt (rCell (dv n hn) 0 c) () (NK 0) from if_neg (ne_dv hn hc)]
/-- * The maxima's debts, one peer on. -/
theorem tail_S (c : Dev nD) {n : ℕ} (hn : n < 16) (hc : c.val ≠ n) : tailSum (oS c) n = tailSum (oS c) (n + 1) + tallyAt (rCell (dv n hn) 1 c) () (NK 1) := by
  rw [show tailSum (oS c) n = tailSum (oS c) (n + 1) + oS c (dv n hn) from tailSum_step (oS c) (dv n hn),
    show oS c (dv n hn) = tallyAt (rCell (dv n hn) 1 c) () (NK 1) from if_neg (ne_dv hn hc)]
/-- * The stripe maxima's debts, one peer on. -/
theorem tail_A (c : Dev nD) {n : ℕ} (hn : n < 16) (hc : c.val ≠ n) : tailSum (oA c) n = tailSum (oA c) (n + 1) + tallyAt (rCell (dv n hn) 2 c) () (NK 2) := by
  rw [show tailSum (oA c) n = tailSum (oA c) (n + 1) + oA c (dv n hn) from tailSum_step (oA c) (dv n hn),
    show oA c (dv n hn) = tallyAt (rCell (dv n hn) 2 c) () (NK 2) from if_neg (ne_dv hn hc)]
/-- * The debts do not move at the device's own number. -/
theorem tail_skip (f : Dev nD → CellTallies nD τ sig Unit) (c : Dev nD) {n : ℕ} (hn : n < 16) (hc : c.val = n) (h0 : f c = 0) : tailSum f n = tailSum f (n + 1) := by
  subst hc
  rw [tailSum_step f c, h0, add_zero]
/-- * A block's debt first. -/
theorem owed_D (c : Dev nD) {nb n na : ℕ} (hn : n < 16) (hc : c.val ≠ n) : owed c nb n n na = owed c nb (n + 1) n na + tallyAt (rCell (dv n hn) 0 c) () (NK 0) := by
  unfold owed; rw [tail_D c hn hc]; ac_rfl
/-- * A block's maximum's debt next. -/
theorem owed_S (c : Dev nD) {nb n na : ℕ} (hn : n < 16) (hc : c.val ≠ n) : owed c nb (n + 1) n na = owed c nb (n + 1) (n + 1) na + tallyAt (rCell (dv n hn) 1 c) () (NK 1) := by
  unfold owed; rw [tail_S c hn hc]; ac_rfl
/-- * A stripe maximum's debt. -/
theorem owed_A (c : Dev nD) {nb nd ns n : ℕ} (hn : n < 16) (hc : c.val ≠ n) : owed c nb nd ns n = owed c nb nd ns (n + 1) + tallyAt (rCell (dv n hn) 2 c) () (NK 2) := by
  unfold owed; rw [tail_A c hn hc]; ac_rfl

/-- * One element of a slot lies in the slot. -/
theorem sr_sub (p : Dev nD) (h) :
    (Memref.whole cc0_scratch6 : Memref sig .tc .vmem S16x8x128 .f32).view.setOn (Rect.unit (s := S16x8x128) ![p.val, 0, 0] S1x1x1.size h).toLoadRect.set ⊆ (sR p).set := by
  intro i hi
  have hi' : i ∈ ((View.whole cc0_scratch6).slice (Rect.unit (s := S16x8x128) ![p.val, 0, 0] S1x1x1.size h)).set := by
    rw [View.set_slice]; exact hi
  rw [View.set_slice_whole] at hi'
  have hi' := Rect.mem_set_unit.mp hi'
  refine Rect.mem_set_unit.mpr fun a => ?_
  have h0 := hi' 0; have h1 := hi' 1; have h2 := hi' 2
  match a with
  | ⟨0, _⟩ => exact h0
  | ⟨1, _⟩ => exact ⟨Nat.zero_le _, by have : (i 1).val < 8 := (i 1).isLt; show (i 1).val < 0 + 8; omega⟩
  | ⟨2, _⟩ => exact ⟨Nat.zero_le _, by have : (i 2).val < 128 := (i 2).isLt; show (i 2).val < 0 + 128; omega⟩

/-- * The slots of the received maxima are the buffer. -/
theorem ar_blocks (c : Dev nD) (f : Vec F S16x8x128 .f32) :
    (((c : Thread nD τ).loc cc0_scratch8) ↦{fullShare} f : sProp 𝕄) = bigSep Finset.univ fun p : Dev nD => arPts c p f := by
  unfold arPts
  have h0 : ∀ (b : Fin 16) (a : Fin 3), a ≠ 0 → (![b.val, 0, 0] : Fin 3 → ℕ) a = 0 := fun b a ha => by fin_cases a <;> first | exact absurd rfl ha | rfl
  have h1 : ∀ a : Fin 3, a ≠ 0 → S1x8x128.size a = S16x8x128.size a := fun a ha => by fin_cases a <;> first | exact absurd rfl ha | rfl
  have hd : ∀ b b' : Fin 16, b ≠ b' → Disjoint (sR b).set (sR b').set :=
    Ring.lead_disjoint (s := S16x8x128) (0 : Fin 3) 1 (fun b : Fin 16 => ![b.val, 0, 0]) S1x8x128.size sslot_inb (fun b => (Nat.one_mul b.val).symm) rfl
  have hc : Finset.univ.biUnion (fun b : Fin 16 => (sR b).set) = Finset.univ :=
    Ring.lead_cover (s := S16x8x128) (0 : Fin 3) 1 (fun b : Fin 16 => ![b.val, 0, 0]) S1x8x128.size sslot_inb (fun b => (Nat.one_mul b.val).symm) h0 rfl h1 (by decide)
  exact Ring.pointsTo_blocks (ℓ := (c : Thread nD τ).loc cc0_scratch8) (fun p : Fin 16 => (sR p).set) hd hc f

/-- * The receive cells' positions once everything has arrived. -/
def arPos (c p : Dev nD) : sProp 𝕄 := if p = c then atPos ER (rCell c 2 p) 0 ∅ 0 else atPos ER (rCell c 2 p) 1 ∅ 0

/-- * All sixteen slots are the buffer, -/
theorem ar_open (m : (ℓ : Loc nD τ sig) → Buf (Elt F) ℓ) (c : Dev nD) : iprop(Rcv m c 2 16 ∗ OwnA m c 1)
    ⊢ iprop((((c : Thread nD τ).loc cc0_scratch8) ↦{fullShare} arecvAt m c) ∗ bigSep Finset.univ (arPos (F := F) c)) := by
  rw [ar_blocks, ← bigSep_sep']
  unfold Rcv
  rw [bigSep_at (Φ := RcvP m c 2 16) c, bigSep_at (Φ := fun p => iprop(arPts c p (arecvAt m c) ∗ arPos (F := F) c p)) c]
  have h1 : bigSep (Finset.univ.erase c) (RcvP m c 2 16) ⊢ bigSep (Finset.univ.erase c) (fun p => iprop(arPts c p (arecvAt m c) ∗ arPos (F := F) c p)) :=
    bigSep_mono fun p hp => by
      have hne := Finset.ne_of_mem_erase hp
      unfold RcvP arPos
      rw [if_neg hne, if_neg hne, if_pos (show p.val < 16 from p.isLt)]
      show (_ : sProp 𝕄) ⊢ _
      iintro ⟨Ha, Hp⟩
      ihave Hp := (show peerPay m c (kR 2) p ⊢ arPts c p (arecvAt m c) from Entails.of_eq rfl) $$ Hp
      isplitl [Hp]
      · iexact Hp
      · iexact Ha
  unfold OwnA
  rw [if_neg (by decide), show RcvP m c 2 16 c = atPos ER (rCell c 2 c) 0 ∅ 0 from if_pos rfl, show arPos (F := F) c c = atPos ER (rCell c 2 c) 0 ∅ 0 from if_pos rfl]
  show (_ : sProp 𝕄) ⊢ _
  iintro ⟨⟨Ha, HR⟩, HZ⟩
  isplitl [Ha HZ]
  · isplitl [HZ]
    · iexact HZ
    · iexact Ha
  · iapply h1; iexact HR

/-- * and back. -/
theorem ar_close (m : (ℓ : Loc nD τ sig) → Buf (Elt F) ℓ) (c : Dev nD) : iprop((((c : Thread nD τ).loc cc0_scratch8) ↦{fullShare} arecvAt m c) ∗ bigSep Finset.univ (arPos (F := F) c))
    ⊢ iprop(Rcv m c 2 16 ∗ OwnA m c 1) := by
  rw [ar_blocks, ← bigSep_sep']
  unfold Rcv
  rw [bigSep_at (Φ := RcvP m c 2 16) c, bigSep_at (Φ := fun p => iprop(arPts c p (arecvAt m c) ∗ arPos (F := F) c p)) c]
  have h1 : bigSep (Finset.univ.erase c) (fun p => iprop(arPts c p (arecvAt m c) ∗ arPos (F := F) c p)) ⊢ bigSep (Finset.univ.erase c) (RcvP m c 2 16) :=
    bigSep_mono fun p hp => by
      have hne := Finset.ne_of_mem_erase hp
      unfold RcvP arPos
      rw [if_neg hne, if_neg hne, if_pos (show p.val < 16 from p.isLt)]
      show (_ : sProp 𝕄) ⊢ _
      iintro ⟨Hp, Ha⟩
      ihave Hp := (show arPts c p (arecvAt m c) ⊢ peerPay m c (kR 2) p from Entails.of_eq rfl) $$ Hp
      isplitl [Ha]
      · iexact Ha
      · iexact Hp
  unfold OwnA
  rw [if_neg (by decide), show RcvP m c 2 16 c = atPos ER (rCell c 2 c) 0 ∅ 0 from if_pos rfl, show arPos (F := F) c c = atPos ER (rCell c 2 c) 0 ∅ 0 from if_pos rfl]
  show (_ : sProp 𝕄) ⊢ _
  iintro ⟨⟨HZ, Ha⟩, HR⟩
  isplitl [Ha HR]
  · isplitl [Ha]
    · iexact Ha
    · iapply h1; iexact HR
  · iexact HZ

/-- Block `n` and its maximum are sent to peer `n`, where that is another device. -/
theorem r_send (n : ℕ) (hn : n < 16) (hdd : n < dd) (hss : n < ss) {Q : α → sProp 𝕄} {f : Prg F α} {cond : BitVec 1} (hc : cond = 1#1 ↔ c.val ≠ n)
    {d1 d2 : cond = 1#1 → Dev nD} (hd1 : ∀ h, d1 h = dv n hn) (hd2 : ∀ h, d2 h = dv n hn)
    {sS1 sS2 : DmaSem sig} {sR1 sR2 : cond = 1#1 → DmaSem sig} (hS1 : sS1 = dmaS (.peer 0 (dv n hn))) (hS2 : sS2 = dmaS (.peer 2 (dv n hn)))
    (hR1 : ∀ h, sR1 h = dmaS (.peer 1 c)) (hR2 : ∀ h, sR2 h = dmaS (.peer 3 c))
    {o1 : Fin 2 → ℕ} {i1} {o2 : Fin 3 → ℕ} {i2 : ∀ h : cond = 1#1, _} {o3 : Fin 3 → ℕ} {i3} {o4 : Fin 3 → ℕ} {i4 : ∀ h : cond = 1#1, _}
    (e1 : o1 = ![0, 128 * n]) (e2 : o2 = ![c.val, 0, 0]) (e3 : o3 = ![n, 0, 0]) (e4 : o4 = ![c.val, 0, 0])
    {a1 : ∀ h : cond = 1#1, _} {a2 : ∀ h : cond = 1#1, _} {a3 : ∀ h : cond = 1#1, _} {a4 : ∀ h : cond = 1#1, _} {b1 : ∀ h : cond = 1#1, _} {b2 : ∀ h : cond = 1#1, _} {b3 : ∀ h : cond = 1#1, _} {b4 : ∀ h : cond = 1#1, _}
    (hk : St m K c nb 1 xs nf nw ny dd ss (n + 1) st ow na ra oo rr ro 0 ⊢ WP c f Q) :
    St m K c nb 1 xs nf nw ny dd ss n st ow na ra oo rr ro 0 ⊢ WP c (dite (cond = 1#1)
      (fun h => Prog.lift (.enqueueDma (dM o1 i1) (.remote (Dev.tc (d1 h)) (qM o2 (i2 h)) (.dma sS1) (a1 h)) (.dma (sR1 h)) (a2 h) (a3 h) (a4 h)) >>= fun _ =>
        Prog.lift (.enqueueDma (ssM o3 i3) (.remote (Dev.tc (d2 h)) (srM o4 (i4 h)) (.dma sS2) (b1 h)) (.dma (sR2 h)) (b2 h) (b3 h) (b4 h)) >>= fun _ => f)
      (fun _ => f)) Q := by
  subst e1 e2 e3 e4
  by_cases h : cond = 1#1
  · rw [dif_pos h]
    have hcn : c.val ≠ n := hc.mp h
    simp only [Prog.lift, Prog.bind_op, Prog.bind_ret]
    unfold St
    iintro ⟨#HR, HO, HF, HY, ⟨H0, H1, H2, HA⟩, HV, HE⟩
    ihave H0 := (snd_step c 0 (A0 m c dd) hn hcn) $$ H0
    icases H0 with ⟨⟨Hq, Ht, Hu, Hd⟩, H0⟩
    ihave H1 := (snd_step c 1 (A1 m c ss) hn hcn) $$ H1
    icases H1 with ⟨⟨Hr, Hv, Hw, Hs⟩, H1⟩
    ihave Hq := (show slotAny (F := F) (dv n hn) 0 c ⊢ iprop(∃ f, qPts (dv n hn) c f) from Entails.of_eq rfl) $$ Hq
    icases Hq with ⟨%g, Hq⟩
    ihave Hr := (show slotAny (F := F) (dv n hn) 1 c ⊢ iprop(∃ f, srPts (dv n hn) c f) from Entails.of_eq rfl) $$ Hr
    icases Hr with ⟨%g', Hr⟩
    ihave Hd := (show A0 m c dd (dv n hn) ⊢ dPts c (dv n hn) (d16At m c) from Entails.of_eq (if_pos hdd)) $$ Hd
    ihave Hs := (show A1 m c ss (dv n hn) ⊢ ssPts c (dv n hn) (sscaleAt m c) from Entails.of_eq (if_pos hss)) $$ Hs
    ihave HO := (Entails.of_eq (congrArg (Ow (F := F) c) (owed_D c (nb := nb) (na := na) hn hcn))) $$ HO
    iapply (send_core m K c 0 (dv n hn) (ne_dv hn hcn) (hd1 h) (by rw [hS1]; rfl) (by rw [hR1 h]; rfl) (src := dM ![0, 128 * n] i1) (dst := qM ![c.val, 0, 0] (i2 h))
        (q := fullShare) (fs := d16At m c) (fd := g) (by rw [View.amount_dma, NK_0]; exact qM_credit _ _)
        (Entails.of_eq (d_pts c (dv n hn) i1 (d16At m c)))
        (by rw [hd1 h]; exact Entails.of_eq (q_land m c (dv n hn) (i2 h) i1 g)) (O := owed c nb (n + 1) n na)) $$ [Hd Hq HO Ht Hu]
    · isplitr; · iexact HR
      isplitl [Hd]
      · ihave Hd := (Entails.of_eq (d_pts c (dv n hn) i1 (d16At m c)).symm) $$ Hd
        iexact Hd
      isplitl [Hq]; · rw [hd1 h]; ihave Hq := (Entails.of_eq (q_pts (dv n hn) c (i2 h) g).symm) $$ Hq; iexact Hq
      isplitl [HO]; · iexact HO
      isplitl [Ht]
      · iexact Ht
      · iexact Hu
    iintro ⟨Hc, HO⟩
    ihave H0 := H0 $$ Hc
    ihave HO := (Entails.of_eq (congrArg (Ow (F := F) c) (owed_S c (nb := nb) (na := na) hn hcn))) $$ HO
    iapply (send_core m K c 1 (dv n hn) (ne_dv hn hcn) (hd2 h) (by rw [hS2]; rfl) (by rw [hR2 h]; rfl) (src := ssM ![n, 0, 0] i3) (dst := srM ![c.val, 0, 0] (i4 h))
        (q := fullShare) (fs := sscaleAt m c) (fd := g') (by rw [View.amount_dma, NK_1]; exact srM_credit _ _)
        (Entails.of_eq (ss_pts c (dv n hn) i3 (sscaleAt m c)))
        (by rw [hd2 h]; exact Entails.of_eq (sr_land m c (dv n hn) (i4 h) i3 g')) (O := owed c nb (n + 1) (n + 1) na)) $$ [Hs Hr HO Hv Hw]
    · isplitr; · iexact HR
      isplitl [Hs]
      · ihave Hs := (Entails.of_eq (ss_pts c (dv n hn) i3 (sscaleAt m c)).symm) $$ Hs
        iexact Hs
      isplitl [Hr]; · rw [hd2 h]; ihave Hr := (Entails.of_eq (sr_pts (dv n hn) c (i4 h) g').symm) $$ Hr; iexact Hr
      isplitl [HO]; · iexact HO
      isplitl [Hv]
      · iexact Hv
      · iexact Hw
    iintro ⟨Hc, HO⟩
    ihave H1 := H1 $$ Hc
    iapply hk; unfold St
    isplitr; · iexact HR
    isplitl [HO]; · iexact HO
    isplitl [HF]; · iexact HF
    isplitl [HY]; · iexact HY
    isplitl [H0 H1 H2 HA]
    · isplitl [H0]; · iexact H0
      isplitl [H1]; · iexact H1
      isplitl [H2]; · iexact H2
      iexact HA
    isplitl [HV]; · iexact HV
    iexact HE
  · rw [dif_neg h]
    have hcn : c.val = n := by by_contra hx; exact h (hc.mpr hx)
    refine Entails.trans (Entails.of_eq ?_) hk
    unfold St
    rw [snd_skip c 0 (A0 m c dd) hcn, snd_skip c 1 (A1 m c ss) hcn, show owed c nb n n na = owed c nb (n + 1) (n + 1) na by
      unfold owed; rw [tail_skip (oS c) c hn hcn (if_pos rfl), tail_skip (oD c) c hn hcn (if_pos rfl)]]

/-- The device's own maximum is sent to peer `n`, where that is another device. -/
theorem r_asend (n : ℕ) (hn : n < 16) {Q : α → sProp 𝕄} {f : Prg F α} {cond : BitVec 1} (hc : cond = 1#1 ↔ c.val ≠ n)
    {d1 : cond = 1#1 → Dev nD} (hd1 : ∀ h, d1 h = dv n hn)
    {sS1 : DmaSem sig} {sR1 : cond = 1#1 → DmaSem sig} (hS1 : sS1 = dmaS (.peer 4 (dv n hn))) (hR1 : ∀ h, sR1 h = dmaS (.peer 5 c))
    {o2 : Fin 3 → ℕ} {i2 : ∀ h : cond = 1#1, _} (e2 : o2 = ![c.val, 0, 0])
    {a1 : ∀ h : cond = 1#1, _} {a2 : ∀ h : cond = 1#1, _} {a3 : ∀ h : cond = 1#1, _} {a4 : ∀ h : cond = 1#1, _}
    (hk : St m K c nb 1 xs nf nw ny dd ss nd 1 ow (n + 1) ra oo rr ro 0 ⊢ WP c f Q) :
    St m K c nb 1 xs nf nw ny dd ss nd 1 ow n ra oo rr ro 0 ⊢ WP c (dite (cond = 1#1)
      (fun h => Prog.lift (.enqueueDma (Memref.whole cc0_scratch7 : Memref sig .tc .vmem S8x128 .f32) (.remote (Dev.tc (d1 h)) (arM o2 (i2 h)) (.dma sS1) (a1 h)) (.dma (sR1 h)) (a2 h) (a3 h) (a4 h)) >>= fun _ => f)
      (fun _ => f)) Q := by
  subst e2
  by_cases h : cond = 1#1
  · rw [dif_pos h]
    have hcn : c.val ≠ n := hc.mp h
    simp only [Prog.lift, Prog.bind_op, Prog.bind_ret]
    unfold St
    iintro ⟨#HR, HO, HF, HY, ⟨H0, H1, H2, HA⟩, HV, HE⟩
    ihave H2 := (snd_step c 2 (A2 m c 1) hn hcn) $$ H2
    icases H2 with ⟨⟨Hq, Ht, Hu, Hd⟩, H2⟩
    ihave Hq := (show slotAny (F := F) (dv n hn) 2 c ⊢ iprop(∃ f, arPts (dv n hn) c f) from Entails.of_eq rfl) $$ Hq
    icases Hq with ⟨%g, Hq⟩
    ihave Hd := (show A2 m c 1 (dv n hn) ⊢ asPts c (dv n hn) (asendAt m c) from Entails.of_eq (if_pos rfl)) $$ Hd
    ihave HO := (Entails.of_eq (congrArg (Ow (F := F) c) (owed_A c (nb := nb) (nd := nd) (ns := nd) hn hcn))) $$ HO
    iapply (send_core m K c 2 (dv n hn) (ne_dv hn hcn) (hd1 h) (by rw [hS1]; rfl) (by rw [hR1 h]; rfl) (src := asM) (dst := arM ![c.val, 0, 0] (i2 h))
        (q := ash (dv n hn)) (fs := asendAt m c) (fd := g) (by rw [View.amount_dma, NK_2]; exact arM_credit _ _)
        (Entails.of_eq (as_pts c (dv n hn) (asendAt m c)))
        (by rw [hd1 h]; exact Entails.of_eq (ar_land m c (dv n hn) (i2 h) g)) (O := owed c nb nd nd (n + 1))) $$ [Hd Hq HO Ht Hu]
    · isplitr; · iexact HR
      isplitl [Hd]
      · ihave Hd := (Entails.of_eq (as_pts c (dv n hn) (asendAt m c)).symm) $$ Hd
        iexact Hd
      isplitl [Hq]; · rw [hd1 h]; ihave Hq := (Entails.of_eq (ar_pts (dv n hn) c (i2 h) g).symm) $$ Hq; iexact Hq
      isplitl [HO]; · iexact HO
      isplitl [Ht]
      · iexact Ht
      · iexact Hu
    iintro ⟨Hc, HO⟩
    ihave H2 := H2 $$ Hc
    iapply hk; unfold St
    isplitr; · iexact HR
    isplitl [HO]; · iexact HO
    isplitl [HF]; · iexact HF
    isplitl [HY]; · iexact HY
    isplitl [H0 H1 H2 HA]
    · isplitl [H0]; · iexact H0
      isplitl [H1]; · iexact H1
      isplitl [H2]; · iexact H2
      iexact HA
    isplitl [HV]; · iexact HV
    iexact HE
  · rw [dif_neg h]
    have hcn : c.val = n := by by_contra hx; exact h (hc.mpr hx)
    refine Entails.trans (Entails.of_eq ?_) hk
    unfold St
    rw [snd_skip c 2 (A2 m c 1) hcn, show owed c nb nd nd n = owed c nb nd nd (n + 1) by
      unfold owed; rw [tail_skip (oA c) c hn hcn (if_pos rfl)]]

/-- The wait for peer `n`'s maximum. -/
theorem r_await (n : ℕ) (hn : n < 16) {Q : α → sProp 𝕄} {f : Prg F α} {cond : BitVec 1} (hc : cond = 1#1 ↔ c.val ≠ n)
    {sm : DmaSem sig} (hsm : sm = dmaS (.peer 5 (dv n hn))) {src : Memref sig .tc .vmem S8x128 .f32} {o : Fin 3 → ℕ} {i} {a1 : ∀ h : cond = 1#1, _} {a2 : ∀ h : cond = 1#1, _}
    (hk : St m K c 16 bw xs nf nw ny dd ss 16 st ow 16 (n + 1) oo rr ro ww ⊢ WP c f Q) :
    St m K c 16 bw xs nf nw ny dd ss 16 st ow 16 n oo rr ro ww ⊢ WP c (dite (cond = 1#1) (fun h => Prog.lift (.waitDma2 sm src (arM o i) (a1 h) (a2 h)) >>= fun _ => f) (fun _ => f)) Q := by
  by_cases h : cond = 1#1
  · rw [dif_pos h]
    have hcn : c.val ≠ n := hc.mp h
    simp only [Prog.lift, Prog.bind_op, Prog.bind_ret]
    unfold St
    iintro ⟨#HR, HO, HF, HY, HN, ⟨R0, R1, R2, HZ⟩, HE⟩
    ihave R2 := (rcv_step m c 2 hn hcn) $$ R2
    icases R2 with ⟨⟨Hp, Hc⟩, R2⟩
    ihave Hc := (Entails.of_eq (show (cred (tallyAt (rCell c 2 (dv n hn)) () (NK 2)) : sProp 𝕄) = cred (tallyAt (dCell c (.peer 5 (dv n hn))) () (credOf (.peer 5 (dv n hn)))) by
      rw [show credOf (.peer 5 (dv n hn)) = NK 2 from NK_R 2 (dv n hn)]; rfl)) $$ Hc
    iapply (wait_core m K c (.peer 5 (dv n hn)) (by simp) (r := 0) (by show 0 < if dv n hn = c then 0 else 1; rw [if_neg (ne_dv hn hcn)]; decide)
        (mayWait_end c _) hsm (src := src) (dst := arM o i) ((arM_credit o i).trans (NK_R 2 (dv n hn)).symm)) $$ [Hc HO Hp]
    · isplitr; · iexact HR
      isplitl [Hc]; · iexact Hc
      isplitl [HO]
      · iexact HO
      · iexact Hp
    iintro ⟨HO, Hp, -, Hx⟩
    ihave Hx := (show payOf m c (.peer 5 (dv n hn)) 0 ⊢ peerPay m c (kR 2) (dv n hn) from Entails.of_eq rfl) $$ Hx
    ihave R2 := R2 $$ [Hp Hx]
    · isplitl [Hp]
      · iexact Hp
      · iexact Hx
    iapply hk; unfold St
    isplitr; · iexact HR
    isplitl [HO]; · iexact HO
    isplitl [HF]; · iexact HF
    isplitl [HY]; · iexact HY
    isplitl [HN]; · iexact HN
    isplitl [R0 R1 R2 HZ]
    · isplitl [R0]; · iexact R0
      isplitl [R1]; · iexact R1
      isplitl [R2]; · iexact R2
      iexact HZ
    iexact HE
  · rw [dif_neg h]
    have hcn : c.val = n := by by_contra hx; exact h (hc.mpr hx)
    refine Entails.trans (Entails.of_eq ?_) hk
    unfold St
    rw [rcv_skip m c 2 hcn]

/-- The waits for peer `n`'s block and its maximum, and the loads of both. -/
theorem r_part (n : ℕ) (hn : n < 16) (hcn : c.val ≠ n) {Q : α → sProp 𝕄} {f : Vec F S1x256x128 .i16 → Vec F S1x1x1 .f32 → Prg F α}
    {s1 s2 : DmaSem sig} (hs1 : s1 = dmaS (.peer 1 (dv n hn))) (hs2 : s2 = dmaS (.peer 3 (dv n hn)))
    {src1 : Memref sig .tc .vmem S256x128 .i16} {src2 : Memref sig .tc .vmem S8x128 .f32} {o1 : Fin 3 → ℕ} {i1} {o2 : Fin 3 → ℕ} {i2} {o3 : Fin 3 → ℕ} {i3 l3} {o4 : Fin 3 → ℕ} {i4 l4} {a1 a2 b1 b2}
    (e3 : o3 = ![n, 0, 0]) (e4 : o4 = ![n, 0, 0])
    (hk : St m K c 16 bw xs nf nw ny dd ss 16 st ow 16 ra oo (n + 1) ro ww ⊢ WP c (f (qload m c (dv n hn)) (fun _ => bmax m (dv n hn) c.val)) Q) :
    St m K c 16 bw xs nf nw ny dd ss 16 st ow 16 ra oo n ro ww ⊢ WP c (Prog.lift (.waitDma2 s1 src1 (qM o1 i1) a1 a2) >>= fun _ => Prog.lift (.waitDma2 s2 src2 (srM o2 i2) b1 b2) >>= fun _ =>
      Prog.lift (.load (Memref.whole cc0_scratch4 : Memref sig .tc .vmem S16x256x128 .i16) (Rect.unit (s := S16x256x128) o3 S1x256x128.size i3).toLoadRect l3) >>= fun v =>
      Prog.lift (.load (Memref.whole cc0_scratch6 : Memref sig .tc .vmem S16x8x128 .f32) (Rect.unit (s := S16x8x128) o4 S1x1x1.size i4).toLoadRect l4) >>= fun w => f v w) Q := by
  subst e3 e4
  simp only [Prog.lift, Prog.bind_op, Prog.bind_ret]
  unfold St
  iintro ⟨#HR, HO, HF, HY, HN, ⟨R0, R1, R2, HZ⟩, HE⟩
  ihave R0 := (rcv_step m c 0 hn hcn) $$ R0
  icases R0 with ⟨⟨Hp, Hc⟩, R0⟩
  ihave Hc := (Entails.of_eq (show (cred (tallyAt (rCell c 0 (dv n hn)) () (NK 0)) : sProp 𝕄) = cred (tallyAt (dCell c (.peer 1 (dv n hn))) () (credOf (.peer 1 (dv n hn)))) by
    rw [show credOf (.peer 1 (dv n hn)) = NK 0 from NK_R 0 (dv n hn)]; rfl)) $$ Hc
  iapply (wait_core m K c (.peer 1 (dv n hn)) (by simp) (r := 0) (by show 0 < if dv n hn = c then 0 else 1; rw [if_neg (ne_dv hn hcn)]; decide)
      (mayWait_end c _) hs1 (src := src1) (dst := qM o1 i1) ((qM_credit o1 i1).trans (NK_R 0 (dv n hn)).symm)) $$ [Hc HO Hp]
  · isplitr; · iexact HR
    isplitl [Hc]; · iexact Hc
    isplitl [HO]
    · iexact HO
    · iexact Hp
  iintro ⟨HO, Hp, -, Hx⟩
  ihave Hx := (show payOf m c (.peer 1 (dv n hn)) 0 ⊢ peerPay m c (kR 0) (dv n hn) from Entails.of_eq rfl) $$ Hx
  ihave R0 := R0 $$ [Hp Hx]
  · isplitl [Hp]
    · iexact Hp
    · iexact Hx
  ihave R1 := (rcv_step m c 1 hn hcn) $$ R1
  icases R1 with ⟨⟨Hp, Hc⟩, R1⟩
  ihave Hc := (Entails.of_eq (show (cred (tallyAt (rCell c 1 (dv n hn)) () (NK 1)) : sProp 𝕄) = cred (tallyAt (dCell c (.peer 3 (dv n hn))) () (credOf (.peer 3 (dv n hn)))) by
    rw [show credOf (.peer 3 (dv n hn)) = NK 1 from NK_R 1 (dv n hn)]; rfl)) $$ Hc
  iapply (wait_core m K c (.peer 3 (dv n hn)) (by simp) (r := 0) (by show 0 < if dv n hn = c then 0 else 1; rw [if_neg (ne_dv hn hcn)]; decide)
      (mayWait_end c _) hs2 (src := src2) (dst := srM o2 i2) ((srM_credit o2 i2).trans (NK_R 1 (dv n hn)).symm)) $$ [Hc HO Hp]
  · isplitr; · iexact HR
    isplitl [Hc]; · iexact Hc
    isplitl [HO]
    · iexact HO
    · iexact Hp
  iintro ⟨HO, Hp, -, Hx⟩
  ihave Hx := (show payOf m c (.peer 3 (dv n hn)) 0 ⊢ peerPay m c (kR 1) (dv n hn) from Entails.of_eq rfl) $$ Hx
  ihave R1 := R1 $$ [Hp Hx]
  · isplitl [Hp]
    · iexact Hp
    · iexact Hx
  ihave R0 := (rcv_look m c 0 hn hcn) $$ R0
  icases R0 with ⟨Hx, R0⟩
  ihave Hx := (show peerPay m c (kR 0) (dv n hn) ⊢ qPts c (dv n hn) (qrecvAt m c) from Entails.of_eq rfl) $$ Hx
  ihave Hx := (Entails.of_eq (q_pts c (dv n hn) i3 (qrecvAt m c)).symm) $$ Hx
  iapply (wp_load Variants.none (c : Thread nD τ) none Set.univ (m := (Memref.whole cc0_scratch4 : Memref sig .tc .vmem S16x256x128 .i16)) (f := qrecvAt m c) (S := (qM ![(dv n hn).val, 0, 0] i3).view.set)
    (by rw [show (qM ![(dv n hn).val, 0, 0] i3).view.set = _ from View.set_reshape _ _]; exact (View.set_slice _ _).symm.subset)) $$ Hx
  iintro Hx
  rw [show ((Memref.whole cc0_scratch4 : Memref sig .tc .vmem S16x256x128 .i16)).view.readAt (Elt F) (Rect.unit (s := S16x256x128) ![n, 0, 0] S1x256x128.size i3).toLoadRect (qrecvAt m c) = qload m c (dv n hn) from q_read m c (dv n hn) i3]
  ihave Hx := (Entails.of_eq (q_pts c (dv n hn) i3 (qrecvAt m c))) $$ Hx
  ihave Hx := (show qPts c (dv n hn) (qrecvAt m c) ⊢ peerPay m c (kR 0) (dv n hn) from Entails.of_eq rfl) $$ Hx
  ihave R0 := R0 $$ Hx
  ihave R1 := (rcv_look m c 1 hn hcn) $$ R1
  icases R1 with ⟨Hx, R1⟩
  ihave Hx := (show peerPay m c (kR 1) (dv n hn) ⊢ srPts c (dv n hn) (srecvAt m c) from Entails.of_eq rfl) $$ Hx
  unfold srPts
  iapply (wp_load Variants.none (c : Thread nD τ) none Set.univ (m := (Memref.whole cc0_scratch6 : Memref sig .tc .vmem S16x8x128 .f32)) (f := srecvAt m c) (S := (sR (dv n hn)).set)
    (sr_sub (dv n hn) i4)) $$ Hx
  iintro Hx
  rw [show ((Memref.whole cc0_scratch6 : Memref sig .tc .vmem S16x8x128 .f32)).view.readAt (Elt F) (Rect.unit (s := S16x8x128) ![n, 0, 0] S1x1x1.size i4).toLoadRect (srecvAt m c) = fun _ => bmax m (dv n hn) c.val from sr_read m c (dv n hn) i4]
  ihave Hx := (show ((c : Thread nD τ).loc cc0_scratch6 ↦[(sR (dv n hn)).set]{fullShare} srecvAt m c : sProp 𝕄) ⊢ peerPay m c (kR 1) (dv n hn) from Entails.of_eq rfl) $$ Hx
  ihave R1 := R1 $$ Hx
  iapply hk; unfold St
  isplitr; · iexact HR
  isplitl [HO]; · iexact HO
  isplitl [HF]; · iexact HF
  isplitl [HY]; · iexact HY
  isplitl [HN]; · iexact HN
  isplitl [R0 R1 R2 HZ]
  · isplitl [R0]; · iexact R0
    isplitl [R1]; · iexact R1
    isplitl [R2]; · iexact R2
    iexact HZ
  iexact HE

/-- The own rows of the result, in branch `oo`: where that is the device's own number they are loaded, rounded and stored. -/
theorem r_own (n : ℕ) (hn : n < 16) {Q : α → sProp 𝕄} {f : Prg F α} {cond : BitVec 1} (hc : cond = 1#1 ↔ c.val = n)
    {o1 : Fin 2 → ℕ} {i1} {o2 : Fin 2 → ℕ} {i2} {l1 : ∀ h : cond = 1#1, _} {l2 : ∀ h : cond = 1#1, _} {x1 : ∀ h : cond = 1#1, _} {x2 : ∀ h : cond = 1#1, _} {w : Vec F S256x128 .f32 → FVec F S256x128 .f32}
    (e1 : o1 = ![0, 128 * n]) (e2 : o2 = ![256 * n, 0]) (hw : w (yblock m c n) = requant m c (yblock m c n))
    (hk : St m K c nb bw xs nf nw 8 dd ss nd st ow na ra (n + 1) rr ro ww ⊢ WP c f Q) :
    St m K c nb bw xs nf nw 8 dd ss nd st ow na ra n rr ro ww ⊢ WP c (dite (cond = 1#1)
      (fun h => Prog.lift (.load (Memref.whole cc0_scratch2 : Memref sig .tc .vmem S256x2048 .f32) (Rect.unit (s := S256x2048) o1 S256x128.size i1).toLoadRect (l1 h)) >>= fun v =>
        Prog.lift (.load (Memref.whole cc0_stg0_0 : Memref sig .tc .vmem S4096x128 .f32) (Rect.unit (s := S4096x128) o2 S256x128.size i2).toLoadRect (l2 h)) >>= fun _ =>
        Prog.lift (.store (Memref.whole cc0_stg0_0 : Memref sig .tc .vmem S4096x128 .f32) (Rect.unit (s := S4096x128) o2 S256x128.size i2) (w v) Finset.univ (x1 h) (x2 h)) >>= fun _ => f)
      (fun _ => f)) Q := by
  by_cases h : cond = 1#1
  · rw [dif_pos h]
    have hcn : c.val = n := hc.mp h
    refine r_ycol n hn e1 ?_
    refine r_oload fun _ => ?_
    refine r_ownstore hn hcn e2 ?_ hk
    rw [hw]; unfold outBlock; rw [if_pos hcn.symm, hcn]
  · rw [dif_neg h]
    have hcn : c.val ≠ n := fun hx => h (hc.mpr hx)
    refine Entails.trans (Entails.of_eq ?_) hk
    unfold St OO
    simp only [show ∀ i : ℕ, (i = c.val ∧ c.val < n ∨ i ≠ c.val ∧ i < ro) ↔ (i = c.val ∧ c.val < n + 1 ∨ i ≠ c.val ∧ i < ro) from fun i => by omega]

/-- Peer `n`'s rows of the result: what arrived from it is scaled back, rounded and stored. -/
theorem r_recv (n : ℕ) (hn : n < 16) {Q : α → sProp 𝕄} {f : Prg F α} {cond : BitVec 1} (hc : cond = 1#1 ↔ c.val ≠ n) {β : Type} {P : Prg F β} {G : β → Prg F α} (v0 : β)
    (hP : ∀ G : β → Prg F α, c.val ≠ n → (St m K c 16 bw xs nf nw ny dd ss 16 st ow 16 ra oo (n + 1) n ww ⊢ WP c (G v0) Q) → St m K c 16 bw xs nf nw ny dd ss 16 st ow 16 ra oo n n ww ⊢ WP c (P >>= G) Q)
    (hG : c.val ≠ n → (St m K c 16 bw xs nf nw ny dd ss 16 st ow 16 ra oo (n + 1) (n + 1) ww ⊢ WP c f Q) → St m K c 16 bw xs nf nw ny dd ss 16 st ow 16 ra oo (n + 1) n ww ⊢ WP c (G v0) Q)
    (hk : St m K c 16 bw xs nf nw ny dd ss 16 st ow 16 ra oo (n + 1) (n + 1) ww ⊢ WP c f Q) :
    St m K c 16 bw xs nf nw ny dd ss 16 st ow 16 ra oo n n ww ⊢ WP c (dite (cond = 1#1) (fun _ => P >>= G) (fun _ => f)) Q := by
  by_cases h : cond = 1#1
  · rw [dif_pos h]
    have hcn : c.val ≠ n := hc.mp h
    exact hP G hcn (hG hcn hk)
  · rw [dif_neg h]
    have hcn : c.val = n := by by_contra hx; exact h (hc.mpr hx)
    refine Entails.trans (Entails.of_eq ?_) hk
    unfold St OO
    rw [rcv_skip m c 0 hcn, rcv_skip m c 1 hcn]
    simp only [show ∀ i : ℕ, (i = c.val ∧ c.val < oo ∨ i ≠ c.val ∧ i < n) ↔ (i = c.val ∧ c.val < oo ∨ i ≠ c.val ∧ i < n + 1) from fun i => by omega]

/-- The waits for the three transfers to peer `n` to be sent. -/
theorem r_sent (n : ℕ) (hn : n < 16) (hdd : n < dd) (hss : n < ss) {Q : α → sProp 𝕄} {f : Prg F α} {cond : BitVec 1} (hc : cond = 1#1 ↔ c.val ≠ n)
    {s1 s2 s3 : DmaSem sig} (hs1 : s1 = dmaS (.peer 0 (dv n hn))) (hs2 : s2 = dmaS (.peer 2 (dv n hn))) (hs3 : s3 = dmaS (.peer 4 (dv n hn)))
    {src1 : Memref sig .tc .vmem S256x128 .i16} {src2 src3 : Memref sig .tc .vmem S8x128 .f32} {o1 : Fin 2 → ℕ} {i1} {o2 : Fin 3 → ℕ} {i2}
    {a1 : ∀ h : cond = 1#1, _} {a2 : ∀ h : cond = 1#1, _} {b1 : ∀ h : cond = 1#1, _} {b2 : ∀ h : cond = 1#1, _} {d1 : ∀ h : cond = 1#1, _} {d2 : ∀ h : cond = 1#1, _}
    (hk : St m K c 16 1 xs nf nw ny dd ss 16 1 ow 16 ra oo rr ro (n + 1) ⊢ WP c f Q) :
    St m K c 16 1 xs nf nw ny dd ss 16 1 ow 16 ra oo rr ro n ⊢ WP c (dite (cond = 1#1)
      (fun h => Prog.lift (.waitDma2 s1 src1 (dM o1 i1) (a1 h) (a2 h)) >>= fun _ => Prog.lift (.waitDma2 s2 src2 (ssM o2 i2) (b1 h) (b2 h)) >>= fun _ =>
        Prog.lift (.waitDma2 s3 src3 (Memref.whole cc0_scratch7 : Memref sig .tc .vmem S8x128 .f32) (d1 h) (d2 h)) >>= fun _ => f)
      (fun _ => f)) Q := by
  by_cases h : cond = 1#1
  · rw [dif_pos h]
    have hcn : c.val ≠ n := hc.mp h
    simp only [Prog.lift, Prog.bind_op, Prog.bind_ret]
    unfold St
    iintro ⟨#HR, HO, HF, HY, ⟨H0, H1, H2, HA⟩, HV, HE⟩
    ihave H0 := (snd_wait c 0 (A0 m c dd) hn hcn) $$ H0
    icases H0 with ⟨⟨Hp, Hc⟩, H0⟩
    ihave Hc := (Entails.of_eq (show (cred (tallyAt (sCell c 0 (dv n hn)) () (NK 0)) : sProp 𝕄) = cred (tallyAt (dCell c (.peer 0 (dv n hn))) () (credOf (.peer 0 (dv n hn)))) by
      rw [show credOf (.peer 0 (dv n hn)) = NK 0 from NK_S 0 (dv n hn)]; rfl)) $$ Hc
    iapply (wait_core m K c (.peer 0 (dv n hn)) (by simp) (r := 0) (by show 0 < if dv n hn = c then 0 else 1; rw [if_neg (ne_dv hn hcn)]; decide)
        (mayWait_end c _) hs1 (src := src1) (dst := dM o1 i1) ((dM_credit o1 i1).trans (NK_S 0 (dv n hn)).symm)) $$ [Hc HO Hp]
    · isplitr; · iexact HR
      isplitl [Hc]; · iexact Hc
      isplitl [HO]
      · iexact HO
      · iexact Hp
    iintro ⟨HO, Hp, -, Hx⟩
    ihave Hx := (show payOf m c (.peer 0 (dv n hn)) 0 ⊢ A0 m c dd (dv n hn) from Entails.of_eq (if_pos hdd).symm) $$ Hx
    ihave H0 := H0 $$ [Hp Hx]
    · isplitl [Hp]
      · iexact Hp
      · iexact Hx
    ihave H1 := (snd_wait c 1 (A1 m c ss) hn hcn) $$ H1
    icases H1 with ⟨⟨Hp, Hc⟩, H1⟩
    ihave Hc := (Entails.of_eq (show (cred (tallyAt (sCell c 1 (dv n hn)) () (NK 1)) : sProp 𝕄) = cred (tallyAt (dCell c (.peer 2 (dv n hn))) () (credOf (.peer 2 (dv n hn)))) by
      rw [show credOf (.peer 2 (dv n hn)) = NK 1 from NK_S 1 (dv n hn)]; rfl)) $$ Hc
    iapply (wait_core m K c (.peer 2 (dv n hn)) (by simp) (r := 0) (by show 0 < if dv n hn = c then 0 else 1; rw [if_neg (ne_dv hn hcn)]; decide)
        (mayWait_end c _) hs2 (src := src2) (dst := ssM o2 i2) ((ssM_credit o2 i2).trans (NK_S 1 (dv n hn)).symm)) $$ [Hc HO Hp]
    · isplitr; · iexact HR
      isplitl [Hc]; · iexact Hc
      isplitl [HO]
      · iexact HO
      · iexact Hp
    iintro ⟨HO, Hp, -, Hx⟩
    ihave Hx := (show payOf m c (.peer 2 (dv n hn)) 0 ⊢ A1 m c ss (dv n hn) from Entails.of_eq (if_pos hss).symm) $$ Hx
    ihave H1 := H1 $$ [Hp Hx]
    · isplitl [Hp]
      · iexact Hp
      · iexact Hx
    ihave H2 := (snd_wait c 2 (A2 m c 1) hn hcn) $$ H2
    icases H2 with ⟨⟨Hp, Hc⟩, H2⟩
    ihave Hc := (Entails.of_eq (show (cred (tallyAt (sCell c 2 (dv n hn)) () (NK 2)) : sProp 𝕄) = cred (tallyAt (dCell c (.peer 4 (dv n hn))) () (credOf (.peer 4 (dv n hn)))) by
      rw [show credOf (.peer 4 (dv n hn)) = NK 2 from NK_S 2 (dv n hn)]; rfl)) $$ Hc
    iapply (wait_core m K c (.peer 4 (dv n hn)) (by simp) (r := 0) (by show 0 < if dv n hn = c then 0 else 1; rw [if_neg (ne_dv hn hcn)]; decide)
        (mayWait_end c _) hs3 (src := src3) (dst := (Memref.whole cc0_scratch7 : Memref sig .tc .vmem S8x128 .f32)) ((asM_credit).trans (NK_S 2 (dv n hn)).symm)) $$ [Hc HO Hp]
    · isplitr; · iexact HR
      isplitl [Hc]; · iexact Hc
      isplitl [HO]
      · iexact HO
      · iexact Hp
    iintro ⟨HO, Hp, -, Hx⟩
    ihave Hx := (show payOf m c (.peer 4 (dv n hn)) 0 ⊢ A2 m c 1 (dv n hn) from Entails.of_eq (if_pos rfl).symm) $$ Hx
    ihave H2 := H2 $$ [Hp Hx]
    · isplitl [Hp]
      · iexact Hp
      · iexact Hx
    iapply hk; unfold St
    isplitr; · iexact HR
    isplitl [HO]; · iexact HO
    isplitl [HF]; · iexact HF
    isplitl [HY]; · iexact HY
    isplitl [H0 H1 H2 HA]
    · isplitl [H0]; · iexact H0
      isplitl [H1]; · iexact H1
      isplitl [H2]; · iexact H2
      iexact HA
    isplitl [HV]; · iexact HV
    iexact HE
  · rw [dif_neg h]
    have hcn : c.val = n := by by_contra hx; exact h (hc.mpr hx)
    refine Entails.trans (Entails.of_eq ?_) hk
    unfold St
    rw [snd_wait_skip c 0 (A0 m c dd) hcn, snd_wait_skip c 1 (A1 m c ss) hcn, snd_wait_skip c 2 (A2 m c 1) hcn]

/-- All sixteen maxima are loaded. -/
theorem r_arall {Q : α → sProp 𝕄} {f : Vec F S16x8x128 .f32 → Prg F α} {h hl}
    (hk : St m K c nb bw xs nf nw ny dd ss nd st 1 na 16 oo rr ro ww ⊢ WP c (f (arecvAt m c)) Q) :
    St m K c nb bw xs nf nw ny dd ss nd st 1 na 16 oo rr ro ww ⊢ WP c (Prog.lift (.load (Memref.whole cc0_scratch8 : Memref sig .tc .vmem S16x8x128 .f32) (Rect.unit (s := S16x8x128) ![0, 0, 0] S16x8x128.size h).toLoadRect hl) >>= f) Q := by
  simp only [Prog.lift, Prog.bind_op, Prog.bind_ret]
  unfold St
  iintro ⟨#HR, HO, HF, HY, HN, ⟨R0, R1, R2, HZ⟩, HE⟩
  ihave HX := (ar_open m c) $$ [R2 HZ]
  · isplitl [R2]
    · iexact R2
    · iexact HZ
  icases HX with ⟨HX, HC⟩
  iapply (wp_load Variants.none (c : Thread nD τ) none Set.univ (m := (Memref.whole cc0_scratch8 : Memref sig .tc .vmem S16x8x128 .f32)) (f := arecvAt m c) (S := Finset.univ) (Finset.subset_univ _)) $$ HX
  iintro HX
  rw [ar_read h (arecvAt m c)]
  ihave HX := (ar_close m c) $$ [HX HC]
  · isplitl [HX]
    · iexact HX
    · iexact HC
  icases HX with ⟨R2, HZ⟩
  iapply hk; unfold St
  isplitr; · iexact HR
  isplitl [HO]; · iexact HO
  isplitl [HF]; · iexact HF
  isplitl [HY]; · iexact HY
  isplitl [HN]; · iexact HN
  isplitl [R0 R1 R2 HZ]
  · isplitl [R0]; · iexact R0
    isplitl [R1]; · iexact R1
    isplitl [R2]; · iexact R2
    iexact HZ
  iexact HE

end Cert.KernelIdealProof

end
-- ==== Proof.Conds.lean ====
/-
The branch conditions, and the semaphores the slices name.
-/
module

public import proofs.«01_k».proof.Proof.Steps3

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The body's own number as it computes it. -/
def V2 (c : Dev nD) : BitVec 32 := Scalar.remsi (Scalar.divsi (Dev.word c) 1#32) 16#32

/-- The body's test for another device. -/
theorem word_ne : ∀ c n : Dev nD, Scalar.cmpi .ne (Scalar.extui (Scalar.cmpi .ne (V2 c) (BitVec.ofNat 32 n.val))) 0#32 = 1#1 ↔ c.val ≠ n.val := by
  decide +kernel

/-- The body's test for itself. -/
theorem word_eq : ∀ c n : Dev nD, Scalar.cmpi .ne (Scalar.extui (Scalar.cmpi .eq (V2 c) (BitVec.ofNat 32 n.val))) 0#32 = 1#1 ↔ c.val = n.val := by
  decide +kernel

/-- Every device has its semaphore in an array. -/
theorem sem_inb : ∀ (p : Dev nD) (a : Fin 1), (![p.val] : Fin 1 → ℕ) a + S1.size a ≤ S16.size a := by decide

/-- A peer's semaphore in array 11. -/
theorem sem_0 (p : Dev nD) {o : Fin 1 → ℕ} (e : o = ![p.val]) (h) (hq) :
    (((cc0_scratch11 : DmaSems sig S16).slice (Rect.unit (s := S16) o S1.size h)).squeeze S_ hq).sem = dmaS (.peer 0 p) := by
  subst e
  have key : ∀ p : Dev nD, (((cc0_scratch11 : DmaSems sig S16).slice (Rect.unit (s := S16) ![p.val] S1.size (sem_inb p))).squeeze S_ squeezes_S1_S_).sem = dmaS (.peer 0 p) := by
    decide +kernel
  exact key p

/-- A peer's semaphore in array 12. -/
theorem sem_1 (p : Dev nD) {o : Fin 1 → ℕ} (e : o = ![p.val]) (h) (hq) :
    (((cc0_scratch12 : DmaSems sig S16).slice (Rect.unit (s := S16) o S1.size h)).squeeze S_ hq).sem = dmaS (.peer 1 p) := by
  subst e
  have key : ∀ p : Dev nD, (((cc0_scratch12 : DmaSems sig S16).slice (Rect.unit (s := S16) ![p.val] S1.size (sem_inb p))).squeeze S_ squeezes_S1_S_).sem = dmaS (.peer 1 p) := by
    decide +kernel
  exact key p

/-- A peer's semaphore in array 13. -/
theorem sem_2 (p : Dev nD) {o : Fin 1 → ℕ} (e : o = ![p.val]) (h) (hq) :
    (((cc0_scratch13 : DmaSems sig S16).slice (Rect.unit (s := S16) o S1.size h)).squeeze S_ hq).sem = dmaS (.peer 2 p) := by
  subst e
  have key : ∀ p : Dev nD, (((cc0_scratch13 : DmaSems sig S16).slice (Rect.unit (s := S16) ![p.val] S1.size (sem_inb p))).squeeze S_ squeezes_S1_S_).sem = dmaS (.peer 2 p) := by
    decide +kernel
  exact key p

/-- A peer's semaphore in array 14. -/
theorem sem_3 (p : Dev nD) {o : Fin 1 → ℕ} (e : o = ![p.val]) (h) (hq) :
    (((cc0_scratch14 : DmaSems sig S16).slice (Rect.unit (s := S16) o S1.size h)).squeeze S_ hq).sem = dmaS (.peer 3 p) := by
  subst e
  have key : ∀ p : Dev nD, (((cc0_scratch14 : DmaSems sig S16).slice (Rect.unit (s := S16) ![p.val] S1.size (sem_inb p))).squeeze S_ squeezes_S1_S_).sem = dmaS (.peer 3 p) := by
    decide +kernel
  exact key p

/-- A peer's semaphore in array 15. -/
theorem sem_4 (p : Dev nD) {o : Fin 1 → ℕ} (e : o = ![p.val]) (h) (hq) :
    (((cc0_scratch15 : DmaSems sig S16).slice (Rect.unit (s := S16) o S1.size h)).squeeze S_ hq).sem = dmaS (.peer 4 p) := by
  subst e
  have key : ∀ p : Dev nD, (((cc0_scratch15 : DmaSems sig S16).slice (Rect.unit (s := S16) ![p.val] S1.size (sem_inb p))).squeeze S_ squeezes_S1_S_).sem = dmaS (.peer 4 p) := by
    decide +kernel
  exact key p

/-- A peer's semaphore in array 16. -/
theorem sem_5 (p : Dev nD) {o : Fin 1 → ℕ} (e : o = ![p.val]) (h) (hq) :
    (((cc0_scratch16 : DmaSems sig S16).slice (Rect.unit (s := S16) o S1.size h)).squeeze S_ hq).sem = dmaS (.peer 5 p) := by
  subst e
  have key : ∀ p : Dev nD, (((cc0_scratch16 : DmaSems sig S16).slice (Rect.unit (s := S16) ![p.val] S1.size (sem_inb p))).squeeze S_ squeezes_S1_S_).sem = dmaS (.peer 5 p) := by
    decide +kernel
  exact key p

end Cert.KernelIdealProof

end
-- ==== Proof.Pays.lean ====
/-
The values the body computes between its memory operations, by name.
-/
module

public import proofs.«01_k».proof.Proof.Vals
public import Idealize.ShloMosaic.Lib.Pipeline.Value

@[expose] public section

set_option maxRecDepth 16384

noncomputable section

namespace Cert.KernelIdealProof

open Cert.KernelIdeal Cert.KernelIdeal.Gen
open Idealize.ShloMosaic
open Idealize.ShloMosaic.TcCoe

variable {F : FTy → Type} [FloatOps F]

variable (m : (ℓ : Loc nD τ sig) → Buf (Elt F) ℓ) (c : Dev nD)

/-- A block's steps, clipped from below. -/
def clipLow (b : FVec F S256x128 .f32) : FVec F S256x128 .f32 := maximumf (broadcast S256x128 (Scalar.ofBits .f32 0xC6FFFE00#32)) (steps16 b)
/-- A block's steps, clipped. -/
def clip16 (b : FVec F S256x128 .f32) : FVec F S256x128 .f32 := minimumf (broadcast S256x128 (Scalar.ofBits .f32 0x46FFFE00#32)) (clipLow b)
/-- A number in every element of a tile. -/
def tile (a : F .f32) : FVec F S8x128 .f32 := broadcast S8x128 a
/-- A number in every element of a block. -/
def spread (a : F .f32) : FVec F S256x128 .f32 := broadcast S256x128 a
/-- A largest absolute value kept away from zero. -/
def atLeast (a : F .f32) : F .f32 := Scalar.maximumf a (Scalar.ofBits .f32 0x0DA24260#32)
/-- A block's absolute values, with a unit leading axis. -/
def absCast (b : FVec F S256x128 .f32) : FVec F S1x256x128 .f32 := shapeCast S1x256x128 (absf b) shapeCasts_S256x128_S1x256x128

/-- A number spread over a tile, read through a unit leading axis. -/
theorem cast_tile (a : F .f32) (h) : shapeCast S1x8x128 (broadcast S8x128 a) h = fun _ => a := rfl
/-- The same from a named tile. -/
theorem cast_tile1 (a : F .f32) (h) : shapeCast S1x8x128 (tile a) h = fun _ => a := rfl

/-- What the body stores. -/
theorem st_18 : k0_pay18 (X m c) (wchunk m c 0) = (ychunk m c 0) := by
  exact shapeCast_self _ _
/-- What the body hands on. -/
theorem rt_19_0 : k0_pay17 (X m c) (wchunk m c 0) = (ychunk m c 0) := by
  rfl
/-- What the body hands on. -/
theorem rt_19_1 : k0_pay20 (X m c) (wchunk m c 0) = (bmax m c 0) := by
  rfl
/-- What the body hands on. -/
theorem rt_19_2 : k0_pay21 (X m c) (wchunk m c 0) = (runmax m c 1) := by
  rfl
/-- What the body hands on. -/
theorem rt_19_4 : k0_pay22 (X m c) (wchunk m c 0) = (clipLow (yblock m c 0)) := by
  rfl
/-- What the body stores. -/
theorem st_23 : k0_pay23 (Scalar.ofBits .f32 0x46FFFE00#32) (clipLow (yblock m c 0)) = (quant16 (yblock m c 0)) := by
  exact shapeCast_self _ _
/-- What the body stores. -/
theorem st_24 : k0_pay24 (bmax m c 0) = (fun _ => bmax m c 0) := by
  exact cast_tile _ _
/-- What the body stores. -/
theorem st_28 : k0_pay28 (ychunk m c 0) = (quant16 (yblock m c 1)) := by
  exact shapeCast_self _ _
/-- What the body stores. -/
theorem st_29 : k0_pay29 (ychunk m c 0) = (fun _ => bmax m c 1) := by
  exact cast_tile _ _
/-- What the body hands on. -/
theorem rt_20_0 : k0_pay27 (ychunk m c 0) (runmax m c 1) = (runmax m c 2) := by
  rfl
/-- What the body stores. -/
theorem st_31 : k0_pay31 (X m c) (wchunk m c 1) = (ychunk m c 1) := by
  exact shapeCast_self _ _
/-- What the body hands on. -/
theorem rt_21_0 : k0_pay30 (X m c) (wchunk m c 1) = (ychunk m c 1) := by
  rfl
/-- What the body hands on. -/
theorem rt_21_1 : k0_pay33 (X m c) (wchunk m c 1) = (bmax m c 2) := by
  rfl
/-- What the body hands on. -/
theorem rt_21_2 : k0_pay34 (runmax m c 2) (X m c) (wchunk m c 1) = (runmax m c 3) := by
  rfl
/-- What the body hands on. -/
theorem rt_21_3 : k0_pay35 (X m c) (wchunk m c 1) = (steps16 (yblock m c 2)) := by
  rfl
/-- What the body stores. -/
theorem st_36 : k0_pay36 (steps16 (yblock m c 2)) = (quant16 (yblock m c 2)) := by
  exact shapeCast_self _ _
/-- What the body stores. -/
theorem st_37 : k0_pay37 (bmax m c 2) = (fun _ => bmax m c 2) := by
  exact cast_tile _ _
/-- What the body stores. -/
theorem st_41 : k0_pay41 (ychunk m c 1) = (quant16 (yblock m c 3)) := by
  exact shapeCast_self _ _
/-- What the body hands on. -/
theorem rt_22_0 : k0_pay40 (ychunk m c 1) (runmax m c 3) = (runmax m c 4) := by
  rfl
/-- What the body hands on. -/
theorem rt_22_1 : k0_pay42 (ychunk m c 1) = (tile (bmax m c 3)) := by
  rfl
/-- What the body stores. -/
theorem st_43 : k0_pay43 (tile (bmax m c 3)) = (fun _ => bmax m c 3) := by
  exact cast_tile1 _ _
/-- What the body stores. -/
theorem st_45 : k0_pay45 (X m c) (wchunk m c 2) = (ychunk m c 2) := by
  exact shapeCast_self _ _
/-- What the body hands on. -/
theorem rt_23_0 : k0_pay44 (X m c) (wchunk m c 2) = (ychunk m c 2) := by
  rfl
/-- What the body hands on. -/
theorem rt_23_1 : k0_pay46 (X m c) (wchunk m c 2) = (yblock m c 4) := by
  rfl
/-- What the body hands on. -/
theorem rt_23_2 : k0_pay47 (X m c) (wchunk m c 2) = (bmax m c 4) := by
  rfl
/-- What the body hands on. -/
theorem rt_23_3 : k0_pay48 (runmax m c 4) (X m c) (wchunk m c 2) = (runmax m c 5) := by
  rfl
/-- What the body hands on. -/
theorem rt_23_4 : k0_pay49 (X m c) (wchunk m c 2) = (atLeast (bmax m c 4)) := by
  rfl
/-- What the body stores. -/
theorem st_50 : k0_pay50 (yblock m c 4) (atLeast (bmax m c 4)) (Scalar.ofBits .f32 0x46FFFE00#32) = (quant16 (yblock m c 4)) := by
  exact shapeCast_self _ _
/-- What the body stores. -/
theorem st_51 : k0_pay51 (bmax m c 4) = (fun _ => bmax m c 4) := by
  exact cast_tile _ _
/-- What the body stores. -/
theorem st_55 : k0_pay55 (ychunk m c 2) = (quant16 (yblock m c 5)) := by
  exact shapeCast_self _ _
/-- What the body hands on. -/
theorem rt_24_0 : k0_pay54 (ychunk m c 2) (runmax m c 5) = (runmax m c 6) := by
  rfl
/-- What the body hands on. -/
theorem rt_24_1 : k0_pay56 (ychunk m c 2) = (tile (bmax m c 5)) := by
  rfl
/-- What the body stores. -/
theorem st_57 : k0_pay57 (tile (bmax m c 5)) = (fun _ => bmax m c 5) := by
  exact cast_tile1 _ _
/-- What the body stores. -/
theorem st_59 : k0_pay59 (X m c) (wchunk m c 3) = (ychunk m c 3) := by
  exact shapeCast_self _ _
/-- What the body hands on. -/
theorem rt_25_0 : k0_pay58 (X m c) (wchunk m c 3) = (ychunk m c 3) := by
  rfl
/-- What the body hands on. -/
theorem rt_25_1 : k0_pay60 (X m c) (wchunk m c 3) = (yblock m c 6) := by
  rfl
/-- What the body hands on. -/
theorem rt_25_2 : k0_pay61 (X m c) (wchunk m c 3) = (bmax m c 6) := by
  rfl
/-- What the body stores. -/
theorem st_62 : k0_pay62 (yblock m c 6) (bmax m c 6) = (quant16 (yblock m c 6)) := by
  exact shapeCast_self _ _
/-- What the body stores. -/
theorem st_63 : k0_pay63 (bmax m c 6) = (fun _ => bmax m c 6) := by
  exact cast_tile _ _
/-- What the body hands on. -/
theorem rt_26_0 : k0_pay65 (ychunk m c 3) = (bmax m c 7) := by
  rfl
/-- What the body hands on. -/
theorem rt_26_1 : k0_pay66 (runmax m c 6) (ychunk m c 3) (bmax m c 6) = (runmax m c 8) := by
  rfl
/-- What the body hands on. -/
theorem rt_26_2 : k0_pay67 (ychunk m c 3) = (quant16 (yblock m c 7)) := by
  rfl
/-- What the body stores. -/
theorem st_68 : k0_pay68 (quant16 (yblock m c 7)) = (quant16 (yblock m c 7)) := by
  exact shapeCast_self _ _
/-- What the body stores. -/
theorem st_69 : k0_pay69 (bmax m c 7) = (fun _ => bmax m c 7) := by
  exact cast_tile _ _
/-- What the body stores. -/
theorem st_71 : k0_pay71 (X m c) (wchunk m c 4) = (ychunk m c 4) := by
  exact shapeCast_self _ _
/-- What the body hands on. -/
theorem rt_27_0 : k0_pay70 (X m c) (wchunk m c 4) = (ychunk m c 4) := by
  rfl
/-- What the body hands on. -/
theorem rt_27_1 : k0_pay72 (X m c) (wchunk m c 4) = (yblock m c 8) := by
  rfl
/-- What the body hands on. -/
theorem rt_27_2 : k0_pay73 (X m c) (wchunk m c 4) = (absCast (yblock m c 8)) := by
  rfl
/-- What the body stores. -/
theorem st_75 : k0_pay75 (yblock m c 8) (absCast (yblock m c 8)) = (quant16 (yblock m c 8)) := by
  exact shapeCast_self _ _
/-- What the body stores. -/
theorem st_76 : k0_pay76 (absCast (yblock m c 8)) = (fun _ => bmax m c 8) := by
  exact cast_tile _ _
/-- What the body hands on. -/
theorem rt_28_0 : k0_pay78 (ychunk m c 4) = (bmax m c 9) := by
  rfl
/-- What the body hands on. -/
theorem rt_28_1 : k0_pay79 (runmax m c 8) (ychunk m c 4) (absCast (yblock m c 8)) = (runmax m c 10) := by
  rfl
/-- What the body hands on. -/
theorem rt_28_2 : k0_pay80 (ychunk m c 4) = (clip16 (yblock m c 9)) := by
  rfl
/-- What the body stores. -/
theorem st_81 : k0_pay81 (clip16 (yblock m c 9)) = (quant16 (yblock m c 9)) := by
  exact shapeCast_self _ _
/-- What the body stores. -/
theorem st_82 : k0_pay82 (bmax m c 9) = (fun _ => bmax m c 9) := by
  exact cast_tile _ _
/-- What the body hands on. -/
theorem rt_29_0 : k0_pay83 (X m c) (wchunk m c 5) = (ychunk m c 5) := by
  rfl
/-- What the body hands on. -/
theorem rt_29_1 : k0_pay84 (X m c) (wchunk m c 5) = (ychunk m c 5) := by
  exact shapeCast_self _ _
/-- What the body stores. -/
theorem st_87 : k0_pay87 (ychunk m c 5) = (quant16 (yblock m c 10)) := by
  exact shapeCast_self _ _
/-- What the body stores. -/
theorem st_88 : k0_pay88 (ychunk m c 5) = (fun _ => bmax m c 10) := by
  exact cast_tile _ _
/-- What the body hands on. -/
theorem rt_30_0 : k0_pay90 (ychunk m c 5) = (bmax m c 11) := by
  rfl
/-- What the body hands on. -/
theorem rt_30_1 : k0_pay91 (runmax m c 10) (ychunk m c 5) = (runmax m c 12) := by
  rfl
/-- What the body hands on. -/
theorem rt_30_2 : k0_pay92 (ychunk m c 5) = (steps16 (yblock m c 11)) := by
  rfl
/-- What the body stores. -/
theorem st_93 : k0_pay93 (steps16 (yblock m c 11)) (Scalar.ofBits .f32 0xC6FFFE00#32) (Scalar.ofBits .f32 0x46FFFE00#32) = (quant16 (yblock m c 11)) := by
  exact shapeCast_self _ _
/-- What the body stores. -/
theorem st_94 : k0_pay94 (bmax m c 11) = (fun _ => bmax m c 11) := by
  exact cast_tile _ _
/-- What the body hands on. -/
theorem rt_31_0 : k0_pay95 (X m c) (wchunk m c 6) = (ychunk m c 6) := by
  rfl
/-- What the body stores. -/
theorem st_96 : k0_pay96 (ychunk m c 6) = (ychunk m c 6) := by
  exact shapeCast_self _ _
/-- What the body stores. -/
theorem st_99 : k0_pay99 (ychunk m c 6) = (quant16 (yblock m c 12)) := by
  exact shapeCast_self _ _
/-- What the body stores. -/
theorem st_100 : k0_pay100 (ychunk m c 6) = (fun _ => bmax m c 12) := by
  exact cast_tile _ _
/-- What the body hands on. -/
theorem rt_32_0 : k0_pay101 (ychunk m c 6) = (yblock m c 13) := by
  rfl
/-- What the body hands on. -/
theorem rt_32_1 : k0_pay102 (ychunk m c 6) = (bmax m c 13) := by
  rfl
/-- What the body hands on. -/
theorem rt_32_2 : k0_pay103 (runmax m c 12) (ychunk m c 6) = (runmax m c 14) := by
  rfl
/-- What the body hands on. -/
theorem rt_32_3 : k0_pay104 (ychunk m c 6) = (spread (inv16 (bmax m c 13))) := by
  rfl
/-- What the body stores. -/
theorem st_105 : k0_pay105 (yblock m c 13) (spread (inv16 (bmax m c 13))) = (quant16 (yblock m c 13)) := by
  exact shapeCast_self _ _
/-- What the body stores. -/
theorem st_106 : k0_pay106 (bmax m c 13) = (fun _ => bmax m c 13) := by
  exact cast_tile _ _
/-- What the body stores. -/
theorem st_108 : k0_pay108 (X m c) (wchunk m c 7) = (ychunk m c 7) := by
  exact shapeCast_self _ _
/-- What the body hands on. -/
theorem rt_33_0 : k0_pay107 (X m c) (wchunk m c 7) = (ychunk m c 7) := by
  rfl
/-- What the body hands on. -/
theorem rt_33_1 : k0_pay109 (X m c) (wchunk m c 7) = (yblock m c 14) := by
  rfl
/-- What the body hands on. -/
theorem rt_33_2 : k0_pay110 (X m c) (wchunk m c 7) = (absCast (yblock m c 14)) := by
  rfl
/-- What the body stores. -/
theorem st_112 : k0_pay112 (yblock m c 14) (absCast (yblock m c 14)) = (quant16 (yblock m c 14)) := by
  exact shapeCast_self _ _
/-- What the body stores. -/
theorem st_113 : k0_pay113 (absCast (yblock m c 14)) = (fun _ => bmax m c 14) := by
  exact cast_tile _ _
/-- What the body hands on. -/
theorem rt_34_0 : k0_pay115 (ychunk m c 7) = (bmax m c 15) := by
  rfl
/-- What the body hands on. -/
theorem rt_34_1 : k0_pay116 (runmax m c 14) (ychunk m c 7) (absCast (yblock m c 14)) = (runmax m c 16) := by
  rfl
/-- What the body hands on. -/
theorem rt_34_2 : k0_pay117 (ychunk m c 7) = (clip16 (yblock m c 15)) := by
  rfl
/-- What the body stores. -/
theorem st_118 : k0_pay118 (clip16 (yblock m c 15)) = (quant16 (yblock m c 15)) := by
  exact shapeCast_self _ _
/-- What the body stores. -/
theorem st_119 : k0_pay119 (bmax m c 15) = (fun _ => bmax m c 15) := by
  exact cast_tile _ _
/-- What the body stores. -/
theorem st_120 : k0_pay120 (runmax m c 16) = asendAt m c := by
  exact (shapeCast_self _ _).trans rfl
/-- What the body stores. -/
theorem st_121 : k0_pay121 (runmax m c 16) = fun _ => stripeMax m c := by
  exact (shapeCast_self _ _).trans rfl

end Cert.KernelIdealProof

end
-- ==== Proof.Receives.lean ====
/-
Receiving and unpacking the other devices' blocks.
-/
module

public import proofs.«01_k».proof.Proof.Conds
public import proofs.«01_k».proof.Proof.Pays

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 100 → ℕ} {c : Dev nD}

/-- A finished program. -/
theorem r_pure {α : Type} {P : sProp 𝕄} {Q : α → sProp 𝕄} {a : α} (hQ : P ⊢ Q a) : P ⊢ WP c (pure a) Q := by
  unfold WP; rw [wp_pure]; exact hQ.trans fupd_intro

/-- A program that goes on with what another returns. -/
theorem r_bind {α β : Type} {P : sProp 𝕄} {Q : β → sProp 𝕄} {p : Prg F α} {f : α → Prg F β} (h : P ⊢ WP c p (fun x => WP c (f x) Q)) : P ⊢ WP c (p >>= f) Q := by
  unfold WP at *; rw [wp_bind]; exact h

/-- A received block without its unit axis. -/
theorem cast_qload (p : Dev nD) (h) : shapeCast S256x128 (qload m c p) h = quant16 (yblock m p c.val) := by
  funext j
  have h0 : (j 0).val < 256 := (j 0).isLt
  have h1 : (j 1).val < 128 := (j 1).isLt
  rw [shapeCast_apply (qload m c p) h j (fun | ⟨0, _⟩ => (⟨0, by decide⟩ : Fin 1) | ⟨1, _⟩ => (⟨(j 0).val, h0⟩ : Fin 256) | ⟨2, _⟩ => (⟨(j 1).val, h1⟩ : Fin 128)) (by
    rw [Shape.rowMajor_val_three, Shape.rowMajor_val_two]
    show (0 * 256 + (j 0).val) * 128 + (j 1).val = (j 0).val * 128 + (j 1).val
    omega)]
  unfold qload
  refine congrArg _ ?_
  funext a
  match a with
  | ⟨0, _⟩ => exact Fin.ext (Nat.mod_eq_of_lt h0)
  | ⟨1, _⟩ => exact Fin.ext (Nat.mod_eq_of_lt h1)

/-- What the body makes of a received block. -/
def unpacked (t s a : F .f32) (q : IVec S256x128 16) : FVec F S256x128 .f32 :=
  mulf (minimumf (broadcast S256x128 (Scalar.ofBits .f32 0x42FE0000#32)) (maximumf (broadcast S256x128 (Scalar.ofBits .f32 0xC2FE0000#32)) (roundeven (mulf (mulf (sitofp .f32 q) (broadcast S256x128 (Scalar.mulf a (Scalar.ofBits .f32 0x38000100#32)))) (broadcast S256x128 s))))) (broadcast S256x128 t)

/-- The body's result block off the diagonal. -/
theorem outBlock_off (p : ℕ) (d : Dev nD) (hd : devOf p = d) (hcn : c.val ≠ p) (h) :
    outBlock m c p = unpacked (scale8 m c) (inv8 m c) (bmax m d c.val) (shapeCast S256x128 (qload m c d) h) := by
  rw [cast_qload]
  unfold outBlock
  rw [if_neg (fun e => hcn e.symm), hd]
  rfl

section

variable (m) (c)

/-- What the body stores for row block 0. -/
theorem pay_0 (t s a : F .f32) (q : Vec F S1x256x128 .i16) : k0_pay141 t (Scalar.ofBits .f32 0x42FE0000#32) (k0_pay1 s q (fun _ => a)) = unpacked t s a (shapeCast S256x128 q shapeCasts_S1x256x128_S256x128) := rfl

/-- What the body stores for row block 0. -/
theorem recv_0 (hcn : c.val ≠ 0) : k0_pay141 (scale8 m c) (Scalar.ofBits .f32 0x42FE0000#32) (k0_pay1 (inv8 m c) (qload m c (dv 0 (by decide))) (fun _ => bmax m (dv 0 (by decide)) c.val)) = outBlock m c 0 :=
  (pay_0 _ _ _ _).trans (outBlock_off 0 (dv 0 (by decide)) (by decide) hcn _).symm

/-- What the body stores for row block 1. -/
theorem pay_1 (t s a : F .f32) (q : Vec F S1x256x128 .i16) : k0_pay142 t (Scalar.ofBits .f32 0x42FE0000#32) (k0_pay2 s q (fun _ => a)) = unpacked t s a (shapeCast S256x128 q shapeCasts_S1x256x128_S256x128) := rfl

/-- What the body stores for row block 1. -/
theorem recv_1 (hcn : c.val ≠ 1) : k0_pay142 (scale8 m c) (Scalar.ofBits .f32 0x42FE0000#32) (k0_pay2 (inv8 m c) (qload m c (dv 1 (by decide))) (fun _ => bmax m (dv 1 (by decide)) c.val)) = outBlock m c 1 :=
  (pay_1 _ _ _ _).trans (outBlock_off 1 (dv 1 (by decide)) (by decide) hcn _).symm

/-- What the body stores for row block 2. -/
theorem pay_2 (t s a : F .f32) (q : Vec F S1x256x128 .i16) : k0_pay143 t (Scalar.ofBits .f32 0x42FE0000#32) (k0_pay3 s q (fun _ => a)) = unpacked t s a (shapeCast S256x128 q shapeCasts_S1x256x128_S256x128) := rfl

/-- What the body stores for row block 2. -/
theorem recv_2 (hcn : c.val ≠ 2) : k0_pay143 (scale8 m c) (Scalar.ofBits .f32 0x42FE0000#32) (k0_pay3 (inv8 m c) (qload m c (dv 2 (by decide))) (fun _ => bmax m (dv 2 (by decide)) c.val)) = outBlock m c 2 :=
  (pay_2 _ _ _ _).trans (outBlock_off 2 (dv 2 (by decide)) (by decide) hcn _).symm

/-- What the body stores for row block 3. -/
theorem pay_3 (t s a : F .f32) (q : Vec F S1x256x128 .i16) : k0_pay144 t (Scalar.ofBits .f32 0x42FE0000#32) (k0_pay4 s q (fun _ => a)) = unpacked t s a (shapeCast S256x128 q shapeCasts_S1x256x128_S256x128) := rfl

/-- What the body stores for row block 3. -/
theorem recv_3 (hcn : c.val ≠ 3) : k0_pay144 (scale8 m c) (Scalar.ofBits .f32 0x42FE0000#32) (k0_pay4 (inv8 m c) (qload m c (dv 3 (by decide))) (fun _ => bmax m (dv 3 (by decide)) c.val)) = outBlock m c 3 :=
  (pay_3 _ _ _ _).trans (outBlock_off 3 (dv 3 (by decide)) (by decide) hcn _).symm

/-- What the body stores for row block 4. -/
theorem pay_4 (t s a : F .f32) (q : Vec F S1x256x128 .i16) : k0_pay145 t (Scalar.ofBits .f32 0x42FE0000#32) (k0_pay5 s q (fun _ => a)) = unpacked t s a (shapeCast S256x128 q shapeCasts_S1x256x128_S256x128) := rfl

/-- What the body stores for row block 4. -/
theorem recv_4 (hcn : c.val ≠ 4) : k0_pay145 (scale8 m c) (Scalar.ofBits .f32 0x42FE0000#32) (k0_pay5 (inv8 m c) (qload m c (dv 4 (by decide))) (fun _ => bmax m (dv 4 (by decide)) c.val)) = outBlock m c 4 :=
  (pay_4 _ _ _ _).trans (outBlock_off 4 (dv 4 (by decide)) (by decide) hcn _).symm

/-- What the body stores for row block 5. -/
theorem pay_5 (t s a : F .f32) (q : Vec F S1x256x128 .i16) : k0_pay146 t (Scalar.ofBits .f32 0x42FE0000#32) (k0_pay6 s q (fun _ => a)) = unpacked t s a (shapeCast S256x128 q shapeCasts_S1x256x128_S256x128) := rfl

/-- What the body stores for row block 5. -/
theorem recv_5 (hcn : c.val ≠ 5) : k0_pay146 (scale8 m c) (Scalar.ofBits .f32 0x42FE0000#32) (k0_pay6 (inv8 m c) (qload m c (dv 5 (by decide))) (fun _ => bmax m (dv 5 (by decide)) c.val)) = outBlock m c 5 :=
  (pay_5 _ _ _ _).trans (outBlock_off 5 (dv 5 (by decide)) (by decide) hcn _).symm

/-- What the body stores for row block 6. -/
theorem pay_6 (t s a : F .f32) (q : Vec F S1x256x128 .i16) : k0_pay147 t (Scalar.ofBits .f32 0x42FE0000#32) (k0_pay7 s q (fun _ => a)) = unpacked t s a (shapeCast S256x128 q shapeCasts_S1x256x128_S256x128) := rfl

/-- What the body stores for row block 6. -/
theorem recv_6 (hcn : c.val ≠ 6) : k0_pay147 (scale8 m c) (Scalar.ofBits .f32 0x42FE0000#32) (k0_pay7 (inv8 m c) (qload m c (dv 6 (by decide))) (fun _ => bmax m (dv 6 (by decide)) c.val)) = outBlock m c 6 :=
  (pay_6 _ _ _ _).trans (outBlock_off 6 (dv 6 (by decide)) (by decide) hcn _).symm

/-- What the body stores for row block 7. -/
theorem pay_7 (t s a : F .f32) (q : Vec F S1x256x128 .i16) : k0_pay148 t (Scalar.ofBits .f32 0x42FE0000#32) (k0_pay8 s q (fun _ => a)) = unpacked t s a (shapeCast S256x128 q shapeCasts_S1x256x128_S256x128) := rfl

/-- What the body stores for row block 7. -/
theorem recv_7 (hcn : c.val ≠ 7) : k0_pay148 (scale8 m c) (Scalar.ofBits .f32 0x42FE0000#32) (k0_pay8 (inv8 m c) (qload m c (dv 7 (by decide))) (fun _ => bmax m (dv 7 (by decide)) c.val)) = outBlock m c 7 :=
  (pay_7 _ _ _ _).trans (outBlock_off 7 (dv 7 (by decide)) (by decide) hcn _).symm

/-- What the body stores for row block 8. -/
theorem pay_8 (t s a : F .f32) (q : Vec F S1x256x128 .i16) : k0_pay149 t (Scalar.ofBits .f32 0x42FE0000#32) (k0_pay9 s q (fun _ => a)) = unpacked t s a (shapeCast S256x128 q shapeCasts_S1x256x128_S256x128) := rfl

/-- What the body stores for row block 8. -/
theorem recv_8 (hcn : c.val ≠ 8) : k0_pay149 (scale8 m c) (Scalar.ofBits .f32 0x42FE0000#32) (k0_pay9 (inv8 m c) (qload m c (dv 8 (by decide))) (fun _ => bmax m (dv 8 (by decide)) c.val)) = outBlock m c 8 :=
  (pay_8 _ _ _ _).trans (outBlock_off 8 (dv 8 (by decide)) (by decide) hcn _).symm

/-- What the body stores for row block 9. -/
theorem pay_9 (t s a : F .f32) (q : Vec F S1x256x128 .i16) : k0_pay150 t (Scalar.ofBits .f32 0x42FE0000#32) (k0_pay10 s q (fun _ => a)) = unpacked t s a (shapeCast S256x128 q shapeCasts_S1x256x128_S256x128) := rfl

/-- What the body stores for row block 9. -/
theorem recv_9 (hcn : c.val ≠ 9) : k0_pay150 (scale8 m c) (Scalar.ofBits .f32 0x42FE0000#32) (k0_pay10 (inv8 m c) (qload m c (dv 9 (by decide))) (fun _ => bmax m (dv 9 (by decide)) c.val)) = outBlock m c 9 :=
  (pay_9 _ _ _ _).trans (outBlock_off 9 (dv 9 (by decide)) (by decide) hcn _).symm

/-- What the body stores for row block 10. -/
theorem pay_10 (t s a : F .f32) (q : Vec F S1x256x128 .i16) : k0_pay151 t (Scalar.ofBits .f32 0x42FE0000#32) (k0_pay11 s q (fun _ => a)) = unpacked t s a (shapeCast S256x128 q shapeCasts_S1x256x128_S256x128) := rfl

/-- What the body stores for row block 10. -/
theorem recv_10 (hcn : c.val ≠ 10) : k0_pay151 (scale8 m c) (Scalar.ofBits .f32 0x42FE0000#32) (k0_pay11 (inv8 m c) (qload m c (dv 10 (by decide))) (fun _ => bmax m (dv 10 (by decide)) c.val)) = outBlock m c 10 :=
  (pay_10 _ _ _ _).trans (outBlock_off 10 (dv 10 (by decide)) (by decide) hcn _).symm

/-- What the body stores for row block 11. -/
theorem pay_11 (t s a : F .f32) (q : Vec F S1x256x128 .i16) : k0_pay152 t (Scalar.ofBits .f32 0x42FE0000#32) (k0_pay12 s q (fun _ => a)) = unpacked t s a (shapeCast S256x128 q shapeCasts_S1x256x128_S256x128) := rfl

/-- What the body stores for row block 11. -/
theorem recv_11 (hcn : c.val ≠ 11) : k0_pay152 (scale8 m c) (Scalar.ofBits .f32 0x42FE0000#32) (k0_pay12 (inv8 m c) (qload m c (dv 11 (by decide))) (fun _ => bmax m (dv 11 (by decide)) c.val)) = outBlock m c 11 :=
  (pay_11 _ _ _ _).trans (outBlock_off 11 (dv 11 (by decide)) (by decide) hcn _).symm

/-- What the body stores for row block 12. -/
theorem pay_12 (t s a : F .f32) (q : Vec F S1x256x128 .i16) : k0_pay153 t (Scalar.ofBits .f32 0x42FE0000#32) (k0_pay13 s q (fun _ => a)) = unpacked t s a (shapeCast S256x128 q shapeCasts_S1x256x128_S256x128) := rfl

/-- What the body stores for row block 12. -/
theorem recv_12 (hcn : c.val ≠ 12) : k0_pay153 (scale8 m c) (Scalar.ofBits .f32 0x42FE0000#32) (k0_pay13 (inv8 m c) (qload m c (dv 12 (by decide))) (fun _ => bmax m (dv 12 (by decide)) c.val)) = outBlock m c 12 :=
  (pay_12 _ _ _ _).trans (outBlock_off 12 (dv 12 (by decide)) (by decide) hcn _).symm

/-- What the body stores for row block 13. -/
theorem pay_13 (t s a : F .f32) (q : Vec F S1x256x128 .i16) : k0_pay154 t (Scalar.ofBits .f32 0x42FE0000#32) (k0_pay14 s q (fun _ => a)) = unpacked t s a (shapeCast S256x128 q shapeCasts_S1x256x128_S256x128) := rfl

/-- What the body stores for row block 13. -/
theorem recv_13 (hcn : c.val ≠ 13) : k0_pay154 (scale8 m c) (Scalar.ofBits .f32 0x42FE0000#32) (k0_pay14 (inv8 m c) (qload m c (dv 13 (by decide))) (fun _ => bmax m (dv 13 (by decide)) c.val)) = outBlock m c 13 :=
  (pay_13 _ _ _ _).trans (outBlock_off 13 (dv 13 (by decide)) (by decide) hcn _).symm

/-- What the body stores for row block 14. -/
theorem pay_14 (t s a : F .f32) (q : Vec F S1x256x128 .i16) : k0_pay155 t (Scalar.ofBits .f32 0x42FE0000#32) (k0_pay15 s q (fun _ => a)) = unpacked t s a (shapeCast S256x128 q shapeCasts_S1x256x128_S256x128) := rfl

/-- What the body stores for row block 14. -/
theorem recv_14 (hcn : c.val ≠ 14) : k0_pay155 (scale8 m c) (Scalar.ofBits .f32 0x42FE0000#32) (k0_pay15 (inv8 m c) (qload m c (dv 14 (by decide))) (fun _ => bmax m (dv 14 (by decide)) c.val)) = outBlock m c 14 :=
  (pay_14 _ _ _ _).trans (outBlock_off 14 (dv 14 (by decide)) (by decide) hcn _).symm

/-- What the body stores for row block 15. -/
theorem pay_15 (t s a : F .f32) (q : Vec F S1x256x128 .i16) : k0_pay156 t (Scalar.ofBits .f32 0x42FE0000#32) (k0_pay16 s q (fun _ => a)) = unpacked t s a (shapeCast S256x128 q shapeCasts_S1x256x128_S256x128) := rfl

/-- What the body stores for row block 15. -/
theorem recv_15 (hcn : c.val ≠ 15) : k0_pay156 (scale8 m c) (Scalar.ofBits .f32 0x42FE0000#32) (k0_pay16 (inv8 m c) (qload m c (dv 15 (by decide))) (fun _ => bmax m (dv 15 (by decide)) c.val)) = outBlock m c 15 :=
  (pay_15 _ _ _ _).trans (outBlock_off 15 (dv 15 (by decide)) (by decide) hcn _).symm

end

/-- Receiving device 0's block. -/
theorem part_1 {α : Type} {Q : α → sProp 𝕄} {bw xs nf nw ny dd ss st ow ra oo ro ww : ℕ} (hcn : c.val ≠ 0) {G : (Σ' (cst_531 : F .f32), FVec F S256x128 .f32) → Prg F α}
    (hk : St m K c 16 bw xs nf nw ny dd ss 16 st ow 16 ra oo 1 ro ww ⊢ WP c (G ⟨(Scalar.ofBits .f32 0x42FE0000#32), k0_pay1 (inv8 m c) (qload m c (dv 0 (by decide))) (fun _ => bmax m (dv 0 (by decide)) c.val)⟩) Q) :
    St m K c 16 bw xs nf nw ny dd ss 16 st ow 16 ra oo 0 ro ww ⊢ WP c (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part1_eq_skeleton]
  unfold k0_part1_skel
  refine r_bind ?_
  refine r_part 0 ?_ ?_ ?_ ?_ ?_ ?_ ?_
  · decide
  · exact hcn
  · exact sem_1 (dv 0 (by decide)) rfl _ _
  · exact sem_3 (dv 0 (by decide)) rfl _ _
  · rfl
  · rfl
  exact r_pure hk

/-- Receiving device 1's block. -/
theorem part_2 {α : Type} {Q : α → sProp 𝕄} {bw xs nf nw ny dd ss st ow ra oo ro ww : ℕ} (hcn : c.val ≠ 1) {G : (Σ' (cst_531 : F .f32), FVec F S256x128 .f32) → Prg F α}
    (hk : St m K c 16 bw xs nf nw ny dd ss 16 st ow 16 ra oo 2 ro ww ⊢ WP c (G ⟨(Scalar.ofBits .f32 0x42FE0000#32), k0_pay2 (inv8 m c) (qload m c (dv 1 (by decide))) (fun _ => bmax m (dv 1 (by decide)) c.val)⟩) Q) :
    St m K c 16 bw xs nf nw ny dd ss 16 st ow 16 ra oo 1 ro ww ⊢ WP c (k0_part2 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part2_eq_skeleton]
  unfold k0_part2_skel
  refine r_bind ?_
  refine r_part 1 ?_ ?_ ?_ ?_ ?_ ?_ ?_
  · decide
  · exact hcn
  · exact sem_1 (dv 1 (by decide)) rfl _ _
  · exact sem_3 (dv 1 (by decide)) rfl _ _
  · rfl
  · rfl
  exact r_pure hk

/-- Receiving device 2's block. -/
theorem part_3 {α : Type} {Q : α → sProp 𝕄} {bw xs nf nw ny dd ss st ow ra oo ro ww : ℕ} (hcn : c.val ≠ 2) {G : (Σ' (cst_531 : F .f32), FVec F S256x128 .f32) → Prg F α}
    (hk : St m K c 16 bw xs nf nw ny dd ss 16 st ow 16 ra oo 3 ro ww ⊢ WP c (G ⟨(Scalar.ofBits .f32 0x42FE0000#32), k0_pay3 (inv8 m c) (qload m c (dv 2 (by decide))) (fun _ => bmax m (dv 2 (by decide)) c.val)⟩) Q) :
    St m K c 16 bw xs nf nw ny dd ss 16 st ow 16 ra oo 2 ro ww ⊢ WP c (k0_part3 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part3_eq_skeleton]
  unfold k0_part3_skel
  refine r_bind ?_
  refine r_part 2 ?_ ?_ ?_ ?_ ?_ ?_ ?_
  · decide
  · exact hcn
  · exact sem_1 (dv 2 (by decide)) rfl _ _
  · exact sem_3 (dv 2 (by decide)) rfl _ _
  · rfl
  · rfl
  exact r_pure hk

/-- Receiving device 3's block. -/
theorem part_4 {α : Type} {Q : α → sProp 𝕄} {bw xs nf nw ny dd ss st ow ra oo ro ww : ℕ} (hcn : c.val ≠ 3) {G : (Σ' (cst_531 : F .f32), FVec F S256x128 .f32) → Prg F α}
    (hk : St m K c 16 bw xs nf nw ny dd ss 16 st ow 16 ra oo 4 ro ww ⊢ WP c (G ⟨(Scalar.ofBits .f32 0x42FE0000#32), k0_pay4 (inv8 m c) (qload m c (dv 3 (by decide))) (fun _ => bmax m (dv 3 (by decide)) c.val)⟩) Q) :
    St m K c 16 bw xs nf nw ny dd ss 16 st ow 16 ra oo 3 ro ww ⊢ WP c (k0_part4 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part4_eq_skeleton]
  unfold k0_part4_skel
  refine r_bind ?_
  refine r_part 3 ?_ ?_ ?_ ?_ ?_ ?_ ?_
  · decide
  · exact hcn
  · exact sem_1 (dv 3 (by decide)) rfl _ _
  · exact sem_3 (dv 3 (by decide)) rfl _ _
  · rfl
  · rfl
  exact r_pure hk

/-- Receiving device 4's block. -/
theorem part_5 {α : Type} {Q : α → sProp 𝕄} {bw xs nf nw ny dd ss st ow ra oo ro ww : ℕ} (hcn : c.val ≠ 4) {G : (Σ' (cst_531 : F .f32), FVec F S256x128 .f32) → Prg F α}
    (hk : St m K c 16 bw xs nf nw ny dd ss 16 st ow 16 ra oo 5 ro ww ⊢ WP c (G ⟨(Scalar.ofBits .f32 0x42FE0000#32), k0_pay5 (inv8 m c) (qload m c (dv 4 (by decide))) (fun _ => bmax m (dv 4 (by decide)) c.val)⟩) Q) :
    St m K c 16 bw xs nf nw ny dd ss 16 st ow 16 ra oo 4 ro ww ⊢ WP c (k0_part5 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part5_eq_skeleton]
  unfold k0_part5_skel
  refine r_bind ?_
  refine r_part 4 ?_ ?_ ?_ ?_ ?_ ?_ ?_
  · decide
  · exact hcn
  · exact sem_1 (dv 4 (by decide)) rfl _ _
  · exact sem_3 (dv 4 (by decide)) rfl _ _
  · rfl
  · rfl
  exact r_pure hk

/-- Receiving device 5's block. -/
theorem part_6 {α : Type} {Q : α → sProp 𝕄} {bw xs nf nw ny dd ss st ow ra oo ro ww : ℕ} (hcn : c.val ≠ 5) {G : (Σ' (cst_531 : F .f32), FVec F S256x128 .f32) → Prg F α}
    (hk : St m K c 16 bw xs nf nw ny dd ss 16 st ow 16 ra oo 6 ro ww ⊢ WP c (G ⟨(Scalar.ofBits .f32 0x42FE0000#32), k0_pay6 (inv8 m c) (qload m c (dv 5 (by decide))) (fun _ => bmax m (dv 5 (by decide)) c.val)⟩) Q) :
    St m K c 16 bw xs nf nw ny dd ss 16 st ow 16 ra oo 5 ro ww ⊢ WP c (k0_part6 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part6_eq_skeleton]
  unfold k0_part6_skel
  refine r_bind ?_
  refine r_part 5 ?_ ?_ ?_ ?_ ?_ ?_ ?_
  · decide
  · exact hcn
  · exact sem_1 (dv 5 (by decide)) rfl _ _
  · exact sem_3 (dv 5 (by decide)) rfl _ _
  · rfl
  · rfl
  exact r_pure hk

/-- Receiving device 6's block. -/
theorem part_7 {α : Type} {Q : α → sProp 𝕄} {bw xs nf nw ny dd ss st ow ra oo ro ww : ℕ} (hcn : c.val ≠ 6) {G : (Σ' (cst_531 : F .f32), FVec F S256x128 .f32) → Prg F α}
    (hk : St m K c 16 bw xs nf nw ny dd ss 16 st ow 16 ra oo 7 ro ww ⊢ WP c (G ⟨(Scalar.ofBits .f32 0x42FE0000#32), k0_pay7 (inv8 m c) (qload m c (dv 6 (by decide))) (fun _ => bmax m (dv 6 (by decide)) c.val)⟩) Q) :
    St m K c 16 bw xs nf nw ny dd ss 16 st ow 16 ra oo 6 ro ww ⊢ WP c (k0_part7 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part7_eq_skeleton]
  unfold k0_part7_skel
  refine r_bind ?_
  refine r_part 6 ?_ ?_ ?_ ?_ ?_ ?_ ?_
  · decide
  · exact hcn
  · exact sem_1 (dv 6 (by decide)) rfl _ _
  · exact sem_3 (dv 6 (by decide)) rfl _ _
  · rfl
  · rfl
  exact r_pure hk

/-- Receiving device 7's block. -/
theorem part_8 {α : Type} {Q : α → sProp 𝕄} {bw xs nf nw ny dd ss st ow ra oo ro ww : ℕ} (hcn : c.val ≠ 7) {G : (Σ' (cst_531 : F .f32), FVec F S256x128 .f32) → Prg F α}
    (hk : St m K c 16 bw xs nf nw ny dd ss 16 st ow 16 ra oo 8 ro ww ⊢ WP c (G ⟨(Scalar.ofBits .f32 0x42FE0000#32), k0_pay8 (inv8 m c) (qload m c (dv 7 (by decide))) (fun _ => bmax m (dv 7 (by decide)) c.val)⟩) Q) :
    St m K c 16 bw xs nf nw ny dd ss 16 st ow 16 ra oo 7 ro ww ⊢ WP c (k0_part8 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part8_eq_skeleton]
  unfold k0_part8_skel
  refine r_bind ?_
  refine r_part 7 ?_ ?_ ?_ ?_ ?_ ?_ ?_
  · decide
  · exact hcn
  · exact sem_1 (dv 7 (by decide)) rfl _ _
  · exact sem_3 (dv 7 (by decide)) rfl _ _
  · rfl
  · rfl
  exact r_pure hk

/-- Receiving device 8's block. -/
theorem part_9 {α : Type} {Q : α → sProp 𝕄} {bw xs nf nw ny dd ss st ow ra oo ro ww : ℕ} (hcn : c.val ≠ 8) {G : (Σ' (cst_531 : F .f32), FVec F S256x128 .f32) → Prg F α}
    (hk : St m K c 16 bw xs nf nw ny dd ss 16 st ow 16 ra oo 9 ro ww ⊢ WP c (G ⟨(Scalar.ofBits .f32 0x42FE0000#32), k0_pay9 (inv8 m c) (qload m c (dv 8 (by decide))) (fun _ => bmax m (dv 8 (by decide)) c.val)⟩) Q) :
    St m K c 16 bw xs nf nw ny dd ss 16 st ow 16 ra oo 8 ro ww ⊢ WP c (k0_part9 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part9_eq_skeleton]
  unfold k0_part9_skel
  refine r_bind ?_
  refine r_part 8 ?_ ?_ ?_ ?_ ?_ ?_ ?_
  · decide
  · exact hcn
  · exact sem_1 (dv 8 (by decide)) rfl _ _
  · exact sem_3 (dv 8 (by decide)) rfl _ _
  · rfl
  · rfl
  exact r_pure hk

/-- Receiving device 9's block. -/
theorem part_10 {α : Type} {Q : α → sProp 𝕄} {bw xs nf nw ny dd ss st ow ra oo ro ww : ℕ} (hcn : c.val ≠ 9) {G : (Σ' (cst_531 : F .f32), FVec F S256x128 .f32) → Prg F α}
    (hk : St m K c 16 bw xs nf nw ny dd ss 16 st ow 16 ra oo 10 ro ww ⊢ WP c (G ⟨(Scalar.ofBits .f32 0x42FE0000#32), k0_pay10 (inv8 m c) (qload m c (dv 9 (by decide))) (fun _ => bmax m (dv 9 (by decide)) c.val)⟩) Q) :
    St m K c 16 bw xs nf nw ny dd ss 16 st ow 16 ra oo 9 ro ww ⊢ WP c (k0_part10 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part10_eq_skeleton]
  unfold k0_part10_skel
  refine r_bind ?_
  refine r_part 9 ?_ ?_ ?_ ?_ ?_ ?_ ?_
  · decide
  · exact hcn
  · exact sem_1 (dv 9 (by decide)) rfl _ _
  · exact sem_3 (dv 9 (by decide)) rfl _ _
  · rfl
  · rfl
  exact r_pure hk

/-- Receiving device 10's block. -/
theorem part_11 {α : Type} {Q : α → sProp 𝕄} {bw xs nf nw ny dd ss st ow ra oo ro ww : ℕ} (hcn : c.val ≠ 10) {G : (Σ' (cst_531 : F .f32), FVec F S256x128 .f32) → Prg F α}
    (hk : St m K c 16 bw xs nf nw ny dd ss 16 st ow 16 ra oo 11 ro ww ⊢ WP c (G ⟨(Scalar.ofBits .f32 0x42FE0000#32), k0_pay11 (inv8 m c) (qload m c (dv 10 (by decide))) (fun _ => bmax m (dv 10 (by decide)) c.val)⟩) Q) :
    St m K c 16 bw xs nf nw ny dd ss 16 st ow 16 ra oo 10 ro ww ⊢ WP c (k0_part11 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part11_eq_skeleton]
  unfold k0_part11_skel
  refine r_bind ?_
  refine r_part 10 ?_ ?_ ?_ ?_ ?_ ?_ ?_
  · decide
  · exact hcn
  · exact sem_1 (dv 10 (by decide)) rfl _ _
  · exact sem_3 (dv 10 (by decide)) rfl _ _
  · rfl
  · rfl
  exact r_pure hk

/-- Receiving device 11's block. -/
theorem part_12 {α : Type} {Q : α → sProp 𝕄} {bw xs nf nw ny dd ss st ow ra oo ro ww : ℕ} (hcn : c.val ≠ 11) {G : (Σ' (cst_531 : F .f32), FVec F S256x128 .f32) → Prg F α}
    (hk : St m K c 16 bw xs nf nw ny dd ss 16 st ow 16 ra oo 12 ro ww ⊢ WP c (G ⟨(Scalar.ofBits .f32 0x42FE0000#32), k0_pay12 (inv8 m c) (qload m c (dv 11 (by decide))) (fun _ => bmax m (dv 11 (by decide)) c.val)⟩) Q) :
    St m K c 16 bw xs nf nw ny dd ss 16 st ow 16 ra oo 11 ro ww ⊢ WP c (k0_part12 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part12_eq_skeleton]
  unfold k0_part12_skel
  refine r_bind ?_
  refine r_part 11 ?_ ?_ ?_ ?_ ?_ ?_ ?_
  · decide
  · exact hcn
  · exact sem_1 (dv 11 (by decide)) rfl _ _
  · exact sem_3 (dv 11 (by decide)) rfl _ _
  · rfl
  · rfl
  exact r_pure hk

/-- Receiving device 12's block. -/
theorem part_13 {α : Type} {Q : α → sProp 𝕄} {bw xs nf nw ny dd ss st ow ra oo ro ww : ℕ} (hcn : c.val ≠ 12) {G : (Σ' (cst_531 : F .f32), FVec F S256x128 .f32) → Prg F α}
    (hk : St m K c 16 bw xs nf nw ny dd ss 16 st ow 16 ra oo 13 ro ww ⊢ WP c (G ⟨(Scalar.ofBits .f32 0x42FE0000#32), k0_pay13 (inv8 m c) (qload m c (dv 12 (by decide))) (fun _ => bmax m (dv 12 (by decide)) c.val)⟩) Q) :
    St m K c 16 bw xs nf nw ny dd ss 16 st ow 16 ra oo 12 ro ww ⊢ WP c (k0_part13 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part13_eq_skeleton]
  unfold k0_part13_skel
  refine r_bind ?_
  refine r_part 12 ?_ ?_ ?_ ?_ ?_ ?_ ?_
  · decide
  · exact hcn
  · exact sem_1 (dv 12 (by decide)) rfl _ _
  · exact sem_3 (dv 12 (by decide)) rfl _ _
  · rfl
  · rfl
  exact r_pure hk

/-- Receiving device 13's block. -/
theorem part_14 {α : Type} {Q : α → sProp 𝕄} {bw xs nf nw ny dd ss st ow ra oo ro ww : ℕ} (hcn : c.val ≠ 13) {G : (Σ' (cst_531 : F .f32), FVec F S256x128 .f32) → Prg F α}
    (hk : St m K c 16 bw xs nf nw ny dd ss 16 st ow 16 ra oo 14 ro ww ⊢ WP c (G ⟨(Scalar.ofBits .f32 0x42FE0000#32), k0_pay14 (inv8 m c) (qload m c (dv 13 (by decide))) (fun _ => bmax m (dv 13 (by decide)) c.val)⟩) Q) :
    St m K c 16 bw xs nf nw ny dd ss 16 st ow 16 ra oo 13 ro ww ⊢ WP c (k0_part14 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part14_eq_skeleton]
  unfold k0_part14_skel
  refine r_bind ?_
  refine r_part 13 ?_ ?_ ?_ ?_ ?_ ?_ ?_
  · decide
  · exact hcn
  · exact sem_1 (dv 13 (by decide)) rfl _ _
  · exact sem_3 (dv 13 (by decide)) rfl _ _
  · rfl
  · rfl
  exact r_pure hk

/-- Receiving device 14's block. -/
theorem part_15 {α : Type} {Q : α → sProp 𝕄} {bw xs nf nw ny dd ss st ow ra oo ro ww : ℕ} (hcn : c.val ≠ 14) {G : (Σ' (cst_531 : F .f32), FVec F S256x128 .f32) → Prg F α}
    (hk : St m K c 16 bw xs nf nw ny dd ss 16 st ow 16 ra oo 15 ro ww ⊢ WP c (G ⟨(Scalar.ofBits .f32 0x42FE0000#32), k0_pay15 (inv8 m c) (qload m c (dv 14 (by decide))) (fun _ => bmax m (dv 14 (by decide)) c.val)⟩) Q) :
    St m K c 16 bw xs nf nw ny dd ss 16 st ow 16 ra oo 14 ro ww ⊢ WP c (k0_part15 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part15_eq_skeleton]
  unfold k0_part15_skel
  refine r_bind ?_
  refine r_part 14 ?_ ?_ ?_ ?_ ?_ ?_ ?_
  · decide
  · exact hcn
  · exact sem_1 (dv 14 (by decide)) rfl _ _
  · exact sem_3 (dv 14 (by decide)) rfl _ _
  · rfl
  · rfl
  exact r_pure hk

/-- Receiving device 15's block. -/
theorem part_16 {α : Type} {Q : α → sProp 𝕄} {bw xs nf nw ny dd ss st ow ra oo ro ww : ℕ} (hcn : c.val ≠ 15) {G : (Σ' (cst_531 : F .f32), FVec F S256x128 .f32) → Prg F α}
    (hk : St m K c 16 bw xs nf nw ny dd ss 16 st ow 16 ra oo 16 ro ww ⊢ WP c (G ⟨(Scalar.ofBits .f32 0x42FE0000#32), k0_pay16 (inv8 m c) (qload m c (dv 15 (by decide))) (fun _ => bmax m (dv 15 (by decide)) c.val)⟩) Q) :
    St m K c 16 bw xs nf nw ny dd ss 16 st ow 16 ra oo 15 ro ww ⊢ WP c (k0_part16 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (inv8 m c) >>= G) Q := by
  rw [k0_part16_eq_skeleton]
  unfold k0_part16_skel
  refine r_bind ?_
  refine r_part 15 ?_ ?_ ?_ ?_ ?_ ?_ ?_
  · decide
  · exact hcn
  · exact sem_1 (dv 15 (by decide)) rfl _ _
  · exact sem_3 (dv 15 (by decide)) rfl _ _
  · rfl
  · rfl
  exact r_pure hk

end Cert.KernelIdealProof

end
-- ==== Proof.Segments1.lean ====
/-
The first half of the body: signals, the product and the first sends.
-/
module

public import proofs.«01_k».proof.Proof.Receives

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 100 → ℕ} {c : Dev nD}

/-- Segment 17 of the body. -/
theorem part_17 {Q : (Σ' (d0 : Dev nD) (v2 : BitVec 32) (v13 : Sems sig S_) (v27 : BitVec 32), BitVec 32) → sProp 𝕄}
    (hQ : ∀ (a3 : BitVec 32) (a4 : BitVec 32), St m K c 4 0 1 2 0 0 0 0 0 0 0 0 0 0 0 0 0 ⊢ Q ⟨c, V2 c, SemArray.scalar (sig.barrier 0 rfl), a3, a4⟩) :
    St m K c 0 0 0 0 0 0 0 0 0 0 0 0 0 0 0 0 0 ⊢ WP c (k0_part17 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 ) Q := by
  rw [k0_part17_eq_skeleton]
  unfold k0_part17_skel
  try extract_lets +lift
  refine r_dev  ?_
  refine r_xcopy ?_ ?_
  · rfl
  refine r_wcopy 0 0 ?_ ?_ ?_ ?_ ?_ ?_ ?_ ?_ ?_
  · rfl
  · decide
  · rfl
  · decide
  · decide
  · rfl
  · rfl
  · rfl
  refine r_wcopy 1 0 ?_ ?_ ?_ ?_ ?_ ?_ ?_ ?_ ?_
  · rfl
  · decide
  · rfl
  · decide
  · decide
  · rfl
  · rfl
  · rfl
  try extract_lets +lift
  refine r_signal 0 ?_ ?_ ?_ ?_ ?_
  · decide
  · exact word_ne c ⟨0, by decide⟩
  · exact fun _ => Fin.ext k0_dev1_eq
  · rfl
  try extract_lets +lift
  refine r_signal 1 ?_ ?_ ?_ ?_ ?_
  · decide
  · exact word_ne c ⟨1, by decide⟩
  · exact fun _ => Fin.ext k0_dev2_eq
  · rfl
  try extract_lets +lift
  refine r_signal 2 ?_ ?_ ?_ ?_ ?_
  · decide
  · exact word_ne c ⟨2, by decide⟩
  · exact fun _ => Fin.ext k0_dev3_eq
  · rfl
  try extract_lets +lift
  refine r_signal 3 ?_ ?_ ?_ ?_ ?_
  · decide
  · exact word_ne c ⟨3, by decide⟩
  · exact fun _ => Fin.ext k0_dev4_eq
  · rfl
  refine r_pure ?_
  exact hQ _ _

/-- Segment 18 of the body. -/
theorem part_18 {Q : (Σ' (v57 : BitVec 32), BitVec 32) → sProp 𝕄} (v27 : BitVec 32) (c0_i32_16 : BitVec 32)
    (hQ : ∀ (a0 : BitVec 32) (a1 : BitVec 32), St m K c 14 0 1 2 0 0 0 0 0 0 0 0 0 0 0 0 0 ⊢ Q ⟨a0, a1⟩) :
    St m K c 4 0 1 2 0 0 0 0 0 0 0 0 0 0 0 0 0 ⊢ WP c (k0_part18 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (SemArray.scalar (sig.barrier 0 rfl)) v27 c0_i32_16) Q := by
  rw [k0_part18_eq_skeleton]
  unfold k0_part18_skel
  try extract_lets +lift
  refine r_signal 4 ?_ ?_ ?_ ?_ ?_
  · decide
  · exact word_ne c ⟨4, by decide⟩
  · exact fun _ => Fin.ext k0_dev5_eq
  · rfl
  try extract_lets +lift
  refine r_signal 5 ?_ ?_ ?_ ?_ ?_
  · decide
  · exact word_ne c ⟨5, by decide⟩
  · exact fun _ => Fin.ext k0_dev6_eq
  · rfl
  try extract_lets +lift
  refine r_signal 6 ?_ ?_ ?_ ?_ ?_
  · decide
  · exact word_ne c ⟨6, by decide⟩
  · exact fun _ => Fin.ext k0_dev7_eq
  · rfl
  try extract_lets +lift
  refine r_signal 7 ?_ ?_ ?_ ?_ ?_
  · decide
  · exact word_ne c ⟨7, by decide⟩
  · exact fun _ => Fin.ext k0_dev8_eq
  · rfl
  try extract_lets +lift
  refine r_signal 8 ?_ ?_ ?_ ?_ ?_
  · decide
  · exact word_ne c ⟨8, by decide⟩
  · exact fun _ => Fin.ext k0_dev9_eq
  · rfl
  try extract_lets +lift
  refine r_signal 9 ?_ ?_ ?_ ?_ ?_
  · decide
  · exact word_ne c ⟨9, by decide⟩
  · exact fun _ => Fin.ext k0_dev10_eq
  · rfl
  try extract_lets +lift
  refine r_signal 10 ?_ ?_ ?_ ?_ ?_
  · decide
  · exact word_ne c ⟨10, by decide⟩
  · exact fun _ => Fin.ext k0_dev11_eq
  · rfl
  try extract_lets +lift
  refine r_signal 11 ?_ ?_ ?_ ?_ ?_
  · decide
  · exact word_ne c ⟨11, by decide⟩
  · exact fun _ => Fin.ext k0_dev12_eq
  · rfl
  try extract_lets +lift
  refine r_signal 12 ?_ ?_ ?_ ?_ ?_
  · decide
  · exact word_ne c ⟨12, by decide⟩
  · exact fun _ => Fin.ext k0_dev13_eq
  · rfl
  try extract_lets +lift
  refine r_signal 13 ?_ ?_ ?_ ?_ ?_
  · decide
  · exact word_ne c ⟨13, by decide⟩
  · exact fun _ => Fin.ext k0_dev14_eq
  · rfl
  refine r_pure ?_
  exact hQ _ _

/-- Segment 19 of the body. -/
theorem part_19 {Q : (Σ' (v70 : FVec F S256x256 .f32) (v79 : F .f32) (v80 : F .f32) (cst_46 : F .f32), FVec F S256x128 .f32) → sProp 𝕄} (v57 : BitVec 32) (c0_i32_26 : BitVec 32)
    (hQ : St m K c 16 1 2 2 1 1 0 0 0 0 0 0 0 0 0 0 0 ⊢ Q ⟨(ychunk m c 0), (bmax m c 0), (runmax m c 1), (Scalar.ofBits .f32 0x46FFFE00#32), (clipLow (yblock m c 0))⟩) :
    St m K c 14 0 1 2 0 0 0 0 0 0 0 0 0 0 0 0 0 ⊢ WP c (k0_part19 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (SemArray.scalar (sig.barrier 0 rfl)) v57 c0_i32_26) Q := by
  rw [k0_part19_eq_skeleton]
  unfold k0_part19_skel
  try extract_lets +lift
  refine r_signal 14 ?_ ?_ ?_ ?_ ?_
  · decide
  · exact word_ne c ⟨14, by decide⟩
  · exact fun _ => Fin.ext k0_dev15_eq
  · rfl
  try extract_lets +lift
  refine r_signal 15 ?_ ?_ ?_ ?_ ?_
  · decide
  · exact word_ne c ⟨15, by decide⟩
  · exact fun _ => Fin.ext k0_dev16_eq
  · rfl
  refine r_barrier ?_ ?_
  · rfl
  refine r_xwait ?_ ?_
  · rfl
  refine r_wwait 0 0 ?_ ?_ ?_ ?_ ?_ ?_ ?_
  · rfl
  · decide
  · rfl
  · decide
  · decide
  · rfl
  refine r_xload  ?_
  refine r_wload 0 0 0 ?_ ?_ ?_ ?_ ?_
  · rfl
  · rfl
  · rfl
  · rfl
  refine r_yload  ?_
  intro _
  refine r_ystore ?_ ?_ ?_ ?_
  · decide
  · rfl
  · exact st_18 m c
  refine r_pure ?_
  exact hQ

/-- Segment 20 of the body. -/
theorem part_20 {Q : (Σ' (v107 : F .f32), BitVec 32) → sProp 𝕄}
    (hQ : St m K c 16 1 2 2 1 1 2 2 1 0 0 0 0 0 0 0 0 ⊢ Q ⟨(runmax m c 2), 1#32⟩) :
    St m K c 16 1 2 2 1 1 0 0 0 0 0 0 0 0 0 0 0 ⊢ WP c (k0_part20 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (ychunk m c 0) (bmax m c 0) (runmax m c 1) (Scalar.ofBits .f32 0x46FFFE00#32) (clipLow (yblock m c 0))) Q := by
  rw [k0_part20_eq_skeleton]
  unfold k0_part20_skel
  try extract_lets +lift
  refine r_dload ?_ ?_ ?_ ?_
  · decide
  · decide
  · rfl
  intro v91
  refine r_dstore ?_ ?_ ?_ ?_ ?_
  · decide
  · decide
  · rfl
  · exact st_23 m c
  refine r_ssload ?_ ?_ ?_ ?_
  · decide
  · decide
  · rfl
  intro v95
  refine r_ssstore ?_ ?_ ?_ ?_ ?_
  · decide
  · decide
  · rfl
  · exact st_24 m c
  try extract_lets +lift
  refine r_send 0 ?_ ?_ ?_ ?_ ?_ ?_ ?_ ?_ ?_ ?_ ?_ ?_ ?_ ?_ ?_
  · decide
  · decide
  · decide
  · exact word_ne c ⟨0, by decide⟩
  · exact fun _ => Fin.ext k0_dev17_eq
  · exact fun _ => Fin.ext k0_dev18_eq
  · exact sem_0 (dv 0 (by decide)) rfl _ _
  · exact sem_2 (dv 0 (by decide)) rfl _ _
  · exact fun _ => sem_1 c (k0_off1_eq c) _ _
  · exact fun _ => sem_3 c (k0_off1_eq c) _ _
  · rfl
  · exact k0_off2_eq c
  · rfl
  · exact k0_off3_eq c
  refine r_dload ?_ ?_ ?_ ?_
  · decide
  · decide
  · rfl
  intro v118
  refine r_dstore ?_ ?_ ?_ ?_ ?_
  · decide
  · decide
  · rfl
  · exact st_28 m c
  refine r_ssload ?_ ?_ ?_ ?_
  · decide
  · decide
  · rfl
  intro v122
  refine r_ssstore ?_ ?_ ?_ ?_ ?_
  · decide
  · decide
  · rfl
  · exact st_29 m c
  refine r_pure ?_
  exact hQ

/-- Segment 21 of the body. -/
theorem part_21 {Q : (Σ' (v141 : FVec F S256x256 .f32) (v150 : F .f32) (v151 : F .f32), FVec F S256x128 .f32) → sProp 𝕄}
    (hQ : St m K c 16 1 2 3 2 2 2 2 2 0 0 0 0 0 0 0 0 ⊢ Q ⟨(ychunk m c 1), (bmax m c 2), (runmax m c 3), (steps16 (yblock m c 2))⟩) :
    St m K c 16 1 2 2 1 1 2 2 1 0 0 0 0 0 0 0 0 ⊢ WP c (k0_part21 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (runmax m c 2) 1#32) Q := by
  rw [k0_part21_eq_skeleton]
  unfold k0_part21_skel
  try extract_lets +lift
  refine r_send 1 ?_ ?_ ?_ ?_ ?_ ?_ ?_ ?_ ?_ ?_ ?_ ?_ ?_ ?_ ?_
  · decide
  · decide
  · decide
  · exact word_ne c ⟨1, by decide⟩
  · exact fun _ => Fin.ext k0_dev19_eq
  · exact fun _ => Fin.ext k0_dev20_eq
  · exact sem_0 (dv 1 (by decide)) rfl _ _
  · exact sem_2 (dv 1 (by decide)) rfl _ _
  · exact fun _ => sem_1 c (k0_off4_eq c) _ _
  · exact fun _ => sem_3 c (k0_off4_eq c) _ _
  · rfl
  · exact k0_off5_eq c
  · rfl
  · exact k0_off6_eq c
  refine r_wcopy 0 1 ?_ ?_ ?_ ?_ ?_ ?_ ?_ ?_ ?_
  · rfl
  · decide
  · rfl
  · decide
  · decide
  · rfl
  · rfl
  · rfl
  refine r_wwait 1 0 ?_ ?_ ?_ ?_ ?_ ?_ ?_
  · rfl
  · decide
  · rfl
  · decide
  · decide
  · rfl
  refine r_xload  ?_
  refine r_wload 1 1 0 ?_ ?_ ?_ ?_ ?_
  · rfl
  · rfl
  · rfl
  · rfl
  refine r_yload  ?_
  intro _
  refine r_ystore ?_ ?_ ?_ ?_
  · decide
  · rfl
  · exact st_31 m c
  refine r_pure ?_
  exact hQ

/-- Segment 22 of the body. -/
theorem part_22 {Q : (Σ' (v178 : F .f32) (v192 : FVec F S8x128 .f32), Vec F S1x8x128 .f32) → sProp 𝕄}
    (hQ : ∀ (a2 : Vec F S1x8x128 .f32), St m K c 16 1 2 3 2 2 4 3 3 0 0 0 0 0 0 0 0 ⊢ Q ⟨(runmax m c 4), (tile (bmax m c 3)), a2⟩) :
    St m K c 16 1 2 3 2 2 2 2 2 0 0 0 0 0 0 0 0 ⊢ WP c (k0_part22 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (ychunk m c 1) (bmax m c 2) (runmax m c 3) (steps16 (yblock m c 2))) Q := by
  rw [k0_part22_eq_skeleton]
  unfold k0_part22_skel
  try extract_lets +lift
  refine r_dload ?_ ?_ ?_ ?_
  · decide
  · decide
  · rfl
  intro v162
  refine r_dstore ?_ ?_ ?_ ?_ ?_
  · decide
  · decide
  · rfl
  · exact st_36 m c
  refine r_ssload ?_ ?_ ?_ ?_
  · decide
  · decide
  · rfl
  intro v166
  refine r_ssstore ?_ ?_ ?_ ?_ ?_
  · decide
  · decide
  · rfl
  · exact st_37 m c
  try extract_lets +lift
  refine r_send 2 ?_ ?_ ?_ ?_ ?_ ?_ ?_ ?_ ?_ ?_ ?_ ?_ ?_ ?_ ?_
  · decide
  · decide
  · decide
  · exact word_ne c ⟨2, by decide⟩
  · exact fun _ => Fin.ext k0_dev21_eq
  · exact fun _ => Fin.ext k0_dev22_eq
  · exact sem_0 (dv 2 (by decide)) rfl _ _
  · exact sem_2 (dv 2 (by decide)) rfl _ _
  · exact fun _ => sem_1 c (k0_off7_eq c) _ _
  · exact fun _ => sem_3 c (k0_off7_eq c) _ _
  · rfl
  · exact k0_off8_eq c
  · rfl
  · exact k0_off9_eq c
  refine r_dload ?_ ?_ ?_ ?_
  · decide
  · decide
  · rfl
  intro v189
  refine r_dstore ?_ ?_ ?_ ?_ ?_
  · decide
  · decide
  · rfl
  · exact st_41 m c
  refine r_ssload ?_ ?_ ?_ ?_
  · decide
  · decide
  · rfl
  intro v193
  refine r_pure ?_
  exact hQ _

/-- Segment 23 of the body. -/
theorem part_23 {Q : (Σ' (v212 : FVec F S256x256 .f32) (v216 : FVec F S256x128 .f32) (v221 : F .f32) (v222 : F .f32) (v223 : F .f32), F .f32) → sProp 𝕄} (v193 : Vec F S1x8x128 .f32)
    (hQ : St m K c 16 1 2 4 3 3 4 4 4 0 0 0 0 0 0 0 0 ⊢ Q ⟨(ychunk m c 2), (yblock m c 4), (bmax m c 4), (runmax m c 5), (atLeast (bmax m c 4)), (Scalar.ofBits .f32 0x46FFFE00#32)⟩) :
    St m K c 16 1 2 3 2 2 4 3 3 0 0 0 0 0 0 0 0 ⊢ WP c (k0_part23 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (runmax m c 4) (tile (bmax m c 3)) v193) Q := by
  rw [k0_part23_eq_skeleton]
  unfold k0_part23_skel
  try extract_lets +lift
  refine r_ssstore ?_ ?_ ?_ ?_ ?_
  · decide
  · decide
  · rfl
  · exact st_43 m c
  try extract_lets +lift
  refine r_send 3 ?_ ?_ ?_ ?_ ?_ ?_ ?_ ?_ ?_ ?_ ?_ ?_ ?_ ?_ ?_
  · decide
  · decide
  · decide
  · exact word_ne c ⟨3, by decide⟩
  · exact fun _ => Fin.ext k0_dev23_eq
  · exact fun _ => Fin.ext k0_dev24_eq
  · exact sem_0 (dv 3 (by decide)) rfl _ _
  · exact sem_2 (dv 3 (by decide)) rfl _ _
  · exact fun _ => sem_1 c (k0_off10_eq c) _ _
  · exact fun _ => sem_3 c (k0_off10_eq c) _ _
  · rfl
  · exact k0_off11_eq c
  · rfl
  · exact k0_off12_eq c
  refine r_wcopy 1 1 ?_ ?_ ?_ ?_ ?_ ?_ ?_ ?_ ?_
  · rfl
  · decide
  · rfl
  · decide
  · decide
  · rfl
  · rfl
  · rfl
  refine r_wwait 0 1 ?_ ?_ ?_ ?_ ?_ ?_ ?_
  · rfl
  · decide
  · rfl
  · decide
  · decide
  · rfl
  refine r_xload  ?_
  refine r_wload 2 0 1 ?_ ?_ ?_ ?_ ?_
  · rfl
  · rfl
  · rfl
  · rfl
  refine r_yload  ?_
  intro _
  refine r_ystore ?_ ?_ ?_ ?_
  · decide
  · rfl
  · exact st_45 m c
  refine r_pure ?_
  exact hQ

/-- Segment 24 of the body. -/
theorem part_24 {Q : (Σ' (v249 : F .f32), FVec F S8x128 .f32) → sProp 𝕄}
    (hQ : St m K c 16 1 2 4 3 3 6 5 5 0 0 0 0 0 0 0 0 ⊢ Q ⟨(runmax m c 6), (tile (bmax m c 5))⟩) :
    St m K c 16 1 2 4 3 3 4 4 4 0 0 0 0 0 0 0 0 ⊢ WP c (k0_part24 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (ychunk m c 2) (yblock m c 4) (bmax m c 4) (runmax m c 5) (atLeast (bmax m c 4)) (Scalar.ofBits .f32 0x46FFFE00#32)) Q := by
  rw [k0_part24_eq_skeleton]
  unfold k0_part24_skel
  try extract_lets +lift
  refine r_dload ?_ ?_ ?_ ?_
  · decide
  · decide
  · rfl
  intro v233
  refine r_dstore ?_ ?_ ?_ ?_ ?_
  · decide
  · decide
  · rfl
  · exact st_50 m c
  refine r_ssload ?_ ?_ ?_ ?_
  · decide
  · decide
  · rfl
  intro v237
  refine r_ssstore ?_ ?_ ?_ ?_ ?_
  · decide
  · decide
  · rfl
  · exact st_51 m c
  try extract_lets +lift
  refine r_send 4 ?_ ?_ ?_ ?_ ?_ ?_ ?_ ?_ ?_ ?_ ?_ ?_ ?_ ?_ ?_
  · decide
  · decide
  · decide
  · exact word_ne c ⟨4, by decide⟩
  · exact fun _ => Fin.ext k0_dev25_eq
  · exact fun _ => Fin.ext k0_dev26_eq
  · exact sem_0 (dv 4 (by decide)) rfl _ _
  · exact sem_2 (dv 4 (by decide)) rfl _ _
  · exact fun _ => sem_1 c (k0_off13_eq c) _ _
  · exact fun _ => sem_3 c (k0_off13_eq c) _ _
  · rfl
  · exact k0_off14_eq c
  · rfl
  · exact k0_off15_eq c
  refine r_dload ?_ ?_ ?_ ?_
  · decide
  · decide
  · rfl
  intro v260
  refine r_dstore ?_ ?_ ?_ ?_ ?_
  · decide
  · decide
  · rfl
  · exact st_55 m c
  refine r_pure ?_
  exact hQ

/-- Segment 25 of the body. -/
theorem part_25 {Q : (Σ' (v283 : FVec F S256x256 .f32) (v287 : FVec F S256x128 .f32), F .f32) → sProp 𝕄}
    (hQ : St m K c 16 1 2 5 4 4 6 6 6 0 0 0 0 0 0 0 0 ⊢ Q ⟨(ychunk m c 3), (yblock m c 6), (bmax m c 6)⟩) :
    St m K c 16 1 2 4 3 3 6 5 5 0 0 0 0 0 0 0 0 ⊢ WP c (k0_part25 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (tile (bmax m c 5))) Q := by
  rw [k0_part25_eq_skeleton]
  unfold k0_part25_skel
  try extract_lets +lift
  refine r_ssload ?_ ?_ ?_ ?_
  · decide
  · decide
  · rfl
  intro v264
  refine r_ssstore ?_ ?_ ?_ ?_ ?_
  · decide
  · decide
  · rfl
  · exact st_57 m c
  try extract_lets +lift
  refine r_send 5 ?_ ?_ ?_ ?_ ?_ ?_ ?_ ?_ ?_ ?_ ?_ ?_ ?_ ?_ ?_
  · decide
  · decide
  · decide
  · exact word_ne c ⟨5, by decide⟩
  · exact fun _ => Fin.ext k0_dev27_eq
  · exact fun _ => Fin.ext k0_dev28_eq
  · exact sem_0 (dv 5 (by decide)) rfl _ _
  · exact sem_2 (dv 5 (by decide)) rfl _ _
  · exact fun _ => sem_1 c (k0_off16_eq c) _ _
  · exact fun _ => sem_3 c (k0_off16_eq c) _ _
  · rfl
  · exact k0_off17_eq c
  · rfl
  · exact k0_off18_eq c
  refine r_wcopy 0 2 ?_ ?_ ?_ ?_ ?_ ?_ ?_ ?_ ?_
  · rfl
  · decide
  · rfl
  · decide
  · decide
  · rfl
  · rfl
  · rfl
  refine r_wwait 1 1 ?_ ?_ ?_ ?_ ?_ ?_ ?_
  · rfl
  · decide
  · rfl
  · decide
  · decide
  · rfl
  refine r_xload  ?_
  refine r_wload 3 1 1 ?_ ?_ ?_ ?_ ?_
  · rfl
  · rfl
  · rfl
  · rfl
  refine r_yload  ?_
  intro _
  refine r_ystore ?_ ?_ ?_ ?_
  · decide
  · rfl
  · exact st_59 m c
  refine r_pure ?_
  exact hQ

/-- Segment 26 of the body. -/
theorem part_26 {Q : (Σ' (v319 : F .f32) (v320 : F .f32) (v330 : IVec S256x128 16), Vec F S256x128 .i16) → sProp 𝕄}
    (hQ : ∀ (a3 : Vec F S256x128 .i16), St m K c 16 1 2 5 4 4 7 7 7 0 0 0 0 0 0 0 0 ⊢ Q ⟨(bmax m c 7), (runmax m c 8), (quant16 (yblock m c 7)), a3⟩) :
    St m K c 16 1 2 5 4 4 6 6 6 0 0 0 0 0 0 0 0 ⊢ WP c (k0_part26 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (runmax m c 6) (ychunk m c 3) (yblock m c 6) (bmax m c 6)) Q := by
  rw [k0_part26_eq_skeleton]
  unfold k0_part26_skel
  try extract_lets +lift
  refine r_dload ?_ ?_ ?_ ?_
  · decide
  · decide
  · rfl
  intro v304
  refine r_dstore ?_ ?_ ?_ ?_ ?_
  · decide
  · decide
  · rfl
  · exact st_62 m c
  refine r_ssload ?_ ?_ ?_ ?_
  · decide
  · decide
  · rfl
  intro v308
  refine r_ssstore ?_ ?_ ?_ ?_ ?_
  · decide
  · decide
  · rfl
  · exact st_63 m c
  try extract_lets +lift
  refine r_send 6 ?_ ?_ ?_ ?_ ?_ ?_ ?_ ?_ ?_ ?_ ?_ ?_ ?_ ?_ ?_
  · decide
  · decide
  · decide
  · exact word_ne c ⟨6, by decide⟩
  · exact fun _ => Fin.ext k0_dev29_eq
  · exact fun _ => Fin.ext k0_dev30_eq
  · exact sem_0 (dv 6 (by decide)) rfl _ _
  · exact sem_2 (dv 6 (by decide)) rfl _ _
  · exact fun _ => sem_1 c (k0_off19_eq c) _ _
  · exact fun _ => sem_3 c (k0_off19_eq c) _ _
  · rfl
  · exact k0_off20_eq c
  · rfl
  · exact k0_off21_eq c
  refine r_dload ?_ ?_ ?_ ?_
  · decide
  · decide
  · rfl
  intro v331
  refine r_pure ?_
  exact hQ _

/-- Segment 27 of the body. -/
theorem part_27 {Q : (Σ' (v354 : FVec F S256x256 .f32) (v358 : FVec F S256x128 .f32), FVec F S1x256x128 .f32) → sProp 𝕄} (v331 : Vec F S256x128 .i16)
    (hQ : St m K c 16 1 2 6 5 5 8 8 8 0 0 0 0 0 0 0 0 ⊢ Q ⟨(ychunk m c 4), (yblock m c 8), (absCast (yblock m c 8))⟩) :
    St m K c 16 1 2 5 4 4 7 7 7 0 0 0 0 0 0 0 0 ⊢ WP c (k0_part27 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (bmax m c 7) (quant16 (yblock m c 7)) v331) Q := by
  rw [k0_part27_eq_skeleton]
  unfold k0_part27_skel
  try extract_lets +lift
  refine r_dstore ?_ ?_ ?_ ?_ ?_
  · decide
  · decide
  · rfl
  · exact st_68 m c
  refine r_ssload ?_ ?_ ?_ ?_
  · decide
  · decide
  · rfl
  intro v335
  refine r_ssstore ?_ ?_ ?_ ?_ ?_
  · decide
  · decide
  · rfl
  · exact st_69 m c
  try extract_lets +lift
  refine r_send 7 ?_ ?_ ?_ ?_ ?_ ?_ ?_ ?_ ?_ ?_ ?_ ?_ ?_ ?_ ?_
  · decide
  · decide
  · decide
  · exact word_ne c ⟨7, by decide⟩
  · exact fun _ => Fin.ext k0_dev31_eq
  · exact fun _ => Fin.ext k0_dev32_eq
  · exact sem_0 (dv 7 (by decide)) rfl _ _
  · exact sem_2 (dv 7 (by decide)) rfl _ _
  · exact fun _ => sem_1 c (k0_off22_eq c) _ _
  · exact fun _ => sem_3 c (k0_off22_eq c) _ _
  · rfl
  · exact k0_off23_eq c
  · rfl
  · exact k0_off24_eq c
  refine r_wcopy 1 2 ?_ ?_ ?_ ?_ ?_ ?_ ?_ ?_ ?_
  · rfl
  · decide
  · rfl
  · decide
  · decide
  · rfl
  · rfl
  · rfl
  refine r_wwait 0 2 ?_ ?_ ?_ ?_ ?_ ?_ ?_
  · rfl
  · decide
  · rfl
  · decide
  · decide
  · rfl
  refine r_xload  ?_
  refine r_wload 4 0 2 ?_ ?_ ?_ ?_ ?_
  · rfl
  · rfl
  · rfl
  · rfl
  refine r_yload  ?_
  intro _
  refine r_ystore ?_ ?_ ?_ ?_
  · decide
  · rfl
  · exact st_71 m c
  refine r_pure ?_
  exact hQ

/-- Segment 28 of the body. -/
theorem part_28 {Q : (Σ' (v390 : F .f32) (v391 : F .f32), FVec F S256x128 .f32) → sProp 𝕄}
    (hQ : St m K c 16 1 2 6 5 5 9 9 9 0 0 0 0 0 0 0 0 ⊢ Q ⟨(bmax m c 9), (runmax m c 10), (clip16 (yblock m c 9))⟩) :
    St m K c 16 1 2 6 5 5 8 8 8 0 0 0 0 0 0 0 0 ⊢ WP c (k0_part28 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (runmax m c 8) (ychunk m c 4) (yblock m c 8) (absCast (yblock m c 8))) Q := by
  rw [k0_part28_eq_skeleton]
  unfold k0_part28_skel
  try extract_lets +lift
  refine r_dload ?_ ?_ ?_ ?_
  · decide
  · decide
  · rfl
  intro v375
  refine r_dstore ?_ ?_ ?_ ?_ ?_
  · decide
  · decide
  · rfl
  · exact st_75 m c
  refine r_ssload ?_ ?_ ?_ ?_
  · decide
  · decide
  · rfl
  intro v379
  refine r_ssstore ?_ ?_ ?_ ?_ ?_
  · decide
  · decide
  · rfl
  · exact st_76 m c
  try extract_lets +lift
  refine r_send 8 ?_ ?_ ?_ ?_ ?_ ?_ ?_ ?_ ?_ ?_ ?_ ?_ ?_ ?_ ?_
  · decide
  · decide
  · decide
  · exact word_ne c ⟨8, by decide⟩
  · exact fun _ => Fin.ext k0_dev33_eq
  · exact fun _ => Fin.ext k0_dev34_eq
  · exact sem_0 (dv 8 (by decide)) rfl _ _
  · exact sem_2 (dv 8 (by decide)) rfl _ _
  · exact fun _ => sem_1 c (k0_off25_eq c) _ _
  · exact fun _ => sem_3 c (k0_off25_eq c) _ _
  · rfl
  · exact k0_off26_eq c
  · rfl
  · exact k0_off27_eq c
  refine r_pure ?_
  exact hQ

end Cert.KernelIdealProof

end
-- ==== Proof.Segments2.lean ====
/-
The second half of the product and the sends.
-/
module

public import proofs.«01_k».proof.Proof.Receives

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 100 → ℕ} {c : Dev nD}

/-- Segment 29 of the body. -/
theorem part_29 {Q : (Σ' (v425 : FVec F S256x256 .f32), FVec F S256x256 .f32) → sProp 𝕄}
    (hQ : St m K c 16 1 2 7 6 5 10 10 10 0 0 0 0 0 0 0 0 ⊢ Q ⟨(ychunk m c 5), (ychunk m c 5)⟩) :
    St m K c 16 1 2 6 5 5 9 9 9 0 0 0 0 0 0 0 0 ⊢ WP c (k0_part29 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (bmax m c 9) (clip16 (yblock m c 9))) Q := by
  rw [k0_part29_eq_skeleton]
  unfold k0_part29_skel
  try extract_lets +lift
  refine r_dload ?_ ?_ ?_ ?_
  · decide
  · decide
  · rfl
  intro v402
  refine r_dstore ?_ ?_ ?_ ?_ ?_
  · decide
  · decide
  · rfl
  · exact st_81 m c
  refine r_ssload ?_ ?_ ?_ ?_
  · decide
  · decide
  · rfl
  intro v406
  refine r_ssstore ?_ ?_ ?_ ?_ ?_
  · decide
  · decide
  · rfl
  · exact st_82 m c
  try extract_lets +lift
  refine r_send 9 ?_ ?_ ?_ ?_ ?_ ?_ ?_ ?_ ?_ ?_ ?_ ?_ ?_ ?_ ?_
  · decide
  · decide
  · decide
  · exact word_ne c ⟨9, by decide⟩
  · exact fun _ => Fin.ext k0_dev35_eq
  · exact fun _ => Fin.ext k0_dev36_eq
  · exact sem_0 (dv 9 (by decide)) rfl _ _
  · exact sem_2 (dv 9 (by decide)) rfl _ _
  · exact fun _ => sem_1 c (k0_off28_eq c) _ _
  · exact fun _ => sem_3 c (k0_off28_eq c) _ _
  · rfl
  · exact k0_off29_eq c
  · rfl
  · exact k0_off30_eq c
  refine r_wcopy 0 3 ?_ ?_ ?_ ?_ ?_ ?_ ?_ ?_ ?_
  · rfl
  · decide
  · rfl
  · decide
  · decide
  · rfl
  · rfl
  · rfl
  refine r_wwait 1 2 ?_ ?_ ?_ ?_ ?_ ?_ ?_
  · rfl
  · decide
  · rfl
  · decide
  · decide
  · rfl
  refine r_xload  ?_
  refine r_wload 5 1 2 ?_ ?_ ?_ ?_ ?_
  · rfl
  · rfl
  · rfl
  · rfl
  refine r_yload  ?_
  intro _
  refine r_pure ?_
  rw [rt_29_0 m c, rt_29_1 m c]
  exact hQ

/-- Segment 30 of the body. -/
theorem part_30 {Q : (Σ' (v461 : F .f32) (v462 : F .f32) (v467 : FVec F S256x128 .f32) (cst_252 : F .f32), F .f32) → sProp 𝕄}
    (hQ : St m K c 16 1 2 7 6 6 11 11 11 0 0 0 0 0 0 0 0 ⊢ Q ⟨(bmax m c 11), (runmax m c 12), (steps16 (yblock m c 11)), (Scalar.ofBits .f32 0xC6FFFE00#32), (Scalar.ofBits .f32 0x46FFFE00#32)⟩) :
    St m K c 16 1 2 7 6 5 10 10 10 0 0 0 0 0 0 0 0 ⊢ WP c (k0_part30 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (runmax m c 10) (ychunk m c 5) (ychunk m c 5)) Q := by
  rw [k0_part30_eq_skeleton]
  unfold k0_part30_skel
  try extract_lets +lift
  refine r_ystore ?_ ?_ ?_ ?_
  · decide
  · rfl
  · rfl
  refine r_dload ?_ ?_ ?_ ?_
  · decide
  · decide
  · rfl
  intro v446
  refine r_dstore ?_ ?_ ?_ ?_ ?_
  · decide
  · decide
  · rfl
  · exact st_87 m c
  refine r_ssload ?_ ?_ ?_ ?_
  · decide
  · decide
  · rfl
  intro v450
  refine r_ssstore ?_ ?_ ?_ ?_ ?_
  · decide
  · decide
  · rfl
  · exact st_88 m c
  try extract_lets +lift
  refine r_send 10 ?_ ?_ ?_ ?_ ?_ ?_ ?_ ?_ ?_ ?_ ?_ ?_ ?_ ?_ ?_
  · decide
  · decide
  · decide
  · exact word_ne c ⟨10, by decide⟩
  · exact fun _ => Fin.ext k0_dev37_eq
  · exact fun _ => Fin.ext k0_dev38_eq
  · exact sem_0 (dv 10 (by decide)) rfl _ _
  · exact sem_2 (dv 10 (by decide)) rfl _ _
  · exact fun _ => sem_1 c (k0_off31_eq c) _ _
  · exact fun _ => sem_3 c (k0_off31_eq c) _ _
  · rfl
  · exact k0_off32_eq c
  · rfl
  · exact k0_off33_eq c
  refine r_pure ?_
  exact hQ

/-- Segment 31 of the body. -/
theorem part_31 {Q : FVec F S256x256 .f32 → sProp 𝕄}
    (hQ : St m K c 16 1 2 8 7 6 12 12 12 0 0 0 0 0 0 0 0 ⊢ Q ((ychunk m c 6))) :
    St m K c 16 1 2 7 6 6 11 11 11 0 0 0 0 0 0 0 0 ⊢ WP c (k0_part31 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (bmax m c 11) (steps16 (yblock m c 11)) (Scalar.ofBits .f32 0xC6FFFE00#32) (Scalar.ofBits .f32 0x46FFFE00#32)) Q := by
  rw [k0_part31_eq_skeleton]
  unfold k0_part31_skel
  try extract_lets +lift
  refine r_dload ?_ ?_ ?_ ?_
  · decide
  · decide
  · rfl
  intro v473
  refine r_dstore ?_ ?_ ?_ ?_ ?_
  · decide
  · decide
  · rfl
  · exact st_93 m c
  refine r_ssload ?_ ?_ ?_ ?_
  · decide
  · decide
  · rfl
  intro v477
  refine r_ssstore ?_ ?_ ?_ ?_ ?_
  · decide
  · decide
  · rfl
  · exact st_94 m c
  try extract_lets +lift
  refine r_send 11 ?_ ?_ ?_ ?_ ?_ ?_ ?_ ?_ ?_ ?_ ?_ ?_ ?_ ?_ ?_
  · decide
  · decide
  · decide
  · exact word_ne c ⟨11, by decide⟩
  · exact fun _ => Fin.ext k0_dev39_eq
  · exact fun _ => Fin.ext k0_dev40_eq
  · exact sem_0 (dv 11 (by decide)) rfl _ _
  · exact sem_2 (dv 11 (by decide)) rfl _ _
  · exact fun _ => sem_1 c (k0_off34_eq c) _ _
  · exact fun _ => sem_3 c (k0_off34_eq c) _ _
  · rfl
  · exact k0_off35_eq c
  · rfl
  · exact k0_off36_eq c
  refine r_wcopy 1 3 ?_ ?_ ?_ ?_ ?_ ?_ ?_ ?_ ?_
  · rfl
  · decide
  · rfl
  · decide
  · decide
  · rfl
  · rfl
  · rfl
  refine r_wwait 0 3 ?_ ?_ ?_ ?_ ?_ ?_ ?_
  · rfl
  · decide
  · rfl
  · decide
  · decide
  · rfl
  refine r_xload  ?_
  refine r_wload 6 0 3 ?_ ?_ ?_ ?_ ?_
  · rfl
  · rfl
  · rfl
  · rfl
  refine r_pure ?_
  exact hQ

/-- Segment 32 of the body. -/
theorem part_32 {Q : (Σ' (v527 : FVec F S256x128 .f32) (v532 : F .f32) (v533 : F .f32), FVec F S256x128 .f32) → sProp 𝕄}
    (hQ : St m K c 16 1 2 8 7 7 13 13 13 0 0 0 0 0 0 0 0 ⊢ Q ⟨(yblock m c 13), (bmax m c 13), (runmax m c 14), (spread (inv16 (bmax m c 13)))⟩) :
    St m K c 16 1 2 8 7 6 12 12 12 0 0 0 0 0 0 0 0 ⊢ WP c (k0_part32 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (runmax m c 12) (ychunk m c 6)) Q := by
  rw [k0_part32_eq_skeleton]
  unfold k0_part32_skel
  try extract_lets +lift
  refine r_yload  ?_
  intro _
  refine r_ystore ?_ ?_ ?_ ?_
  · decide
  · rfl
  · exact st_96 m c
  refine r_dload ?_ ?_ ?_ ?_
  · decide
  · decide
  · rfl
  intro v517
  refine r_dstore ?_ ?_ ?_ ?_ ?_
  · decide
  · decide
  · rfl
  · exact st_99 m c
  refine r_ssload ?_ ?_ ?_ ?_
  · decide
  · decide
  · rfl
  intro v521
  refine r_ssstore ?_ ?_ ?_ ?_ ?_
  · decide
  · decide
  · rfl
  · exact st_100 m c
  try extract_lets +lift
  refine r_send 12 ?_ ?_ ?_ ?_ ?_ ?_ ?_ ?_ ?_ ?_ ?_ ?_ ?_ ?_ ?_
  · decide
  · decide
  · decide
  · exact word_ne c ⟨12, by decide⟩
  · exact fun _ => Fin.ext k0_dev41_eq
  · exact fun _ => Fin.ext k0_dev42_eq
  · exact sem_0 (dv 12 (by decide)) rfl _ _
  · exact sem_2 (dv 12 (by decide)) rfl _ _
  · exact fun _ => sem_1 c (k0_off37_eq c) _ _
  · exact fun _ => sem_3 c (k0_off37_eq c) _ _
  · rfl
  · exact k0_off38_eq c
  · rfl
  · exact k0_off39_eq c
  refine r_pure ?_
  exact hQ

/-- Segment 33 of the body. -/
theorem part_33 {Q : (Σ' (v562 : FVec F S256x256 .f32) (v566 : FVec F S256x128 .f32), FVec F S1x256x128 .f32) → sProp 𝕄}
    (hQ : St m K c 16 1 2 8 8 8 14 14 14 0 0 0 0 0 0 0 0 ⊢ Q ⟨(ychunk m c 7), (yblock m c 14), (absCast (yblock m c 14))⟩) :
    St m K c 16 1 2 8 7 7 13 13 13 0 0 0 0 0 0 0 0 ⊢ WP c (k0_part33 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (yblock m c 13) (bmax m c 13) (spread (inv16 (bmax m c 13)))) Q := by
  rw [k0_part33_eq_skeleton]
  unfold k0_part33_skel
  try extract_lets +lift
  refine r_dload ?_ ?_ ?_ ?_
  · decide
  · decide
  · rfl
  intro v544
  refine r_dstore ?_ ?_ ?_ ?_ ?_
  · decide
  · decide
  · rfl
  · exact st_105 m c
  refine r_ssload ?_ ?_ ?_ ?_
  · decide
  · decide
  · rfl
  intro v548
  refine r_ssstore ?_ ?_ ?_ ?_ ?_
  · decide
  · decide
  · rfl
  · exact st_106 m c
  try extract_lets +lift
  refine r_send 13 ?_ ?_ ?_ ?_ ?_ ?_ ?_ ?_ ?_ ?_ ?_ ?_ ?_ ?_ ?_
  · decide
  · decide
  · decide
  · exact word_ne c ⟨13, by decide⟩
  · exact fun _ => Fin.ext k0_dev43_eq
  · exact fun _ => Fin.ext k0_dev44_eq
  · exact sem_0 (dv 13 (by decide)) rfl _ _
  · exact sem_2 (dv 13 (by decide)) rfl _ _
  · exact fun _ => sem_1 c (k0_off40_eq c) _ _
  · exact fun _ => sem_3 c (k0_off40_eq c) _ _
  · rfl
  · exact k0_off41_eq c
  · rfl
  · exact k0_off42_eq c
  refine r_wwait 1 3 ?_ ?_ ?_ ?_ ?_ ?_ ?_
  · rfl
  · decide
  · rfl
  · decide
  · decide
  · rfl
  refine r_xload  ?_
  refine r_wload 7 1 3 ?_ ?_ ?_ ?_ ?_
  · rfl
  · rfl
  · rfl
  · rfl
  refine r_yload  ?_
  intro _
  refine r_ystore ?_ ?_ ?_ ?_
  · decide
  · rfl
  · exact st_108 m c
  refine r_pure ?_
  exact hQ

/-- Segment 34 of the body. -/
theorem part_34 {Q : (Σ' (v598 : F .f32) (v599 : F .f32), FVec F S256x128 .f32) → sProp 𝕄}
    (hQ : St m K c 16 1 2 8 8 8 15 15 15 0 0 0 0 0 0 0 0 ⊢ Q ⟨(bmax m c 15), (runmax m c 16), (clip16 (yblock m c 15))⟩) :
    St m K c 16 1 2 8 8 8 14 14 14 0 0 0 0 0 0 0 0 ⊢ WP c (k0_part34 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (runmax m c 14) (ychunk m c 7) (yblock m c 14) (absCast (yblock m c 14))) Q := by
  rw [k0_part34_eq_skeleton]
  unfold k0_part34_skel
  try extract_lets +lift
  refine r_dload ?_ ?_ ?_ ?_
  · decide
  · decide
  · rfl
  intro v583
  refine r_dstore ?_ ?_ ?_ ?_ ?_
  · decide
  · decide
  · rfl
  · exact st_112 m c
  refine r_ssload ?_ ?_ ?_ ?_
  · decide
  · decide
  · rfl
  intro v587
  refine r_ssstore ?_ ?_ ?_ ?_ ?_
  · decide
  · decide
  · rfl
  · exact st_113 m c
  try extract_lets +lift
  refine r_send 14 ?_ ?_ ?_ ?_ ?_ ?_ ?_ ?_ ?_ ?_ ?_ ?_ ?_ ?_ ?_
  · decide
  · decide
  · decide
  · exact word_ne c ⟨14, by decide⟩
  · exact fun _ => Fin.ext k0_dev45_eq
  · exact fun _ => Fin.ext k0_dev46_eq
  · exact sem_0 (dv 14 (by decide)) rfl _ _
  · exact sem_2 (dv 14 (by decide)) rfl _ _
  · exact fun _ => sem_1 c (k0_off43_eq c) _ _
  · exact fun _ => sem_3 c (k0_off43_eq c) _ _
  · rfl
  · exact k0_off44_eq c
  · rfl
  · exact k0_off45_eq c
  refine r_pure ?_
  exact hQ

/-- Segment 35 of the body. -/
theorem part_35 {Q : PUnit → sProp 𝕄}
    (hQ : St m K c 16 1 2 8 8 8 16 16 16 1 1 4 0 0 0 0 0 ⊢ Q ⟨⟩) :
    St m K c 16 1 2 8 8 8 15 15 15 0 0 0 0 0 0 0 0 ⊢ WP c (k0_part35 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c) (bmax m c 15) (runmax m c 16) (clip16 (yblock m c 15))) Q := by
  rw [k0_part35_eq_skeleton]
  unfold k0_part35_skel
  try extract_lets +lift
  refine r_dload ?_ ?_ ?_ ?_
  · decide
  · decide
  · rfl
  intro v610
  refine r_dstore ?_ ?_ ?_ ?_ ?_
  · decide
  · decide
  · rfl
  · exact st_118 m c
  refine r_ssload ?_ ?_ ?_ ?_
  · decide
  · decide
  · rfl
  intro v614
  refine r_ssstore ?_ ?_ ?_ ?_ ?_
  · decide
  · decide
  · rfl
  · exact st_119 m c
  try extract_lets +lift
  refine r_send 15 ?_ ?_ ?_ ?_ ?_ ?_ ?_ ?_ ?_ ?_ ?_ ?_ ?_ ?_ ?_
  · decide
  · decide
  · decide
  · exact word_ne c ⟨15, by decide⟩
  · exact fun _ => Fin.ext k0_dev47_eq
  · exact fun _ => Fin.ext k0_dev48_eq
  · exact sem_0 (dv 15 (by decide)) rfl _ _
  · exact sem_2 (dv 15 (by decide)) rfl _ _
  · exact fun _ => sem_1 c (k0_off46_eq c) _ _
  · exact fun _ => sem_3 c (k0_off46_eq c) _ _
  · rfl
  · exact k0_off47_eq c
  · rfl
  · exact k0_off48_eq c
  refine r_asload  ?_
  intro _
  refine r_asstore ?_ ?_
  · exact st_120 m c
  refine r_arload ?_ ?_
  · exact k0_off49_eq c
  intro _
  refine r_arstore ?_ ?_ ?_
  · exact k0_off49_eq c
  · exact st_121 m c
  try extract_lets +lift
  refine r_asend 0 ?_ ?_ ?_ ?_ ?_ ?_ ?_
  · decide
  · exact word_ne c ⟨0, by decide⟩
  · exact fun _ => Fin.ext k0_dev49_eq
  · exact sem_4 (dv 0 (by decide)) rfl _ _
  · exact fun _ => sem_5 c (k0_off50_eq c) _ _
  · exact k0_off51_eq c
  try extract_lets +lift
  refine r_asend 1 ?_ ?_ ?_ ?_ ?_ ?_ ?_
  · decide
  · exact word_ne c ⟨1, by decide⟩
  · exact fun _ => Fin.ext k0_dev50_eq
  · exact sem_4 (dv 1 (by decide)) rfl _ _
  · exact fun _ => sem_5 c (k0_off52_eq c) _ _
  · exact k0_off53_eq c
  try extract_lets +lift
  refine r_asend 2 ?_ ?_ ?_ ?_ ?_ ?_ ?_
  · decide
  · exact word_ne c ⟨2, by decide⟩
  · exact fun _ => Fin.ext k0_dev51_eq
  · exact sem_4 (dv 2 (by decide)) rfl _ _
  · exact fun _ => sem_5 c (k0_off54_eq c) _ _
  · exact k0_off55_eq c
  try extract_lets +lift
  refine r_asend 3 ?_ ?_ ?_ ?_ ?_ ?_ ?_
  · decide
  · exact word_ne c ⟨3, by decide⟩
  · exact fun _ => Fin.ext k0_dev52_eq
  · exact sem_4 (dv 3 (by decide)) rfl _ _
  · exact fun _ => sem_5 c (k0_off56_eq c) _ _
  · exact k0_off57_eq c
  refine r_pure ?_
  exact hQ

/-- Segment 36 of the body. -/
theorem part_36 {Q : PUnit → sProp 𝕄}
    (hQ : St m K c 16 1 2 8 8 8 16 16 16 1 1 14 0 0 0 0 0 ⊢ Q ⟨⟩) :
    St m K c 16 1 2 8 8 8 16 16 16 1 1 4 0 0 0 0 0 ⊢ WP c (k0_part36 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c)) Q := by
  rw [k0_part36_eq_skeleton]
  unfold k0_part36_skel
  try extract_lets +lift
  refine r_asend 4 ?_ ?_ ?_ ?_ ?_ ?_ ?_
  · decide
  · exact word_ne c ⟨4, by decide⟩
  · exact fun _ => Fin.ext k0_dev53_eq
  · exact sem_4 (dv 4 (by decide)) rfl _ _
  · exact fun _ => sem_5 c (k0_off58_eq c) _ _
  · exact k0_off59_eq c
  try extract_lets +lift
  refine r_asend 5 ?_ ?_ ?_ ?_ ?_ ?_ ?_
  · decide
  · exact word_ne c ⟨5, by decide⟩
  · exact fun _ => Fin.ext k0_dev54_eq
  · exact sem_4 (dv 5 (by decide)) rfl _ _
  · exact fun _ => sem_5 c (k0_off60_eq c) _ _
  · exact k0_off61_eq c
  try extract_lets +lift
  refine r_asend 6 ?_ ?_ ?_ ?_ ?_ ?_ ?_
  · decide
  · exact word_ne c ⟨6, by decide⟩
  · exact fun _ => Fin.ext k0_dev55_eq
  · exact sem_4 (dv 6 (by decide)) rfl _ _
  · exact fun _ => sem_5 c (k0_off62_eq c) _ _
  · exact k0_off63_eq c
  try extract_lets +lift
  refine r_asend 7 ?_ ?_ ?_ ?_ ?_ ?_ ?_
  · decide
  · exact word_ne c ⟨7, by decide⟩
  · exact fun _ => Fin.ext k0_dev56_eq
  · exact sem_4 (dv 7 (by decide)) rfl _ _
  · exact fun _ => sem_5 c (k0_off64_eq c) _ _
  · exact k0_off65_eq c
  try extract_lets +lift
  refine r_asend 8 ?_ ?_ ?_ ?_ ?_ ?_ ?_
  · decide
  · exact word_ne c ⟨8, by decide⟩
  · exact fun _ => Fin.ext k0_dev57_eq
  · exact sem_4 (dv 8 (by decide)) rfl _ _
  · exact fun _ => sem_5 c (k0_off66_eq c) _ _
  · exact k0_off67_eq c
  try extract_lets +lift
  refine r_asend 9 ?_ ?_ ?_ ?_ ?_ ?_ ?_
  · decide
  · exact word_ne c ⟨9, by decide⟩
  · exact fun _ => Fin.ext k0_dev58_eq
  · exact sem_4 (dv 9 (by decide)) rfl _ _
  · exact fun _ => sem_5 c (k0_off68_eq c) _ _
  · exact k0_off69_eq c
  try extract_lets +lift
  refine r_asend 10 ?_ ?_ ?_ ?_ ?_ ?_ ?_
  · decide
  · exact word_ne c ⟨10, by decide⟩
  · exact fun _ => Fin.ext k0_dev59_eq
  · exact sem_4 (dv 10 (by decide)) rfl _ _
  · exact fun _ => sem_5 c (k0_off70_eq c) _ _
  · exact k0_off71_eq c
  try extract_lets +lift
  refine r_asend 11 ?_ ?_ ?_ ?_ ?_ ?_ ?_
  · decide
  · exact word_ne c ⟨11, by decide⟩
  · exact fun _ => Fin.ext k0_dev60_eq
  · exact sem_4 (dv 11 (by decide)) rfl _ _
  · exact fun _ => sem_5 c (k0_off72_eq c) _ _
  · exact k0_off73_eq c
  try extract_lets +lift
  refine r_asend 12 ?_ ?_ ?_ ?_ ?_ ?_ ?_
  · decide
  · exact word_ne c ⟨12, by decide⟩
  · exact fun _ => Fin.ext k0_dev61_eq
  · exact sem_4 (dv 12 (by decide)) rfl _ _
  · exact fun _ => sem_5 c (k0_off74_eq c) _ _
  · exact k0_off75_eq c
  try extract_lets +lift
  refine r_asend 13 ?_ ?_ ?_ ?_ ?_ ?_ ?_
  · decide
  · exact word_ne c ⟨13, by decide⟩
  · exact fun _ => Fin.ext k0_dev62_eq
  · exact sem_4 (dv 13 (by decide)) rfl _ _
  · exact fun _ => sem_5 c (k0_off76_eq c) _ _
  · exact k0_off77_eq c
  refine r_pure ?_
  exact hQ

end Cert.KernelIdealProof

end
-- ==== Proof.Segments3.lean ====
/-
Waiting for the maxima, and the result blocks.
-/
module

public import proofs.«01_k».proof.Proof.Receives

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 100 → ℕ} {c : Dev nD}

/-- Segment 37 of the body. -/
theorem part_37 {Q : PUnit → sProp 𝕄}
    (hQ : St m K c 16 1 2 8 8 8 16 16 16 1 1 16 8 0 0 0 0 ⊢ Q ⟨⟩) :
    St m K c 16 1 2 8 8 8 16 16 16 1 1 14 0 0 0 0 0 ⊢ WP c (k0_part37 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 c (V2 c)) Q := by
  rw [k0_part37_eq_skeleton]
  unfold k0_part37_skel
  try extract_lets +lift
  refine r_asend 14 ?_ ?_ ?_ ?_ ?_ ?_ ?_
  · decide
  · exact word_ne c ⟨14, by decide⟩
  · exact fun _ => Fin.ext k0_dev63_eq
  · exact sem_4 (dv 14 (by decide)) rfl _ _
  · exact fun _ => sem_5 c (k0_off78_eq c) _ _
  · exact k0_off79_eq c
  try extract_lets +lift
  refine r_asend 15 ?_ ?_ ?_ ?_ ?_ ?_ ?_
  · decide
  · exact word_ne c ⟨15, by decide⟩
  · exact fun _ => Fin.ext k0_dev64_eq
  · exact sem_4 (dv 15 (by decide)) rfl _ _
  · exact fun _ => sem_5 c (k0_off80_eq c) _ _
  · exact k0_off81_eq c
  try extract_lets +lift
  refine r_await 0 ?_ ?_ ?_ ?_
  · decide
  · exact word_ne c ⟨0, by decide⟩
  · exact sem_5 (dv 0 (by decide)) rfl _ _
  try extract_lets +lift
  refine r_await 1 ?_ ?_ ?_ ?_
  · decide
  · exact word_ne c ⟨1, by decide⟩
  · exact sem_5 (dv 1 (by decide)) rfl _ _
  try extract_lets +lift
  refine r_await 2 ?_ ?_ ?_ ?_
  · decide
  · exact word_ne c ⟨2, by decide⟩
  · exact sem_5 (dv 2 (by decide)) rfl _ _
  try extract_lets +lift
  refine r_await 3 ?_ ?_ ?_ ?_
  · decide
  · exact word_ne c ⟨3, by decide⟩
  · exact sem_5 (dv 3 (by decide)) rfl _ _
  try extract_lets +lift
  refine r_await 4 ?_ ?_ ?_ ?_
  · decide
  · exact word_ne c ⟨4, by decide⟩
  · exact sem_5 (dv 4 (by decide)) rfl _ _
  try extract_lets +lift
  refine r_await 5 ?_ ?_ ?_ ?_
  · decide
  · exact word_ne c ⟨5, by decide⟩
  · exact sem_5 (dv 5 (by decide)) rfl _ _
  try extract_lets +lift
  refine r_await 6 ?_ ?_ ?_ ?_
  · decide
  · exact word_ne c ⟨6, by decide⟩
  · exact sem_5 (dv 6 (by decide)) rfl _ _
  try extract_lets +lift
  refine r_await 7 ?_ ?_ ?_ ?_
  · decide
  · exact word_ne c ⟨7, by decide⟩
  · exact sem_5 (dv 7 (by decide)) rfl _ _
  refine r_pure ?_
  exact hQ

/-- Segment 38 of the body. -/
theorem part_38 {Q : (Σ' (v729 : F .f32) (v730 : F .f32), F .f32) → sProp 𝕄}
    (hQ : St m K c 16 1 2 8 8 8 16 16 16 1 1 16 16 0 0 0 0 ⊢ Q ⟨gmax m c, scale8 m c, (Scalar.ofBits .f32 0x42FE0000#32)⟩) :
    St m K c 16 1 2 8 8 8 16 16 16 1 1 16 8 0 0 0 0 ⊢ WP c (k0_part38 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (V2 c)) Q := by
  rw [k0_part38_eq_skeleton]
  unfold k0_part38_skel
  try extract_lets +lift
  refine r_await 8 ?_ ?_ ?_ ?_
  · decide
  · exact word_ne c ⟨8, by decide⟩
  · exact sem_5 (dv 8 (by decide)) rfl _ _
  try extract_lets +lift
  refine r_await 9 ?_ ?_ ?_ ?_
  · decide
  · exact word_ne c ⟨9, by decide⟩
  · exact sem_5 (dv 9 (by decide)) rfl _ _
  try extract_lets +lift
  refine r_await 10 ?_ ?_ ?_ ?_
  · decide
  · exact word_ne c ⟨10, by decide⟩
  · exact sem_5 (dv 10 (by decide)) rfl _ _
  try extract_lets +lift
  refine r_await 11 ?_ ?_ ?_ ?_
  · decide
  · exact word_ne c ⟨11, by decide⟩
  · exact sem_5 (dv 11 (by decide)) rfl _ _
  try extract_lets +lift
  refine r_await 12 ?_ ?_ ?_ ?_
  · decide
  · exact word_ne c ⟨12, by decide⟩
  · exact sem_5 (dv 12 (by decide)) rfl _ _
  try extract_lets +lift
  refine r_await 13 ?_ ?_ ?_ ?_
  · decide
  · exact word_ne c ⟨13, by decide⟩
  · exact sem_5 (dv 13 (by decide)) rfl _ _
  try extract_lets +lift
  refine r_await 14 ?_ ?_ ?_ ?_
  · decide
  · exact word_ne c ⟨14, by decide⟩
  · exact sem_5 (dv 14 (by decide)) rfl _ _
  try extract_lets +lift
  refine r_await 15 ?_ ?_ ?_ ?_
  · decide
  · exact word_ne c ⟨15, by decide⟩
  · exact sem_5 (dv 15 (by decide)) rfl _ _
  refine r_arall  ?_
  refine r_pure ?_
  exact hQ

set_option maxHeartbeats 4000000 in
/-- Segment 39 of the body. -/
theorem part_39 {Q : (Σ' (v731 : F .f32), BitVec 1) → sProp 𝕄}
    (hQ : St m K c 16 1 2 8 8 8 16 16 16 1 1 16 16 9 0 0 0 ⊢ Q ⟨inv8 m c, (Scalar.cmpi .ne (Scalar.extui (Scalar.cmpi .eq (V2 c) 9#32)) 0#32)⟩) :
    St m K c 16 1 2 8 8 8 16 16 16 1 1 16 16 0 0 0 0 ⊢ WP c (k0_part39 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (V2 c) (gmax m c) (scale8 m c) (Scalar.ofBits .f32 0x42FE0000#32)) Q := by
  rw [k0_part39_eq_skeleton]
  unfold k0_part39_skel
  try extract_lets +lift
  refine r_own 0 ?_ ?_ ?_ ?_ ?_ ?_
  · decide
  · exact word_eq c ⟨0, by decide⟩
  · rfl
  · rfl
  · rfl
  try extract_lets +lift
  refine r_own 1 ?_ ?_ ?_ ?_ ?_ ?_
  · decide
  · exact word_eq c ⟨1, by decide⟩
  · rfl
  · rfl
  · rfl
  try extract_lets +lift
  refine r_own 2 ?_ ?_ ?_ ?_ ?_ ?_
  · decide
  · exact word_eq c ⟨2, by decide⟩
  · rfl
  · rfl
  · rfl
  try extract_lets +lift
  refine r_own 3 ?_ ?_ ?_ ?_ ?_ ?_
  · decide
  · exact word_eq c ⟨3, by decide⟩
  · rfl
  · rfl
  · rfl
  try extract_lets +lift
  refine r_own 4 ?_ ?_ ?_ ?_ ?_ ?_
  · decide
  · exact word_eq c ⟨4, by decide⟩
  · rfl
  · rfl
  · rfl
  try extract_lets +lift
  refine r_own 5 ?_ ?_ ?_ ?_ ?_ ?_
  · decide
  · exact word_eq c ⟨5, by decide⟩
  · rfl
  · rfl
  · rfl
  try extract_lets +lift
  refine r_own 6 ?_ ?_ ?_ ?_ ?_ ?_
  · decide
  · exact word_eq c ⟨6, by decide⟩
  · rfl
  · rfl
  · rfl
  try extract_lets +lift
  refine r_own 7 ?_ ?_ ?_ ?_ ?_ ?_
  · decide
  · exact word_eq c ⟨7, by decide⟩
  · rfl
  · rfl
  · rfl
  try extract_lets +lift
  refine r_own 8 ?_ ?_ ?_ ?_ ?_ ?_
  · decide
  · exact word_eq c ⟨8, by decide⟩
  · rfl
  · rfl
  · rfl
  refine r_pure ?_
  exact hQ

set_option maxHeartbeats 4000000 in
/-- Segment 40 of the body. -/
theorem part_40 {Q : BitVec 1 → sProp 𝕄}
    (hQ : St m K c 16 1 2 8 8 8 16 16 16 1 1 16 16 16 3 3 0 ⊢ Q ((Scalar.cmpi .ne (Scalar.extui (Scalar.cmpi .ne (V2 c) 3#32)) 0#32))) :
    St m K c 16 1 2 8 8 8 16 16 16 1 1 16 16 9 0 0 0 ⊢ WP c (k0_part40 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (V2 c) (scale8 m c) (inv8 m c) (Scalar.cmpi .ne (Scalar.extui (Scalar.cmpi .eq (V2 c) 9#32)) 0#32)) Q := by
  rw [k0_part40_eq_skeleton]
  unfold k0_part40_skel
  try extract_lets +lift
  refine r_own 9 ?_ ?_ ?_ ?_ ?_ ?_
  · decide
  · exact word_eq c ⟨9, by decide⟩
  · rfl
  · rfl
  · rfl
  try extract_lets +lift
  refine r_own 10 ?_ ?_ ?_ ?_ ?_ ?_
  · decide
  · exact word_eq c ⟨10, by decide⟩
  · rfl
  · rfl
  · rfl
  try extract_lets +lift
  refine r_own 11 ?_ ?_ ?_ ?_ ?_ ?_
  · decide
  · exact word_eq c ⟨11, by decide⟩
  · rfl
  · rfl
  · rfl
  try extract_lets +lift
  refine r_own 12 ?_ ?_ ?_ ?_ ?_ ?_
  · decide
  · exact word_eq c ⟨12, by decide⟩
  · rfl
  · rfl
  · rfl
  try extract_lets +lift
  refine r_own 13 ?_ ?_ ?_ ?_ ?_ ?_
  · decide
  · exact word_eq c ⟨13, by decide⟩
  · rfl
  · rfl
  · rfl
  try extract_lets +lift
  refine r_own 14 ?_ ?_ ?_ ?_ ?_ ?_
  · decide
  · exact word_eq c ⟨14, by decide⟩
  · rfl
  · rfl
  · rfl
  try extract_lets +lift
  refine r_own 15 ?_ ?_ ?_ ?_ ?_ ?_
  · decide
  · exact word_eq c ⟨15, by decide⟩
  · rfl
  · rfl
  · rfl
  try extract_lets +lift
  refine r_recv 0 ?_ ?_ ⟨(Scalar.ofBits .f32 0x42FE0000#32), k0_pay1 (inv8 m c) (qload m c (dv 0 (by decide))) (fun _ => bmax m (dv 0 (by decide)) c.val)⟩ ?_ ?_ ?_
  · decide
  · exact word_ne c ⟨0, by decide⟩
  · exact fun G hcn hk => part_1 hcn hk
  · intro hcn hk
    refine r_oload ?_
    intro _
    refine r_ostore ?_ ?_ ?_ ?_ ?_
    · decide
    · exact hcn
    · rfl
    · exact recv_0 m c hcn
    exact hk
  try extract_lets +lift
  refine r_recv 1 ?_ ?_ ⟨(Scalar.ofBits .f32 0x42FE0000#32), k0_pay2 (inv8 m c) (qload m c (dv 1 (by decide))) (fun _ => bmax m (dv 1 (by decide)) c.val)⟩ ?_ ?_ ?_
  · decide
  · exact word_ne c ⟨1, by decide⟩
  · exact fun G hcn hk => part_2 hcn hk
  · intro hcn hk
    refine r_oload ?_
    intro _
    refine r_ostore ?_ ?_ ?_ ?_ ?_
    · decide
    · exact hcn
    · rfl
    · exact recv_1 m c hcn
    exact hk
  try extract_lets +lift
  refine r_recv 2 ?_ ?_ ⟨(Scalar.ofBits .f32 0x42FE0000#32), k0_pay3 (inv8 m c) (qload m c (dv 2 (by decide))) (fun _ => bmax m (dv 2 (by decide)) c.val)⟩ ?_ ?_ ?_
  · decide
  · exact word_ne c ⟨2, by decide⟩
  · exact fun G hcn hk => part_3 hcn hk
  · intro hcn hk
    refine r_oload ?_
    intro _
    refine r_ostore ?_ ?_ ?_ ?_ ?_
    · decide
    · exact hcn
    · rfl
    · exact recv_2 m c hcn
    exact hk
  refine r_pure ?_
  exact hQ

set_option maxHeartbeats 4000000 in
/-- Segment 41 of the body. -/
theorem part_41 {Q : BitVec 1 → sProp 𝕄}
    (hQ : St m K c 16 1 2 8 8 8 16 16 16 1 1 16 16 16 13 13 0 ⊢ Q ((Scalar.cmpi .ne (Scalar.extui (Scalar.cmpi .ne (V2 c) 13#32)) 0#32))) :
    St m K c 16 1 2 8 8 8 16 16 16 1 1 16 16 16 3 3 0 ⊢ WP c (k0_part41 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (V2 c) (scale8 m c) (inv8 m c) (Scalar.cmpi .ne (Scalar.extui (Scalar.cmpi .ne (V2 c) 3#32)) 0#32)) Q := by
  rw [k0_part41_eq_skeleton]
  unfold k0_part41_skel
  try extract_lets +lift
  refine r_recv 3 ?_ ?_ ⟨(Scalar.ofBits .f32 0x42FE0000#32), k0_pay4 (inv8 m c) (qload m c (dv 3 (by decide))) (fun _ => bmax m (dv 3 (by decide)) c.val)⟩ ?_ ?_ ?_
  · decide
  · exact word_ne c ⟨3, by decide⟩
  · exact fun G hcn hk => part_4 hcn hk
  · intro hcn hk
    refine r_oload ?_
    intro _
    refine r_ostore ?_ ?_ ?_ ?_ ?_
    · decide
    · exact hcn
    · rfl
    · exact recv_3 m c hcn
    exact hk
  try extract_lets +lift
  refine r_recv 4 ?_ ?_ ⟨(Scalar.ofBits .f32 0x42FE0000#32), k0_pay5 (inv8 m c) (qload m c (dv 4 (by decide))) (fun _ => bmax m (dv 4 (by decide)) c.val)⟩ ?_ ?_ ?_
  · decide
  · exact word_ne c ⟨4, by decide⟩
  · exact fun G hcn hk => part_5 hcn hk
  · intro hcn hk
    refine r_oload ?_
    intro _
    refine r_ostore ?_ ?_ ?_ ?_ ?_
    · decide
    · exact hcn
    · rfl
    · exact recv_4 m c hcn
    exact hk
  try extract_lets +lift
  refine r_recv 5 ?_ ?_ ⟨(Scalar.ofBits .f32 0x42FE0000#32), k0_pay6 (inv8 m c) (qload m c (dv 5 (by decide))) (fun _ => bmax m (dv 5 (by decide)) c.val)⟩ ?_ ?_ ?_
  · decide
  · exact word_ne c ⟨5, by decide⟩
  · exact fun G hcn hk => part_6 hcn hk
  · intro hcn hk
    refine r_oload ?_
    intro _
    refine r_ostore ?_ ?_ ?_ ?_ ?_
    · decide
    · exact hcn
    · rfl
    · exact recv_5 m c hcn
    exact hk
  try extract_lets +lift
  refine r_recv 6 ?_ ?_ ⟨(Scalar.ofBits .f32 0x42FE0000#32), k0_pay7 (inv8 m c) (qload m c (dv 6 (by decide))) (fun _ => bmax m (dv 6 (by decide)) c.val)⟩ ?_ ?_ ?_
  · decide
  · exact word_ne c ⟨6, by decide⟩
  · exact fun G hcn hk => part_7 hcn hk
  · intro hcn hk
    refine r_oload ?_
    intro _
    refine r_ostore ?_ ?_ ?_ ?_ ?_
    · decide
    · exact hcn
    · rfl
    · exact recv_6 m c hcn
    exact hk
  try extract_lets +lift
  refine r_recv 7 ?_ ?_ ⟨(Scalar.ofBits .f32 0x42FE0000#32), k0_pay8 (inv8 m c) (qload m c (dv 7 (by decide))) (fun _ => bmax m (dv 7 (by decide)) c.val)⟩ ?_ ?_ ?_
  · decide
  · exact word_ne c ⟨7, by decide⟩
  · exact fun G hcn hk => part_8 hcn hk
  · intro hcn hk
    refine r_oload ?_
    intro _
    refine r_ostore ?_ ?_ ?_ ?_ ?_
    · decide
    · exact hcn
    · rfl
    · exact recv_7 m c hcn
    exact hk
  try extract_lets +lift
  refine r_recv 8 ?_ ?_ ⟨(Scalar.ofBits .f32 0x42FE0000#32), k0_pay9 (inv8 m c) (qload m c (dv 8 (by decide))) (fun _ => bmax m (dv 8 (by decide)) c.val)⟩ ?_ ?_ ?_
  · decide
  · exact word_ne c ⟨8, by decide⟩
  · exact fun G hcn hk => part_9 hcn hk
  · intro hcn hk
    refine r_oload ?_
    intro _
    refine r_ostore ?_ ?_ ?_ ?_ ?_
    · decide
    · exact hcn
    · rfl
    · exact recv_8 m c hcn
    exact hk
  try extract_lets +lift
  refine r_recv 9 ?_ ?_ ⟨(Scalar.ofBits .f32 0x42FE0000#32), k0_pay10 (inv8 m c) (qload m c (dv 9 (by decide))) (fun _ => bmax m (dv 9 (by decide)) c.val)⟩ ?_ ?_ ?_
  · decide
  · exact word_ne c ⟨9, by decide⟩
  · exact fun G hcn hk => part_10 hcn hk
  · intro hcn hk
    refine r_oload ?_
    intro _
    refine r_ostore ?_ ?_ ?_ ?_ ?_
    · decide
    · exact hcn
    · rfl
    · exact recv_9 m c hcn
    exact hk
  try extract_lets +lift
  refine r_recv 10 ?_ ?_ ⟨(Scalar.ofBits .f32 0x42FE0000#32), k0_pay11 (inv8 m c) (qload m c (dv 10 (by decide))) (fun _ => bmax m (dv 10 (by decide)) c.val)⟩ ?_ ?_ ?_
  · decide
  · exact word_ne c ⟨10, by decide⟩
  · exact fun G hcn hk => part_11 hcn hk
  · intro hcn hk
    refine r_oload ?_
    intro _
    refine r_ostore ?_ ?_ ?_ ?_ ?_
    · decide
    · exact hcn
    · rfl
    · exact recv_10 m c hcn
    exact hk
  try extract_lets +lift
  refine r_recv 11 ?_ ?_ ⟨(Scalar.ofBits .f32 0x42FE0000#32), k0_pay12 (inv8 m c) (qload m c (dv 11 (by decide))) (fun _ => bmax m (dv 11 (by decide)) c.val)⟩ ?_ ?_ ?_
  · decide
  · exact word_ne c ⟨11, by decide⟩
  · exact fun G hcn hk => part_12 hcn hk
  · intro hcn hk
    refine r_oload ?_
    intro _
    refine r_ostore ?_ ?_ ?_ ?_ ?_
    · decide
    · exact hcn
    · rfl
    · exact recv_11 m c hcn
    exact hk
  try extract_lets +lift
  refine r_recv 12 ?_ ?_ ⟨(Scalar.ofBits .f32 0x42FE0000#32), k0_pay13 (inv8 m c) (qload m c (dv 12 (by decide))) (fun _ => bmax m (dv 12 (by decide)) c.val)⟩ ?_ ?_ ?_
  · decide
  · exact word_ne c ⟨12, by decide⟩
  · exact fun G hcn hk => part_13 hcn hk
  · intro hcn hk
    refine r_oload ?_
    intro _
    refine r_ostore ?_ ?_ ?_ ?_ ?_
    · decide
    · exact hcn
    · rfl
    · exact recv_12 m c hcn
    exact hk
  refine r_pure ?_
  exact hQ

set_option maxHeartbeats 4000000 in
/-- Segment 42 of the body. -/
theorem part_42 {Q : BitVec 1 → sProp 𝕄}
    (hQ : St m K c 16 1 2 8 8 8 16 16 16 1 1 16 16 16 16 16 7 ⊢ Q ((Scalar.cmpi .ne (Scalar.extui (Scalar.cmpi .ne (V2 c) 7#32)) 0#32))) :
    St m K c 16 1 2 8 8 8 16 16 16 1 1 16 16 16 13 13 0 ⊢ WP c (k0_part42 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 (V2 c) (scale8 m c) (inv8 m c) (Scalar.cmpi .ne (Scalar.extui (Scalar.cmpi .ne (V2 c) 13#32)) 0#32)) Q := by
  rw [k0_part42_eq_skeleton]
  unfold k0_part42_skel
  try extract_lets +lift
  refine r_recv 13 ?_ ?_ ⟨(Scalar.ofBits .f32 0x42FE0000#32), k0_pay14 (inv8 m c) (qload m c (dv 13 (by decide))) (fun _ => bmax m (dv 13 (by decide)) c.val)⟩ ?_ ?_ ?_
  · decide
  · exact word_ne c ⟨13, by decide⟩
  · exact fun G hcn hk => part_14 hcn hk
  · intro hcn hk
    refine r_oload ?_
    intro _
    refine r_ostore ?_ ?_ ?_ ?_ ?_
    · decide
    · exact hcn
    · rfl
    · exact recv_13 m c hcn
    exact hk
  try extract_lets +lift
  refine r_recv 14 ?_ ?_ ⟨(Scalar.ofBits .f32 0x42FE0000#32), k0_pay15 (inv8 m c) (qload m c (dv 14 (by decide))) (fun _ => bmax m (dv 14 (by decide)) c.val)⟩ ?_ ?_ ?_
  · decide
  · exact word_ne c ⟨14, by decide⟩
  · exact fun G hcn hk => part_15 hcn hk
  · intro hcn hk
    refine r_oload ?_
    intro _
    refine r_ostore ?_ ?_ ?_ ?_ ?_
    · decide
    · exact hcn
    · rfl
    · exact recv_14 m c hcn
    exact hk
  try extract_lets +lift
  refine r_recv 15 ?_ ?_ ⟨(Scalar.ofBits .f32 0x42FE0000#32), k0_pay16 (inv8 m c) (qload m c (dv 15 (by decide))) (fun _ => bmax m (dv 15 (by decide)) c.val)⟩ ?_ ?_ ?_
  · decide
  · exact word_ne c ⟨15, by decide⟩
  · exact fun G hcn hk => part_16 hcn hk
  · intro hcn hk
    refine r_oload ?_
    intro _
    refine r_ostore ?_ ?_ ?_ ?_ ?_
    · decide
    · exact hcn
    · rfl
    · exact recv_15 m c hcn
    exact hk
  try extract_lets +lift
  refine r_sent 0 ?_ ?_ ?_ ?_ ?_ ?_ ?_ ?_
  · decide
  · decide
  · decide
  · exact word_ne c ⟨0, by decide⟩
  · exact sem_0 (dv 0 (by decide)) rfl _ _
  · exact sem_2 (dv 0 (by decide)) rfl _ _
  · exact sem_4 (dv 0 (by decide)) rfl _ _
  try extract_lets +lift
  refine r_sent 1 ?_ ?_ ?_ ?_ ?_ ?_ ?_ ?_
  · decide
  · decide
  · decide
  · exact word_ne c ⟨1, by decide⟩
  · exact sem_0 (dv 1 (by decide)) rfl _ _
  · exact sem_2 (dv 1 (by decide)) rfl _ _
  · exact sem_4 (dv 1 (by decide)) rfl _ _
  try extract_lets +lift
  refine r_sent 2 ?_ ?_ ?_ ?_ ?_ ?_ ?_ ?_
  · decide
  · decide
  · decide
  · exact word_ne c ⟨2, by decide⟩
  · exact sem_0 (dv 2 (by decide)) rfl _ _
  · exact sem_2 (dv 2 (by decide)) rfl _ _
  · exact sem_4 (dv 2 (by decide)) rfl _ _
  try extract_lets +lift
  refine r_sent 3 ?_ ?_ ?_ ?_ ?_ ?_ ?_ ?_
  · decide
  · decide
  · decide
  · exact word_ne c ⟨3, by decide⟩
  · exact sem_0 (dv 3 (by decide)) rfl _ _
  · exact sem_2 (dv 3 (by decide)) rfl _ _
  · exact sem_4 (dv 3 (by decide)) rfl _ _
  try extract_lets +lift
  refine r_sent 4 ?_ ?_ ?_ ?_ ?_ ?_ ?_ ?_
  · decide
  · decide
  · decide
  · exact word_ne c ⟨4, by decide⟩
  · exact sem_0 (dv 4 (by decide)) rfl _ _
  · exact sem_2 (dv 4 (by decide)) rfl _ _
  · exact sem_4 (dv 4 (by decide)) rfl _ _
  try extract_lets +lift
  refine r_sent 5 ?_ ?_ ?_ ?_ ?_ ?_ ?_ ?_
  · decide
  · decide
  · decide
  · exact word_ne c ⟨5, by decide⟩
  · exact sem_0 (dv 5 (by decide)) rfl _ _
  · exact sem_2 (dv 5 (by decide)) rfl _ _
  · exact sem_4 (dv 5 (by decide)) rfl _ _
  try extract_lets +lift
  refine r_sent 6 ?_ ?_ ?_ ?_ ?_ ?_ ?_ ?_
  · decide
  · decide
  · decide
  · exact word_ne c ⟨6, by decide⟩
  · exact sem_0 (dv 6 (by decide)) rfl _ _
  · exact sem_2 (dv 6 (by decide)) rfl _ _
  · exact sem_4 (dv 6 (by decide)) rfl _ _
  refine r_pure ?_
  exact hQ

end Cert.KernelIdealProof

end
-- ==== Proof.Body.lean ====
/-
The whole body, from its first state to its last.
-/
module

public import proofs.«01_k».proof.Proof.Segments1
public import proofs.«01_k».proof.Proof.Segments2
public import proofs.«01_k».proof.Proof.Segments3

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 100 → ℕ} {c : Dev nD}

set_option maxHeartbeats 1000000 in
/-- All but the last three waits. -/
theorem part_43 {Q : (Σ' (v2 : BitVec 32), BitVec 32) → sProp 𝕄}
    (hQ : St m K c 16 1 2 8 8 8 16 16 16 1 1 16 16 16 16 16 13 ⊢ Q ⟨V2 c, Scalar.extui (Scalar.cmpi .ne (V2 c) 13#32)⟩) :
    St m K c 0 0 0 0 0 0 0 0 0 0 0 0 0 0 0 0 0 ⊢ WP c (k0_part43 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16) Q := by
  rw [k0_part43_eq_skeleton]
  unfold k0_part43_skel
  refine r_bind ?_
  refine part_17  ?_
  intro a17_3 a17_4
  refine r_bind ?_
  refine part_18 _ _ ?_
  intro a18_0 a18_1
  refine r_bind ?_
  refine part_19 _ _ ?_
  refine r_bind ?_
  refine part_20  ?_
  refine r_bind ?_
  refine part_21  ?_
  refine r_bind ?_
  refine part_22  ?_
  intro a22_2
  refine r_bind ?_
  refine part_23 _ ?_
  refine r_bind ?_
  refine part_24  ?_
  refine r_bind ?_
  refine part_25  ?_
  refine r_bind ?_
  refine part_26  ?_
  intro a26_3
  refine r_bind ?_
  refine part_27 _ ?_
  refine r_bind ?_
  refine part_28  ?_
  refine r_bind ?_
  refine part_29  ?_
  refine r_bind ?_
  refine part_30  ?_
  refine r_bind ?_
  refine part_31  ?_
  refine r_bind ?_
  refine part_32  ?_
  refine r_bind ?_
  refine part_33  ?_
  refine r_bind ?_
  refine part_34  ?_
  refine r_bind ?_
  refine part_35  ?_
  refine r_bind ?_
  refine part_36  ?_
  refine r_bind ?_
  refine part_37  ?_
  refine r_bind ?_
  refine part_38  ?_
  refine r_bind ?_
  refine part_39  ?_
  refine r_bind ?_
  refine part_40  ?_
  refine r_bind ?_
  refine part_41  ?_
  refine r_bind ?_
  refine part_42  ?_
  try extract_lets +lift
  refine r_sent 7 ?_ ?_ ?_ ?_ ?_ ?_ ?_ ?_
  · decide
  · decide
  · decide
  · exact word_ne c ⟨7, by decide⟩
  · exact sem_0 (dv 7 (by decide)) rfl _ _
  · exact sem_2 (dv 7 (by decide)) rfl _ _
  · exact sem_4 (dv 7 (by decide)) rfl _ _
  refine r_sent 8 ?_ ?_ ?_ ?_ ?_ ?_ ?_ ?_
  · decide
  · decide
  · decide
  · exact word_ne c ⟨8, by decide⟩
  · exact sem_0 (dv 8 (by decide)) rfl _ _
  · exact sem_2 (dv 8 (by decide)) rfl _ _
  · exact sem_4 (dv 8 (by decide)) rfl _ _
  refine r_sent 9 ?_ ?_ ?_ ?_ ?_ ?_ ?_ ?_
  · decide
  · decide
  · decide
  · exact word_ne c ⟨9, by decide⟩
  · exact sem_0 (dv 9 (by decide)) rfl _ _
  · exact sem_2 (dv 9 (by decide)) rfl _ _
  · exact sem_4 (dv 9 (by decide)) rfl _ _
  refine r_sent 10 ?_ ?_ ?_ ?_ ?_ ?_ ?_ ?_
  · decide
  · decide
  · decide
  · exact word_ne c ⟨10, by decide⟩
  · exact sem_0 (dv 10 (by decide)) rfl _ _
  · exact sem_2 (dv 10 (by decide)) rfl _ _
  · exact sem_4 (dv 10 (by decide)) rfl _ _
  refine r_sent 11 ?_ ?_ ?_ ?_ ?_ ?_ ?_ ?_
  · decide
  · decide
  · decide
  · exact word_ne c ⟨11, by decide⟩
  · exact sem_0 (dv 11 (by decide)) rfl _ _
  · exact sem_2 (dv 11 (by decide)) rfl _ _
  · exact sem_4 (dv 11 (by decide)) rfl _ _
  refine r_sent 12 ?_ ?_ ?_ ?_ ?_ ?_ ?_ ?_
  · decide
  · decide
  · decide
  · exact word_ne c ⟨12, by decide⟩
  · exact sem_0 (dv 12 (by decide)) rfl _ _
  · exact sem_2 (dv 12 (by decide)) rfl _ _
  · exact sem_4 (dv 12 (by decide)) rfl _ _
  refine r_pure ?_
  exact hQ

set_option maxHeartbeats 1000000 in
/-- The body. -/
theorem body_steps {Q : PUnit → sProp 𝕄}
    (hQ : St m K c 16 1 2 8 8 8 16 16 16 1 1 16 16 16 16 16 16 ⊢ Q ⟨⟩) :
    St m K c 0 0 0 0 0 0 0 0 0 0 0 0 0 0 0 0 0 ⊢ WP c (cc0_body (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16) Q := by
  rw [cc0_body_eq_skeleton]
  unfold cc0_body_skel
  refine r_bind ?_
  refine part_43  ?_
  try extract_lets +lift
  refine r_sent 13 ?_ ?_ ?_ ?_ ?_ ?_ ?_ ?_
  · decide
  · decide
  · decide
  · exact word_ne c ⟨13, by decide⟩
  · exact sem_0 (dv 13 (by decide)) rfl _ _
  · exact sem_2 (dv 13 (by decide)) rfl _ _
  · exact sem_4 (dv 13 (by decide)) rfl _ _
  refine r_sent 14 ?_ ?_ ?_ ?_ ?_ ?_ ?_ ?_
  · decide
  · decide
  · decide
  · exact word_ne c ⟨14, by decide⟩
  · exact sem_0 (dv 14 (by decide)) rfl _ _
  · exact sem_2 (dv 14 (by decide)) rfl _ _
  · exact sem_4 (dv 14 (by decide)) rfl _ _
  refine r_sent 15 ?_ ?_ ?_ ?_ ?_ ?_ ?_ ?_
  · decide
  · decide
  · decide
  · exact word_ne c ⟨15, by decide⟩
  · exact sem_0 (dv 15 (by decide)) rfl _ _
  · exact sem_2 (dv 15 (by decide)) rfl _ _
  · exact sem_4 (dv 15 (by decide)) rfl _ _
  refine r_pure ?_
  exact hQ

end Cert.KernelIdealProof

end
-- ==== Proof.Entry.lean ====
/-
The cells of a device by kind, and its buffers by piece: what the body starts from and what it leaves.
-/
module

public import proofs.«01_k».proof.Proof.State

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The hundred cells by kind -/

/-- The cells by kind: the barrier, the rows of `x`, the chunks of `w`, the send cells, the receive cells. -/
abbrev Kinds : Type := Unit ⊕ Unit ⊕ Fin 2 ⊕ (Fin 3 × Fin 16) ⊕ (Fin 3 × Fin 16)
def kindCell : Kinds → Cell
  | .inl _ => .none
  | .inr (.inl _) => .x
  | .inr (.inr (.inl s)) => .w s
  | .inr (.inr (.inr (.inl kp))) => .peer (kS kp.1) kp.2
  | .inr (.inr (.inr (.inr kp))) => .peer (kR kp.1) kp.2
/-- The kind of a cell. -/
def kindOf : Cell → Kinds
  | .none => .inl ()
  | .x => .inr (.inl ())
  | .w s => .inr (.inr (.inl s))
  | .peer b p => if b.val % 2 = 0 then .inr (.inr (.inr (.inl (⟨b.val / 2, by have := b.isLt; omega⟩, p))))
      else .inr (.inr (.inr (.inr (⟨b.val / 2, by have := b.isLt; omega⟩, p))))
theorem kindOf_kindCell (x : Kinds) : kindOf (kindCell x) = x := by
  rcases x with (_ | _ | s | ⟨k, p⟩ | ⟨k, p⟩)
  · rfl
  · rfl
  · rfl
  · have h1 : (kS k).val % 2 = 0 := by show 2 * k.val % 2 = 0; omega
    show (if (kS k).val % 2 = 0 then _ else _ : Kinds) = _
    rw [if_pos h1]
    have h2 : (⟨(kS k).val / 2, by have := (kS k).isLt; omega⟩ : Fin 3) = k := Fin.ext (by show 2 * k.val / 2 = k.val; omega)
    rw [h2]
  · have h1 : ¬ (kR k).val % 2 = 0 := by show ¬ (2 * k.val + 1) % 2 = 0; omega
    show (if (kR k).val % 2 = 0 then _ else _ : Kinds) = _
    rw [if_neg h1]
    have h2 : (⟨(kR k).val / 2, by have := (kR k).isLt; omega⟩ : Fin 3) = k := Fin.ext (by show (2 * k.val + 1) / 2 = k.val; omega)
    rw [h2]
def kindNo (x : Kinds) : Fin 100 := cellNo (kindCell x)
theorem kindNo_injective : Function.Injective kindNo := fun a b h => by
  have h' : cellNo (kindCell a) = cellNo (kindCell b) := h
  rw [← kindOf_kindCell a, ← cellAt_cellNo (kindCell a), h', cellAt_cellNo, kindOf_kindCell]
theorem kindNo_bijective : Function.Bijective kindNo :=
  (Fintype.bijective_iff_injective_and_card kindNo).mpr ⟨kindNo_injective, by simp [Fintype.card_sum, Fintype.card_prod]⟩

omit [FloatOps F] in
theorem bigSep_unit (Φ : Unit → sProp 𝕄) : bigSep Finset.univ Φ = Φ () := by
  rw [show (Finset.univ : Finset Unit) = {()} from rfl, bigSep_singleton]

omit [FloatOps F] in
theorem bigSep_sum {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ

omit [FloatOps F] in
/-- A family over a device's cells, by kind. -/
theorem bigSep_kinds (Φ : Fin 100 → sProp 𝕄) : bigSep Finset.univ Φ
    = iprop(Φ 0 ∗ Φ (cellNo .x) ∗ (bigSep Finset.univ fun s : Fin 2 => Φ (cellNo (.w s)))
      ∗ (bigSep Finset.univ fun k : Fin 3 => bigSep Finset.univ fun p : Fin 16 => Φ (cellNo (.peer (kS k) p)))
      ∗ (bigSep Finset.univ fun k : Fin 3 => bigSep Finset.univ fun p : Fin 16 => Φ (cellNo (.peer (kR k) p)))) := by
  rw [bigSep_univ_equiv (Equiv.ofBijective kindNo kindNo_bijective) Φ]
  rw [bigSep_sum, bigSep_sum, bigSep_sum, bigSep_sum, bigSep_univ_prod, bigSep_univ_prod, bigSep_unit, bigSep_unit]
  rfl

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-! ## The buffers by piece -/

section Blocks
omit [FloatOps F]

theorem qR_disjoint : ∀ b b' : Fin 16, b ≠ b' → Disjoint (qR b).set (qR b').set :=
  Ring.lead_disjoint (s := S16x256x128) (0 : Fin 3) 1 (fun b : Fin 16 => ![b.val, 0, 0]) S1x256x128.size qslot_inb (fun b => (Nat.one_mul b.val).symm) rfl
theorem qR_cover : Finset.univ.biUnion (fun b : Fin 16 => (qR b).set) = Finset.univ :=
  Ring.lead_cover (s := S16x256x128) (0 : Fin 3) 1 (fun b : Fin 16 => ![b.val, 0, 0]) S1x256x128.size qslot_inb (fun b => (Nat.one_mul b.val).symm)
    (fun b a ha => by fin_cases a <;> first | exact absurd rfl ha | rfl) rfl
    (fun a ha => by fin_cases a <;> first | exact absurd rfl ha | rfl) (by decide)
theorem sR_disjoint : ∀ b b' : Fin 16, b ≠ b' → Disjoint (sR b).set (sR b').set :=
  Ring.lead_disjoint (s := S16x8x128) (0 : Fin 3) 1 (fun b : Fin 16 => ![b.val, 0, 0]) S1x8x128.size sslot_inb (fun b => (Nat.one_mul b.val).symm) rfl
theorem sR_cover : Finset.univ.biUnion (fun b : Fin 16 => (sR b).set) = Finset.univ :=
  Ring.lead_cover (s := S16x8x128) (0 : Fin 3) 1 (fun b : Fin 16 => ![b.val, 0, 0]) S1x8x128.size sslot_inb (fun b => (Nat.one_mul b.val).symm)
    (fun b a ha => by fin_cases a <;> first | exact absurd rfl ha | rfl) rfl
    (fun a ha => by fin_cases a <;> first | exact absurd rfl ha | rfl) (by decide)
theorem wR_disjoint : ∀ b b' : Fin 2, b ≠ b' → Disjoint (wR b).set (wR b').set :=
  Ring.lead_disjoint (s := S2x4096x256) (0 : Fin 3) 1 (fun b : Fin 2 => ![b.val, 0, 0]) S1x4096x256.size wslot_inb (fun b => (Nat.one_mul b.val).symm) rfl
theorem wR_cover : Finset.univ.biUnion (fun b : Fin 2 => (wR b).set) = Finset.univ :=
  Ring.lead_cover (s := S2x4096x256) (0 : Fin 3) 1 (fun b : Fin 2 => ![b.val, 0, 0]) S1x4096x256.size wslot_inb (fun b => (Nat.one_mul b.val).symm)
    (fun b a ha => by fin_cases a <;> first | exact absurd rfl ha | rfl) rfl
    (fun a ha => by fin_cases a <;> first | exact absurd rfl ha | rfl) (by decide)
theorem dR_disjoint : ∀ b b' : Fin 16, b ≠ b' → Disjoint (dR b).set (dR b').set :=
  Ring.lead_disjoint (s := S256x2048) (1 : Fin 2) 128 (fun b : Fin 16 => ![0, 128 * b.val]) S256x128.size dblk_inb (fun b => rfl) rfl
theorem dR_cover : Finset.univ.biUnion (fun b : Fin 16 => (dR b).set) = Finset.univ :=
  Ring.lead_cover (s := S256x2048) (1 : Fin 2) 128 (fun b : Fin 16 => ![0, 128 * b.val]) S256x128.size dblk_inb (fun b => rfl)
    (fun b a ha => by fin_cases a <;> first | exact absurd rfl ha | rfl) rfl
    (fun a ha => by fin_cases a <;> first | exact absurd rfl ha | rfl) (by decide)
theorem cR_disjoint : ∀ b b' : Fin 8, b ≠ b' → Disjoint (cR b).set (cR b').set :=
  Ring.lead_disjoint (s := S4096x2048) (1 : Fin 2) 256 (fun b : Fin 8 => ![0, 256 * b.val]) S4096x256.size wcol_inb (fun b => rfl) rfl
theorem cR_cover : Finset.univ.biUnion (fun b : Fin 8 => (cR b).set) = Finset.univ :=
  Ring.lead_cover (s := S4096x2048) (1 : Fin 2) 256 (fun b : Fin 8 => ![0, 256 * b.val]) S4096x256.size wcol_inb (fun b => rfl)
    (fun b a ha => by fin_cases a <;> first | exact absurd rfl ha | rfl) rfl
    (fun a ha => by fin_cases a <;> first | exact absurd rfl ha | rfl) (by decide)

variable (c : Dev nD)

/-- A buffer at some contents is its pieces at some contents each, -/
theorem some_split {ℓ : Loc nD τ sig} {B : Type} [Fintype B] [DecidableEq B] (I : B → Finset (Idx ℓ))
    (hd : ∀ b b', b ≠ b' → Disjoint (I b) (I b')) (hc : Finset.univ.biUnion I = Finset.univ) :
    iprop(∃ f : Buf (Elt F) ℓ, ℓ ↦{fullShare} f) ⊢ (bigSep Finset.univ fun b => iprop(∃ f : Buf (Elt F) ℓ, ℓ ↦[I b]{fullShare} f) : sProp 𝕄) := by
  have h (f : Buf (Elt F) ℓ) : (ℓ ↦{fullShare} f : sProp 𝕄) ⊢ bigSep Finset.univ fun b => iprop(∃ f : Buf (Elt F) ℓ, ℓ ↦[I b]{fullShare} f) := by
    rw [Ring.pointsTo_blocks (ℓ := ℓ) I hd hc f]
    refine bigSep_mono fun b _ => ?_
    show (_ : sProp 𝕄) ⊢ _
    iintro H; iexists f; iexact H
  iintro ⟨%f, H⟩
  iapply (h f); iexact H

/-- and back. -/
theorem some_join {ℓ : Loc nD τ sig} {B : Type} [Fintype B] [DecidableEq B] [Nonempty (Buf (Elt F) ℓ)] (I : B → Finset (Idx ℓ))
    (hd : ∀ b b', b ≠ b' → Disjoint (I b) (I b')) (hc : Finset.univ.biUnion I = Finset.univ) :
    (bigSep Finset.univ fun b => iprop(∃ f : Buf (Elt F) ℓ, ℓ ↦[I b]{fullShare} f)) ⊢ (iprop(∃ f : Buf (Elt F) ℓ, ℓ ↦{fullShare} f) : sProp 𝕄) :=
  Ring.pointsTo_blocks_join_exists (ℓ := ℓ) I hd hc (Classical.choice inferInstance)

/-- A buffer of a device, whole, at some contents. -/
abbrev some' (c : Dev nD) (b : Ref sig .tc) : sProp 𝕄 :=
  iprop(∃ f : Buf (Elt F) ((c : Thread nD τ).loc b), ((c : Thread nD τ).loc b) ↦{fullShare} f)

theorem q_split : some' (F := F) c cc0_scratch4 ⊢ bigSep Finset.univ fun p : Dev nD => slotAny c 0 p := by
  unfold slotAny qPts; exact some_split (ℓ := (c : Thread nD τ).loc cc0_scratch4) (fun p : Fin 16 => (qR p).set) qR_disjoint qR_cover
theorem sr_split : some' (F := F) c cc0_scratch6 ⊢ bigSep Finset.univ fun p : Dev nD => slotAny c 1 p := by
  unfold slotAny srPts; exact some_split (ℓ := (c : Thread nD τ).loc cc0_scratch6) (fun p : Fin 16 => (sR p).set) sR_disjoint sR_cover
theorem ar_split : some' (F := F) c cc0_scratch8 ⊢ bigSep Finset.univ fun p : Dev nD => slotAny c 2 p := by
  unfold slotAny arPts; exact some_split (ℓ := (c : Thread nD τ).loc cc0_scratch8) (fun p : Fin 16 => (sR p).set) sR_disjoint sR_cover
theorem d_split : some' (F := F) c cc0_scratch3 ⊢ bigSep Finset.univ fun p : Dev nD => iprop(∃ f, dPts c p f) := by
  unfold dPts; exact some_split (ℓ := (c : Thread nD τ).loc cc0_scratch3) (fun p : Fin 16 => (dR p).set) dR_disjoint dR_cover
theorem ss_split : some' (F := F) c cc0_scratch5 ⊢ bigSep Finset.univ fun p : Dev nD => iprop(∃ f, ssPts c p f) := by
  unfold ssPts; exact some_split (ℓ := (c : Thread nD τ).loc cc0_scratch5) (fun p : Fin 16 => (sR p).set) sR_disjoint sR_cover
theorem ws_split : some' (F := F) c cc0_scratch1 ⊢ bigSep Finset.univ fun s : Fin 2 => iprop(∃ f, wsPts c s f) := by
  unfold wsPts; exact some_split (ℓ := (c : Thread nD τ).loc cc0_scratch1) (fun p : Fin 2 => (wR p).set) wR_disjoint wR_cover
theorem wc_split (m : (ℓ : Loc nD τ sig) → Buf (Elt F) ℓ) :
    (((c : Thread nD τ).loc main_arg1) ↦{fullShare} W m c : sProp 𝕄) = bigSep Finset.univ fun j : Fin 8 => wcPts m c j := by
  unfold wcPts; exact Ring.pointsTo_blocks (ℓ := (c : Thread nD τ).loc main_arg1) (fun p : Fin 8 => (cR p).set) cR_disjoint cR_cover _

end Blocks

section Joins
variable (c : Dev nD)
theorem elt_nonempty (e : EltTy) : Nonempty (Elt F e) := inferInstance
theorem q_join : (bigSep Finset.univ fun p : Dev nD => slotAny c 0 p) ⊢ some' (F := F) c cc0_scratch4 := by
  have : Nonempty (Buf (Elt F) ((c : Thread nD τ).loc cc0_scratch4)) := ⟨fun _ => (0 : BitVec 16)⟩
  unfold slotAny qPts; exact some_join (ℓ := (c : Thread nD τ).loc cc0_scratch4) (fun p : Fin 16 => (qR p).set) qR_disjoint qR_cover
theorem sr_join : (bigSep Finset.univ fun p : Dev nD => slotAny c 1 p) ⊢ some' (F := F) c cc0_scratch6 := by
  have : Nonempty (Buf (Elt F) ((c : Thread nD τ).loc cc0_scratch6)) := ⟨fun _ => Classical.choice (elt_nonempty (F := F) .f32)⟩
  unfold slotAny srPts; exact some_join (ℓ := (c : Thread nD τ).loc cc0_scratch6) (fun p : Fin 16 => (sR p).set) sR_disjoint sR_cover
theorem ar_join : (bigSep Finset.univ fun p : Dev nD => slotAny c 2 p) ⊢ some' (F := F) c cc0_scratch8 := by
  have : Nonempty (Buf (Elt F) ((c : Thread nD τ).loc cc0_scratch8)) := ⟨fun _ => Classical.choice (elt_nonempty (F := F) .f32)⟩
  unfold slotAny arPts; exact some_join (ℓ := (c : Thread nD τ).loc cc0_scratch8) (fun p : Fin 16 => (sR p).set) sR_disjoint sR_cover
theorem d_join : (bigSep Finset.univ fun p : Dev nD => iprop(∃ f, dPts c p f)) ⊢ some' (F := F) c cc0_scratch3 := by
  have : Nonempty (Buf (Elt F) ((c : Thread nD τ).loc cc0_scratch3)) := ⟨fun _ => (0 : BitVec 16)⟩
  unfold dPts; exact some_join (ℓ := (c : Thread nD τ).loc cc0_scratch3) (fun p : Fin 16 => (dR p).set) dR_disjoint dR_cover
theorem ss_join : (bigSep Finset.univ fun p : Dev nD => iprop(∃ f, ssPts c p f)) ⊢ some' (F := F) c cc0_scratch5 := by
  have : Nonempty (Buf (Elt F) ((c : Thread nD τ).loc cc0_scratch5)) := ⟨fun _ => Classical.choice (elt_nonempty (F := F) .f32)⟩
  unfold ssPts; exact some_join (ℓ := (c : Thread nD τ).loc cc0_scratch5) (fun p : Fin 16 => (sR p).set) sR_disjoint sR_cover
theorem ws_join : (bigSep Finset.univ fun s : Fin 2 => iprop(∃ f, wsPts c s f)) ⊢ some' (F := F) c cc0_scratch1 := by
  have : Nonempty (Buf (Elt F) ((c : Thread nD τ).loc cc0_scratch1)) := ⟨fun _ => Classical.choice (elt_nonempty (F := F) .f32)⟩
  unfold wsPts; exact some_join (ℓ := (c : Thread nD τ).loc cc0_scratch1) (fun p : Fin 2 => (wR p).set) wR_disjoint wR_cover
theorem as_join (m : (ℓ : Loc nD τ sig) → Buf (Elt F) ℓ) : (bigSep Finset.univ (A2 m c 1)) ⊢ (((c : Thread nD τ).loc cc0_scratch7) ↦{fullShare} asendAt m c : sProp 𝕄) := by
  rw [Transfers.pointsTo_deal (Finset.univ : Finset (Fin 16)) Finset.univ_nonempty fullShare]
  refine Entails.of_eq (bigSep_congr fun p _ => ?_)
  unfold A2
  rw [if_pos rfl]
  rfl
end Joins

/-! ## What a device starts from -/

section EntryExit
variable (m : (ℓ : Loc nD τ sig) → Buf (Elt F) ℓ) (K : Dev nD × Fin 100 → ℕ) (c : Dev nD)

/-- The tokens of what device `c` pays: its signals, its copies, its transfers at both ends. -/
def payToks : sProp 𝕄 :=
  iprop((bigSep Finset.univ fun p : Dev nD => dutyTok ER (barCell p) 0 c) ∗ dutyTok ER (dCell c .x) 0 (0 : Fin 16)
    ∗ (bigSep Finset.univ fun j : Fin 8 => dutyTok ER (dCell c (.w ⟨j.val % 2, Nat.mod_lt _ (by decide)⟩)) (j.val / 2) (0 : Fin 16))
    ∗ (bigSep Finset.univ fun k : Fin 3 => bigSep Finset.univ fun p : Dev nD => dutyTok ER (sCell c k p) 0 (0 : Fin 16))
    ∗ (bigSep Finset.univ fun k : Fin 3 => bigSep Finset.univ fun p : Dev nD => dutyTok ER (rCell p k c) 0 (0 : Fin 16)))
/-- Its positions and those tokens. -/
def linear : sProp 𝕄 := iprop((bigSep Finset.univ fun i : Fin 100 => atPos ER (kcell (c, i)) 0 ∅ 0) ∗ payToks (F := F) c)
/-- The credit of what others pay it. -/
def credP (k : Fin 3) (p : Dev nD) : sProp 𝕄 := if p = c then iprop(emp) else cred (tallyAt (rCell c k p) () (NK k))
def creds : sProp 𝕄 :=
  iprop(cred (tallyAt (barCell c) () 15) ∗ bigSep Finset.univ fun k : Fin 3 => bigSep Finset.univ fun p : Dev nD => credP (F := F) c k p)
/-- Its scratch buffers, each whole at some contents. -/
def bufs : sProp 𝕄 :=
  iprop(some' c cc0_scratch0 ∗ some' c cc0_scratch1 ∗ some' c cc0_scratch2 ∗ some' c cc0_scratch3 ∗ some' c cc0_scratch4
    ∗ some' c cc0_scratch5 ∗ some' c cc0_scratch6 ∗ some' c cc0_scratch7 ∗ some' (F := F) c cc0_scratch8)
/-- Its arguments as launched. -/
def args : sProp 𝕄 :=
  iprop((((c : Thread nD τ).loc main_arg0) ↦{fullShare} X m c) ∗ (((c : Thread nD τ).loc main_arg1) ↦{fullShare} W m c))

omit [FloatOps F] in
/-- A family over a device's cells. -/
theorem bigSep_cells (Φ : GSem nD τ sig → sProp 𝕄) : (bigSep Finset.univ fun i : Fin 100 => Φ (kcell (c, i)))
    = iprop(Φ (barCell c) ∗ Φ (dCell c .x) ∗ (bigSep Finset.univ fun s : Fin 2 => Φ (dCell c (.w s)))
      ∗ (bigSep Finset.univ fun k : Fin 3 => bigSep Finset.univ fun p : Fin 16 => Φ (sCell c k p))
      ∗ (bigSep Finset.univ fun k : Fin 3 => bigSep Finset.univ fun p : Fin 16 => Φ (rCell c k p))) := by
  rw [bigSep_kinds, kcell_bar, kcell_dma c .x (by simp)]
  simp only [kcell_dma c (.w _) (by simp), kcell_dma c (.peer _ _) (by simp)]

omit [FloatOps F] in
theorem e_sig : iprop((bigSep (Finset.univ.erase c) fun p : Dev nD => slotAny c 0 p) ∗ (bigSep (Finset.univ.erase c) fun p : Dev nD => slotAny c 1 p)
      ∗ (bigSep (Finset.univ.erase c) fun p : Dev nD => slotAny c 2 p) ∗ bigSep Finset.univ fun p : Dev nD => dutyTok ER (barCell p) 0 c)
    ⊢ Sig (F := F) c 0 := by
  unfold Sig
  rw [bigSep_at (Φ := SigP (F := F) c 0) c, bigSep_at (Φ := fun p : Dev nD => dutyTok ER (barCell p) 0 c) c]
  have h : iprop((bigSep (Finset.univ.erase c) fun p : Dev nD => slotAny c 0 p) ∗ (bigSep (Finset.univ.erase c) fun p : Dev nD => slotAny c 1 p)
      ∗ (bigSep (Finset.univ.erase c) fun p : Dev nD => slotAny c 2 p) ∗ bigSep (Finset.univ.erase c) fun p : Dev nD => dutyTok ER (barCell p) 0 c)
      ⊢ bigSep (Finset.univ.erase c) (SigP (F := F) c 0) := by
    rw [← bigSep_sep', ← bigSep_sep', ← bigSep_sep']
    refine bigSep_mono fun p hp => ?_
    unfold SigP
    rw [if_neg (by rintro (h' | h'); exacts [Finset.ne_of_mem_erase hp h', Nat.not_lt_zero _ h']), barPay_eq]
    show (_ : sProp 𝕄) ⊢ _
    iintro ⟨H0, H1, H2, Ht⟩
    isplitr [Ht]
    · isplitl [H0]; · iexact H0
      isplitl [H1] <;> iassumption
    iexact Ht
  rw [show SigP (F := F) c 0 c = iprop(emp) from if_pos (.inl rfl)]
  iintro ⟨H0, H1, H2, -, Ht⟩
  isplitr; · iempintro
  iapply h
  isplitl [H0]; · iexact H0
  isplitl [H1]; · iexact H1
  isplitl [H2] <;> iassumption

theorem e_snd (k : Fin 3) (A : Dev nD → sProp 𝕄) : iprop(bigSep Finset.univ A ∗ (bigSep Finset.univ fun p : Dev nD => dutyTok ER (sCell c k p) 0 (0 : Fin 16))
      ∗ (bigSep Finset.univ fun p : Dev nD => dutyTok ER (rCell p k c) 0 (0 : Fin 16)) ∗ bigSep Finset.univ fun p : Dev nD => atPos ER (sCell c k p) 0 ∅ 0)
    ⊢ Snd (F := F) c k A 0 0 0 := by
  unfold Snd
  rw [← bigSep_sep', ← bigSep_sep', ← bigSep_sep']
  refine bigSep_mono fun p hp => ?_
  unfold SndP
  by_cases hc : p = c
  · rw [if_pos hc]
    show (_ : sProp 𝕄) ⊢ _
    iintro ⟨HA, -, -, Ha⟩
    isplitl [HA] <;> iassumption
  · rw [if_neg hc, if_neg (c := (0 : ℕ) = 1 ∧ 0 ≤ p.val) (by rintro ⟨h', _⟩; exact absurd h' (by decide)), if_pos (Nat.zero_le _),
      if_neg (Nat.not_lt_zero _), if_neg (Nat.not_lt_zero _), if_neg (c := 0 ≤ p.val ∧ p.val < 0) (by rintro ⟨_, h'⟩; exact absurd h' (Nat.not_lt_zero _))]
    show (_ : sProp 𝕄) ⊢ _
    iintro ⟨HA, Ht, Hu, Ha⟩
    isplitr; · iempintro
    isplitl [Ht Hu]
    · isplitl [Ht] <;> iassumption
    isplitl [Ha]
    · isplitl [Ha]; · iexact Ha
      iempintro
    iexact HA

theorem e_rcv (k : Fin 3) : iprop((bigSep Finset.univ fun p : Dev nD => credP (F := F) c k p) ∗ bigSep Finset.univ fun p : Dev nD => atPos ER (rCell c k p) 0 ∅ 0)
    ⊢ Rcv m c k 0 := by
  unfold Rcv
  rw [← bigSep_sep']
  refine bigSep_mono fun p hp => ?_
  unfold RcvP credP
  by_cases hc : p = c
  · rw [if_pos hc, if_pos hc]
    show (_ : sProp 𝕄) ⊢ _
    iintro ⟨-, Ha⟩
    iexact Ha
  · rw [if_neg hc, if_neg hc, if_neg (Nat.not_lt_zero _)]
    show (_ : sProp 𝕄) ⊢ _
    iintro ⟨Hc, Ha⟩
    isplitl [Ha] <;> iassumption

theorem e_ww : iprop(Rec m K ∗ (bigSep Finset.univ fun s : Fin 2 => atPos ER (dCell c (.w s)) 0 ∅ 0) ∗ (bigSep Finset.univ fun s : Fin 2 => iprop(∃ f, wsPts c s f))
      ∗ (bigSep Finset.univ fun j : Fin 8 => dutyTok ER (dCell c (.w ⟨j.val % 2, Nat.mod_lt _ (by decide)⟩)) (j.val / 2) (0 : Fin 16))
      ∗ bigSep Finset.univ fun j : Fin 8 => wcPts m c j)
    ⊢ WW m c 0 0 := by
  have h1 : iprop(Rec m K ∗ bigSep Finset.univ fun s : Fin 2 => iprop(atPos ER (dCell c (.w s)) 0 ∅ 0 ∗ ∃ f, wsPts c s f)) ⊢ bigSep Finset.univ (WsP m c 0 0) := by
    refine bigSep_with_persistent fun s _ => ?_
    have e : (0 + 1 - s.val) / 2 = 0 := by omega
    unfold WsP
    rw [e, if_pos rfl]
    iintro ⟨#HR, Ha, ⟨%f, Hf⟩⟩
    isplitl [Ha]; · iexact Ha
    isplitr; · iapply (rec_reached_dma m K c (.w s) (by simp)); iexact HR
    iexists f
    isplitr
    · ipureintro; intro h; exact absurd h (Nat.lt_irrefl 0)
    iexact Hf
  have h2 : iprop((bigSep Finset.univ fun j : Fin 8 => dutyTok ER (dCell c (.w ⟨j.val % 2, Nat.mod_lt _ (by decide)⟩)) (j.val / 2) (0 : Fin 16))
      ∗ bigSep Finset.univ fun j : Fin 8 => wcPts m c j) ⊢ bigSep Finset.univ (WcP m c 0 0) := by
    rw [← bigSep_sep']
    refine bigSep_mono fun j _ => ?_
    unfold WcP
    rw [if_pos (Nat.zero_le _), if_neg (by rintro ⟨_, h'⟩; exact Nat.not_lt_zero _ h')]
    show (_ : sProp 𝕄) ⊢ _
    iintro ⟨H1, H2⟩
    isplitl [H1] <;> iassumption
  unfold WW
  iintro ⟨#HR, Ha, Hs, Ht, Hc⟩
  isplitl [Ha Hs]
  · iapply h1
    isplitr; · iexact HR
    iapply (Entails.of_eq (bigSep_sep' Finset.univ (fun s : Fin 2 => (atPos ER (dCell c (.w s)) 0 ∅ 0 : sProp 𝕄)) (fun s => iprop(∃ f, wsPts c s f))).symm)
    isplitl [Ha] <;> iassumption
  iapply h2
  isplitl [Ht] <;> iassumption

/-- No tile of maxima is there yet. -/
theorem a2_none : (emp : sProp 𝕄) ⊢ bigSep Finset.univ (A2 m c 0) :=
  Entails.of_eq (Eq.symm ((bigSep_congr (Ψ := fun _ => BI.emp) fun p _ => if_neg (by decide)).trans (bigSep_emp_const _)))
theorem a0_some : bigSep Finset.univ (A0 m c 16) ⊢ bigSep Finset.univ fun p : Dev nD => iprop(∃ f, dPts (F := F) c p f) :=
  bigSep_mono fun p _ => by
    unfold A0; rw [if_pos (show p.val < 16 from p.isLt)]
    show (_ : sProp 𝕄) ⊢ _
    iintro H; iexists _; iexact H
theorem a1_some : bigSep Finset.univ (A1 m c 16) ⊢ bigSep Finset.univ fun p : Dev nD => iprop(∃ f, ssPts (F := F) c p f) :=
  bigSep_mono fun p _ => by
    unfold A1; rw [if_pos (show p.val < 16 from p.isLt)]
    show (_ : sProp 𝕄) ⊢ _
    iintro H; iexists _; iexact H

/-- From what the launch hands a device to the body's first state. -/
theorem entry : iprop(Rec m K ∗ linear c ∗ creds c ∗ Ow c (owed c 0 0 0 0) ∗ args m c ∗ bufs c ∗ some' c cc0_stg0_0)
    ⊢ St m K c 0 0 0 0 0 0 0 0 0 0 0 0 0 0 0 0 0 := by
  unfold linear payToks creds args bufs
  rw [bigSep_cells c (fun g => atPos ER g 0 ∅ 0)]
  simp only [bigSep_three]
  rw [wc_split]
  iintro ⟨#HR, ⟨⟨HaB, HaX, HaW, ⟨HaS0, HaS1, HaS2⟩, HaR0, HaR1, HaR2⟩, HtB, HtX, HtW, ⟨HtS0, HtS1, HtS2⟩, HtR0, HtR1, HtR2⟩,
    ⟨HcB, Hc0, Hc1, Hc2⟩, HO, ⟨Hx, Hw⟩, ⟨B0, B1, B2, B3, B4, B5, B6, B7, B8⟩, ⟨%fo, Hout⟩⟩
  ihave B1 := (ws_split c) $$ B1
  ihave B3 := (d_split c) $$ B3
  ihave B4 := (q_split c) $$ B4
  ihave B5 := (ss_split c) $$ B5
  ihave B6 := (sr_split c) $$ B6
  ihave B8 := (ar_split c) $$ B8
  ihave B4 := (Entails.of_eq (bigSep_at (Φ := fun p : Dev nD => slotAny (F := F) c 0 p) c)) $$ B4
  ihave B6 := (Entails.of_eq (bigSep_at (Φ := fun p : Dev nD => slotAny (F := F) c 1 p) c)) $$ B6
  ihave B8 := (Entails.of_eq (bigSep_at (Φ := fun p : Dev nD => slotAny (F := F) c 2 p) c)) $$ B8
  icases B4 with ⟨O4, B4⟩
  icases B6 with ⟨O6, B6⟩
  icases B8 with ⟨O8, B8⟩
  ihave HSig := (e_sig c) $$ [B4 B6 B8 HtB]
  · isplitl [B4]; · iexact B4
    isplitl [B6]; · iexact B6
    isplitl [B8] <;> iassumption
  ihave HW := (e_ww m K c) $$ [HaW B1 HtW Hw]
  · isplitr; · iexact HR
    isplitl [HaW]; · iexact HaW
    isplitl [B1]; · iexact B1
    isplitl [HtW] <;> iassumption
  ihave HS0 := (e_snd c 0 (A0 m c 0)) $$ [HaS0 HtS0 HtR0 B3]
  · isplitl [B3]
    · iapply (Entails.of_eq (bigSep_congr (Φ := fun p : Dev nD => iprop(∃ f, dPts (F := F) c p f)) (Ψ := A0 m c 0) fun p _ => (if_neg (Nat.not_lt_zero _)).symm)); iexact B3
    isplitl [HtS0]; · iexact HtS0
    isplitl [HtR0] <;> iassumption
  ihave HS1 := (e_snd c 1 (A1 m c 0)) $$ [HaS1 HtS1 HtR1 B5]
  · isplitl [B5]
    · iapply (Entails.of_eq (bigSep_congr (Φ := fun p : Dev nD => iprop(∃ f, ssPts (F := F) c p f)) (Ψ := A1 m c 0) fun p _ => (if_neg (Nat.not_lt_zero _)).symm)); iexact B5
    isplitl [HtS1]; · iexact HtS1
    isplitl [HtR1] <;> iassumption
  ihave HS2 := (e_snd c 2 (A2 m c 0)) $$ [HaS2 HtS2 HtR2]
  · isplitr
    · iapply (a2_none m c)
      iempintro
    isplitl [HtS2]; · iexact HtS2
    isplitl [HtR2] <;> iassumption
  ihave HR0 := (e_rcv m c 0) $$ [Hc0 HaR0]
  · isplitl [Hc0] <;> iassumption
  ihave HR1 := (e_rcv m c 1) $$ [Hc1 HaR1]
  · isplitl [Hc1] <;> iassumption
  ihave HR2 := (e_rcv m c 2) $$ [Hc2 HaR2]
  · isplitl [Hc2] <;> iassumption
  unfold St
  isplitr; · iexact HR
  isplitl [HO]; · iexact HO
  isplitl [HSig HcB HaB Hx B0 HtX HaX HW]
  · isplitl [HSig]; · iexact HSig
    isplitl [HcB HaB]
    · unfold Bar; rw [if_pos rfl]
      isplitl [HcB] <;> iassumption
    isplitl [Hx B0 HtX HaX]
    · unfold XX xaPts xPts; rw [if_pos rfl]
      isplitl [Hx]; · iexact Hx
      isplitl [B0]; · iexact B0
      isplitl [HtX] <;> iassumption
    iexact HW
  isplitl [B2]
  · unfold YY
    icases B2 with ⟨%f, B2⟩
    iexists f
    isplitr
    · ipureintro; intro i h; exact absurd h (Nat.not_lt_zero _)
    iexact B2
  isplitl [HS0 HS1 HS2 B7]
  · isplitl [HS0]; · iexact HS0
    isplitl [HS1]; · iexact HS1
    isplitl [HS2]; · iexact HS2
    unfold AS; rw [if_pos rfl]; iexact B7
  isplitl [HR0 HR1 HR2 O8]
  · isplitl [HR0]; · iexact HR0
    isplitl [HR1]; · iexact HR1
    isplitl [HR2]; · iexact HR2
    unfold OwnA; rw [if_pos rfl]; iexact O8
  isplitl [Hout]
  · unfold OO
    iexists fo
    isplitr
    · ipureintro; rintro i (⟨_, h⟩ | ⟨_, h⟩) <;> exact absurd h (Nat.not_lt_zero _)
    iexact Hout
  unfold Own
  isplitl [O4] <;> iassumption

/-! ## What it leaves -/

/-- How many rounds a cell has run in the end. -/
def endR (g : GSem nD τ sig) : ℕ := match g.2 with
  | .reg _ => 1
  | .dma i => roundsOf g.1.1 (cellAt i)
theorem endR_dma (k : Cell) : endR (dCell c k) = roundsOf c k := by
  show roundsOf c (cellAt (cellNo k)) = _
  rw [cellAt_cellNo]

theorem duties_end (g : GSem nD τ sig) (r : ℕ) (h : endR g ≤ r) : (ringRd (F := F) m).duties g r = ∅ := by
  rcases g with ⟨t, sm | i⟩
  · exact if_neg (by have h' : 1 ≤ r := h; omega)
  · exact if_neg (Nat.not_lt.mpr h)

/-- Every cell closes: its counter, at zero, is the device's again. -/
theorem close_cells : iprop(Rec m K ∗ bigSep Finset.univ fun i : Fin 100 => atPos ER (kcell (c, i)) (endR (kcell (c, i))) ∅ 0)
    ⊢ |={Set.univ}=> (bigSep Finset.univ fun i : Fin 100 => semVal (kcell (c, i)) 0 : sProp 𝕄) := by
  refine BI.Entails.trans (bigSep_with_persistent (Ψ := fun i : Fin 100 => iprop(|={Set.univ}=> semVal (kcell (c, i)) 0)) fun i _ => ?_) (bigSep_fupd _ _)
  iintro ⟨#HR, Ha⟩
  iapply (Rounds.cell_close ER (ringRd m) (Set.mem_univ (K (c, i))) (fun h => h) (R := endR (kcell (c, i))) (duties_end m (kcell (c, i))))
  isplitr; · iapply (rec_inv m K (c, i)); iexact HR
  iexact Ha

theorem x_snd (k : Fin 3) (A : Dev nD → sProp 𝕄) : Snd (F := F) c k A 1 16 16
    ⊢ iprop(bigSep Finset.univ A ∗ bigSep Finset.univ fun p : Dev nD => atPos ER (sCell c k p) (endR (sCell c k p)) ∅ 0) := by
  unfold Snd
  rw [← bigSep_sep']
  refine bigSep_mono fun p hp => ?_
  have hlt : p.val < 16 := p.isLt
  unfold SndP
  rw [endR_dma]
  unfold roundsOf
  by_cases hc : p = c
  · rw [if_pos hc]
    simp only [if_pos hc]
    show (_ : sProp 𝕄) ⊢ _
    iintro ⟨H1, H2⟩
    isplitl [H1] <;> iassumption
  · rw [if_neg hc, if_neg (by rintro ⟨_, h'⟩; omega), if_neg (by omega), if_pos hlt, if_neg (by rintro ⟨h', _⟩; omega)]
    simp only [if_neg hc]
    show (_ : sProp 𝕄) ⊢ _
    iintro ⟨-, -, Ha, HA⟩
    isplitl [HA] <;> iassumption

theorem x_rcv (k : Fin 3) : Rcv m c k 16
    ⊢ iprop((bigSep Finset.univ fun p : Dev nD => atPos ER (rCell c k p) (endR (rCell c k p)) ∅ 0) ∗ bigSep (Finset.univ.erase c) fun p : Dev nD => slotAny c k p) := by
  unfold Rcv
  rw [bigSep_at (Φ := RcvP m c k 16) c, bigSep_at (Φ := fun p : Dev nD => atPos ER (rCell c k p) (endR (rCell c k p)) ∅ 0) c]
  have h : bigSep (Finset.univ.erase c) (RcvP m c k 16) ⊢ iprop((bigSep (Finset.univ.erase c) fun p : Dev nD => atPos ER (rCell c k p) (endR (rCell c k p)) ∅ 0)
      ∗ bigSep (Finset.univ.erase c) fun p : Dev nD => slotAny c k p) := by
    rw [← bigSep_sep']
    refine bigSep_mono fun p hp => ?_
    have hc := Finset.ne_of_mem_erase hp
    have hlt : p.val < 16 := p.isLt
    have hs : peerPay m c (kR k) p ⊢ slotAny c k p := by
      fin_cases k
      · show qPts c p (qrecvAt m c) ⊢ iprop(∃ f, qPts c p f)
        iintro H; iexists _; iexact H
      · show srPts c p (srecvAt m c) ⊢ iprop(∃ f, srPts c p f)
        iintro H; iexists _; iexact H
      · show arPts c p (arecvAt m c) ⊢ iprop(∃ f, arPts c p f)
        iintro H; iexists _; iexact H
    unfold RcvP
    rw [endR_dma]
    unfold roundsOf
    rw [if_neg hc, if_pos hlt]
    simp only [if_neg hc]
    show (_ : sProp 𝕄) ⊢ _
    iintro ⟨Ha, Hp⟩
    isplitl [Ha]; · iexact Ha
    iapply hs; iexact Hp
  have h0 : RcvP m c k 16 c = atPos ER (rCell c k c) (endR (rCell c k c)) ∅ 0 := by
    unfold RcvP
    rw [endR_dma]
    unfold roundsOf
    simp only [if_pos]
  rw [h0]
  iintro ⟨Ha, Hr⟩
  ihave Hr := h $$ Hr
  icases Hr with ⟨H1, H2⟩
  isplitr [H2]
  · isplitl [Ha] <;> iassumption
  iexact H2

theorem x_ww : WW m c 8 8 ⊢ iprop((bigSep Finset.univ fun s : Fin 2 => atPos ER (dCell c (.w s)) (endR (dCell c (.w s))) ∅ 0)
    ∗ (bigSep Finset.univ fun s : Fin 2 => iprop(∃ f, wsPts c s f)) ∗ bigSep Finset.univ fun j : Fin 8 => wcPts m c j) := by
  have h1 : bigSep Finset.univ (WsP m c 8 8) ⊢ iprop((bigSep Finset.univ fun s : Fin 2 => atPos ER (dCell c (.w s)) (endR (dCell c (.w s))) ∅ 0)
      ∗ bigSep Finset.univ fun s : Fin 2 => iprop(∃ f, wsPts c s f)) := by
    rw [← bigSep_sep']
    refine bigSep_mono fun s _ => ?_
    have e : (8 + 1 - s.val) / 2 = 4 := by have := s.isLt; omega
    unfold WsP
    rw [e, if_pos rfl, endR_dma]
    show (_ : sProp 𝕄) ⊢ _
    iintro ⟨Ha, -, ⟨%f, -, Hf⟩⟩
    isplitl [Ha]; · iexact Ha
    iexists f; iexact Hf
  have h2 : bigSep Finset.univ (WcP m c 8 8) ⊢ bigSep Finset.univ fun j : Fin 8 => wcPts m c j := by
    refine bigSep_mono fun j _ => ?_
    have hlt : j.val < 8 := j.isLt
    unfold WcP
    rw [if_neg (by omega), if_neg (by rintro ⟨h', _⟩; omega)]
    show (_ : sProp 𝕄) ⊢ _
    iintro ⟨-, H⟩
    iexact H
  unfold WW
  iintro ⟨H1, H2⟩
  ihave H1 := h1 $$ H1
  icases H1 with ⟨Ha, Hs⟩
  isplitl [Ha]; · iexact Ha
  isplitl [Hs]; · iexact Hs
  iapply h2; iexact H2

/-- From the body's last state: nothing owed, the counters at zero, the arguments as launched, the scratch buffers, and
    the result. -/
theorem exit : St m K c 16 1 2 8 8 8 16 16 16 1 1 16 16 16 16 16 16
    ⊢ |={Set.univ}=> iprop(Ow c 0 ∗ (bigSep Finset.univ fun i : Fin 100 => semVal (kcell (c, i)) 0) ∗ args m c ∗ bufs c
      ∗ (((c : Thread nD τ).loc cc0_stg0_0) ↦{fullShare} outAt m c)) := by
  unfold St
  iintro ⟨#HR, HO, ⟨-, HB, HX, HW⟩, HY, ⟨HS0, HS1, HS2, -⟩, ⟨HR0, HR1, HR2, HOA⟩, HOO, HOwn⟩
  ihave HW := (x_ww m c) $$ HW
  icases HW with ⟨HaW, B1, Hw⟩
  ihave HS0 := (x_snd c 0 _) $$ HS0
  icases HS0 with ⟨B3, HaS0⟩
  ihave HS1 := (x_snd c 1 _) $$ HS1
  icases HS1 with ⟨B5, HaS1⟩
  ihave HS2 := (x_snd c 2 _) $$ HS2
  icases HS2 with ⟨B7, HaS2⟩
  ihave HR0 := (x_rcv m c 0) $$ HR0
  icases HR0 with ⟨HaR0, B4⟩
  ihave HR1 := (x_rcv m c 1) $$ HR1
  icases HR1 with ⟨HaR1, B6⟩
  ihave HR2 := (x_rcv m c 2) $$ HR2
  icases HR2 with ⟨HaR2, B8⟩
  ihave HB := (show Bar (F := F) c 1 ⊢ atPos ER (barCell c) 1 ∅ 0 from Entails.of_eq rfl) $$ HB
  ihave HX := (show XX m c 2 ⊢ iprop((((c : Thread nD τ).loc cc0_scratch0) ↦{fullShare} X m c) ∗ (((c : Thread nD τ).loc main_arg0) ↦{fullShare} X m c)
    ∗ atPos ER (dCell c .x) 1 ∅ 0) from Entails.of_eq rfl) $$ HX
  icases HX with ⟨B0, Hx, HaX⟩
  unfold Own
  icases HOwn with ⟨O4, O6⟩
  imod (close_cells m K c) $$ [HB HaX HaW HaS0 HaS1 HaS2 HaR0 HaR1 HaR2] with HZ
  · isplitr; · iexact HR
    iapply (Entails.of_eq (bigSep_cells c (fun g => (atPos ER g (endR g) ∅ 0 : sProp 𝕄))).symm)
    isplitl [HB]; · iexact HB
    isplitl [HaX]; · iapply (Entails.of_eq (congrArg (fun n => (atPos ER (dCell c .x) n ∅ 0 : sProp 𝕄)) (endR_dma c .x).symm)); iexact HaX
    isplitl [HaW]; · iexact HaW
    isplitl [HaS0 HaS1 HaS2]
    · iapply (Entails.of_eq (bigSep_three (fun k : Fin 3 => bigSep Finset.univ fun p : Fin 16 => (atPos ER (sCell c k p) (endR (sCell c k p)) ∅ 0 : sProp 𝕄))).symm)
      isplitl [HaS0]; · iexact HaS0
      isplitl [HaS1] <;> iassumption
    iapply (Entails.of_eq (bigSep_three (fun k : Fin 3 => bigSep Finset.univ fun p : Fin 16 => (atPos ER (rCell c k p) (endR (rCell c k p)) ∅ 0 : sProp 𝕄))).symm)
    isplitl [HaR0]; · iexact HaR0
    isplitl [HaR1] <;> iassumption
  imodintro
  isplitl [HO]
  · iapply (Entails.of_eq (congrArg (Ow (F := F) c) (show owed c 16 16 16 16 = 0 by unfold owed; simp only [tailSum_end, add_zero]))); iexact HO
  isplitl [HZ]; · iexact HZ
  isplitl [Hx Hw]
  · unfold args
    isplitl [Hx]; · iexact Hx
    iapply (Entails.of_eq (wc_split c m).symm); iexact Hw
  isplitr [HOO]
  · unfold bufs
    isplitl [B0]; · iexists _; iexact B0
    isplitl [B1]; · iapply (ws_join c); iexact B1
    isplitl [HY]
    · unfold YY
      icases HY with ⟨%f, -, HY⟩
      iexists f; iexact HY
    isplitl [B3]
    · iapply (d_join c)
      iapply (a0_some m c)
      iexact B3
    isplitl [B4 O4]
    · iapply (q_join c)
      iapply (Entails.of_eq (bigSep_at (Φ := fun p : Dev nD => slotAny (F := F) c 0 p) c).symm)
      isplitl [O4] <;> iassumption
    isplitl [B5]
    · iapply (ss_join c)
      iapply (a1_some m c)
      iexact B5
    isplitl [B6 O6]
    · iapply (sr_join c)
      iapply (Entails.of_eq (bigSep_at (Φ := fun p : Dev nD => slotAny (F := F) c 1 p) c).symm)
      isplitl [O6] <;> iassumption
    isplitl [B7]
    · iexists _; iapply (as_join c m); iexact B7
    iapply (ar_join c)
    iapply (Entails.of_eq (bigSep_at (Φ := fun p : Dev nD => slotAny (F := F) c 2 p) c).symm)
    isplitl [HOA]
    · ihave HOA := (show OwnA m c 1 ⊢ arPts c c (arecvAt m c) from Entails.of_eq rfl) $$ HOA
      iapply (show arPts c c (arecvAt m c) ⊢ slotAny c 2 c from by
        show arPts c c (arecvAt m c) ⊢ iprop(∃ f, arPts c c f)
        iintro H; iexists _; iexact H)
      iexact HOA
    iexact B8
  unfold OO
  icases HOO with ⟨%f, %hf, HOO⟩
  have : f = outAt m c := funext fun i => hf i (by
    have h0 : (i 0).val < 4096 := (i 0).isLt
    have hc : c.val < 16 := c.isLt
    by_cases h : (i 0).val / 256 = c.val
    · exact .inl ⟨h, hc⟩
    · exact .inr ⟨h, by omega⟩)
  subst this
  iexact HOO

end EntryExit

end Cert.KernelIdealProof

end
-- ==== Proof.Launch.lean ====
/-
The launch: the semaphores, the tokens and the credit each device starts with, the body at its one point, and the run.
-/
module

public import proofs.«01_k».proof.Proof.Body
public import proofs.«01_k».proof.Proof.Entry
public import proofs.«01_k».proof.Proof.Gen.KernelIdeal.Points
public import Idealize.ShloMosaic.Lib.Quiescent
public import Idealize.ShloMosaic.Lib.Pipeline.ValueKit
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory the program starts from. -/
abbrev s₀ : MemSt nD τ sig (Elt F) := ⟨m, fun _ => 0, ρ⟩
abbrev 𝒱₀ : Variants := Variants.none

/-! ## The pipeline's proof data -/

/-- What a device holds before the body, its scratch buffers apart. -/
def start (c : Dev nD) : sProp 𝕄 := iprop((∃ K, Rec m K ∗ linear (F := F) c) ∗ creds c ∗ args m c)
def Φ₀ (c : Dev nD) : sProp 𝕄 := iprop(start m c ∗ bufs c)
def Φ₁ (c : Dev nD) : sProp 𝕄 := iprop((bigSep Finset.univ fun i : Fin 100 => semVal (kcell (c, i)) 0) ∗ args m c ∗ bufs (F := F) c)
/-- What a device owes at launch. -/
abbrev O₀ (c : Dev nD) : CellTallies nD τ sig Unit := owed c 0 0 0 0

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ m c ∗ (dats m ρ 0 c).owesAt () t0_0.succ ∗ stg c cc0_stg0_0 (outAt m c))

/-- The last state and an update after it. -/
theorem body_end (K : Dev nD × Fin 100 → ℕ) (c : Dev nD) :
    St m K c 16 1 2 8 8 8 16 16 16 1 1 16 16 16 16 16 16 ⊢ |={Set.univ}=> bodyPost m ρ c := by
  iintro H
  imod (exit m K c) $$ H with ⟨HO, HZ, HA, HB, Hout⟩
  imodintro
  unfold bodyPost Φ₁ Pipeline.Dat.owesAt Pipeline.owesWithin Ow
  icases HO with ⟨%W, HO⟩
  isplitl [HZ HA HB]
  · isplitl [HZ]; · iexact HZ
    isplitl [HA] <;> iassumption
  isplitl [HO]
  · iexists W
    isplitr; · ipureintro; exact fun _ _ => Or.inl trivial
    iexact HO
  iexists _; isplitr; · (ipureintro; rfl)
  iexact Hout

theorem fupd_wp {c : Dev nD} {p : Prg F PUnit} {Q : PUnit → sProp 𝕄} : WP c p (fun a => iprop(|={Set.univ}=> Q a)) ⊢ WP c p Q :=
  wp_fupd frame _ Set.univ _ _

/-- The body at its one point. -/
theorem sound_body (c : Dev nD) : bodyPre m ρ c ⊢ WP c (cc0_body (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16) (fun _ => bodyPost m ρ c) := by
  unfold bodyPre Φ₀ start Pipeline.Dat.owesAt Pipeline.owesWithin
  iintro ⟨⟨⟨⟨%K, #HR, HL⟩, Hc, HA⟩, HB⟩, ⟨%W, %hW, HO⟩, ⟨%d, %f, -, Hout⟩⟩
  iapply fupd_wp
  iapply (body_steps (m := m) (K := K) (c := c) (body_end m ρ K c))
  iapply (entry m K c)
  isplitr; · iexact HR
  isplitl [HL]; · iexact HL
  isplitl [Hc]; · iexact Hc
  isplitl [HO]; · unfold Ow; iexists W; iexact HO
  isplitl [HA]; · iexact HA
  isplitl [HB]; · iexact HB
  iexists f; iexact Hout

theorem body_obligation (c : Dev nD) : Pipeline.BodyObligation (dats (F := F) m ρ 0 c) (defs₀ (F := F)) 𝒱₀ () Set.univ := fun t => by
  rw [fin_N0 t]
  rw [bigSep_W0, bigSep_W0]
  simp only [owns_whole_eq]
  exact sound_body m ρ c

/-! ## The ghost state at launch -/

theorem ownSemFacts : Pipeline.OwnSemFacts cfg0.spec osem := by decide

theorem share_eq (c : Dev nD) (w : Fin cfg0.W) : (dats m ρ 0 c).share w = fullShare := by unfold Pipeline.Dat.share; split <;> rfl

theorem csem_injective : Function.Injective csem := by
  intro a b h
  unfold csem at h
  by_cases ha : a = 0 <;> by_cases hb : b = 0
  · rw [ha, hb]
  · rw [if_pos ha, if_neg hb] at h; cases h
  · rw [if_neg ha, if_pos hb] at h; cases h
  · rw [if_neg ha, if_neg hb] at h
    exact SemLoc.dma.inj h
theorem kcell_injective : Function.Injective (kcell : Dev nD × Fin 100 → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]
def ringCells : Finset (GSem nD τ sig) := Finset.univ.map ⟨kcell, kcell_injective⟩

/-- The tokens of a device's own cells: its barrier's, its copies', its send cells', its receive cells'. -/
abbrev Toks : Type := Fin 16 ⊕ Unit ⊕ Fin 8 ⊕ (Fin 3 × Fin 16) ⊕ (Fin 3 × Fin 16)
def tokOf (cj : Dev nD × Toks) : GSem nD τ sig × ℕ × Fin 16 := match cj.2 with
  | .inl q => (barCell cj.1, 0, q)
  | .inr (.inl _) => (dCell cj.1 .x, 0, 0)
  | .inr (.inr (.inl j)) => (dCell cj.1 (.w ⟨j.val % 2, Nat.mod_lt _ (by decide)⟩), j.val / 2, 0)
  | .inr (.inr (.inr (.inl kp))) => (sCell cj.1 kp.1 kp.2, 0, 0)
  | .inr (.inr (.inr (.inr kp))) => (rCell cj.1 kp.1 kp.2, 0, 0)
/-- Which token it was. -/
def tokNo (x : GSem nD τ sig × ℕ × Fin 16) : Dev nD × Toks := (x.1.1.1, match x.1.2 with
  | .reg _ => .inl x.2.2
  | .dma i => match kindOf (cellAt i) with
    | .inl _ => .inl x.2.2
    | .inr (.inl _) => .inr (.inl ())
    | .inr (.inr (.inl s)) => .inr (.inr (.inl ⟨(2 * x.2.1 + s.val) % 8, Nat.mod_lt _ (by decide)⟩))
    | .inr (.inr (.inr (.inl kp))) => .inr (.inr (.inr (.inl kp)))
    | .inr (.inr (.inr (.inr kp))) => .inr (.inr (.inr (.inr kp))))
def tokDma (k : Kinds) (r : ℕ) (q : Fin 16) : Toks := match k with
    | .inl _ => .inl q
    | .inr (.inl _) => .inr (.inl ())
    | .inr (.inr (.inl s)) => .inr (.inr (.inl ⟨(2 * r + s.val) % 8, Nat.mod_lt _ (by decide)⟩))
    | .inr (.inr (.inr (.inl kp))) => .inr (.inr (.inr (.inl kp)))
    | .inr (.inr (.inr (.inr kp))) => .inr (.inr (.inr (.inr kp)))
theorem tokNo_dma (c : Dev nD) (x : Kinds) (r : ℕ) (q : Fin 16) : tokNo (dCell c (kindCell x), r, q) = (c, tokDma x r q) := by
  show (c, tokDma (kindOf (cellAt (cellNo (kindCell x)))) r q) = _
  rw [cellAt_cellNo, kindOf_kindCell]
theorem tokNo_tokOf (cj : Dev nD × Toks) : tokNo (tokOf cj) = cj := by
  obtain ⟨c, (q | _ | j | kp | kp)⟩ := cj
  · rfl
  · exact tokNo_dma c (.inr (.inl ())) 0 0
  · refine (tokNo_dma c (.inr (.inr (.inl ⟨j.val % 2, Nat.mod_lt _ (by decide)⟩))) (j.val / 2) 0).trans ?_
    have hj := j.isLt
    have : (⟨(2 * (j.val / 2) + j.val % 2) % 8, Nat.mod_lt _ (by decide)⟩ : Fin 8) = j := Fin.ext (by show (2 * (j.val / 2) + j.val % 2) % 8 = j.val; omega)
    exact congrArg (fun j : Fin 8 => ((c, .inr (.inr (.inl j))) : Dev nD × Toks)) this
  · exact tokNo_dma c (.inr (.inr (.inr (.inl kp)))) 0 0
  · exact tokNo_dma c (.inr (.inr (.inr (.inr kp)))) 0 0
theorem tokOf_injective : Function.Injective tokOf := Function.LeftInverse.injective tokNo_tokOf
def ringToks : Finset (GSem nD τ sig × ℕ × Fin 16) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop((bigSep Finset.univ fun q : Fin 16 => dutyTok ER (barCell c) 0 q) ∗ dutyTok ER (dCell c .x) 0 (0 : Fin 16)
    ∗ (bigSep Finset.univ fun j : Fin 8 => dutyTok ER (dCell c (.w ⟨j.val % 2, Nat.mod_lt _ (by decide)⟩)) (j.val / 2) (0 : Fin 16))
    ∗ (bigSep Finset.univ fun k : Fin 3 => bigSep Finset.univ fun p : Dev nD => dutyTok ER (sCell c k p) 0 (0 : Fin 16))
    ∗ (bigSep Finset.univ fun k : Fin 3 => bigSep Finset.univ fun p : Dev nD => dutyTok ER (rCell c k p) 0 (0 : Fin 16)))

/-- What the launch deals device `c`, -/
def G (c : Dev nD) : sProp 𝕄 :=
  iprop((bigSep Finset.univ fun k : Fin 100 => roundState ER (ringRd m) (kcell (c, k)) 0)
    ∗ (bigSep Finset.univ fun k : Fin 100 => iprop(atPos ER (kcell (c, k)) 0 ∅ 0 ∗ reached ER (kcell (c, k)) 0)) ∗ toks (F := F) c)
/-- and what becomes of it: every cell's invariant and first round, the device's positions, the tokens it pays with. -/
def G' (c : Dev nD) : sProp 𝕄 := iprop(∃ K : Dev nD × Fin 100 → ℕ, ((bigSep Finset.univ fun ck : Dev nD × Fin 100 => cellInv ER (ringRd m) (K ck) (kcell ck))
    ∗ bigSep Finset.univ fun ck : Dev nD × Fin 100 => reached ER (kcell ck) 0) ∗ linear (F := F) c)

omit [FloatOps F] in
theorem toks_eq (c : Dev nD) : (bigSep Finset.univ fun j : Toks => (dutyTok ER (tokOf (c, j)).1 (tokOf (c, j)).2.1 (tokOf (c, j)).2.2 : sProp 𝕄)) = toks c := by
  rw [bigSep_sum, bigSep_sum, bigSep_sum, bigSep_sum, bigSep_univ_prod, bigSep_univ_prod, bigSep_unit]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 100 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore, -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The cells split: the barrier's, the others. -/
def splitNo : Unit ⊕ Fin 99 → Fin 100
  | .inl _ => 0
  | .inr i => ⟨i.val + 1, by have := i.isLt; omega⟩
theorem splitNo_bijective : Function.Bijective splitNo :=
  (Fintype.bijective_iff_injective_and_card splitNo).mpr ⟨by
    rintro (_ | i) (_ | j) h
    · rfl
    · exact absurd (congrArg Fin.val h) (by show ¬ 0 = j.val + 1; omega)
    · exact absurd (congrArg Fin.val h) (by show ¬ i.val + 1 = 0; omega)
    · have h' : i.val + 1 = j.val + 1 := congrArg Fin.val h
      exact congrArg Sum.inr (Fin.ext (by omega)), by simp [Fintype.card_sum]⟩
omit [FloatOps F] in
/-- and the hundred cells' counters are it and the kernel's own. -/
theorem sems0_eq (c : Dev nD) : (bigSep Finset.univ fun k : Fin 100 => (semVal (kcell (c, k)) 0 : sProp 𝕄))
    = iprop(unscopedSems0 c ∗ Pipeline.ownSems0 (Ix := Unit) (Name := ℕ) (U := UU) (Lvl := ℕ) (Val := Elt F) (τ := τ) osem c) := by
  rw [unscopedSems0_eq, bigSep_univ_equiv (Equiv.ofBijective splitNo splitNo_bijective), bigSep_sum, bigSep_unit]
  unfold Pipeline.ownSems0
  have h1 : kcell (c, splitNo (.inl ())) = barCell c := rfl
  have h2 : ∀ i : Fin 99, kcell (c, splitNo (.inr i)) = ((c : Thread nD τ), osem i) := fun i => by
    show ((c : Thread nD τ), csem (splitNo (.inr i))) = _
    unfold csem
    rw [if_neg (fun h => absurd (congrArg Fin.val h) (by show ¬ i.val + 1 = 0; omega))]
    rfl
  show iprop(semVal (kcell (c, splitNo (.inl ()))) 0 ∗ bigSep Finset.univ fun i : Fin 99 => semVal (kcell (c, splitNo (.inr i))) 0) = _
  simp only [h1, h2]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 100 => semVal (kcell (c, k)) 0) ∗ bigSep Finset.univ fun k : Fin 100 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 100 → ℕ) : sProp 𝕄 :=
  iprop((bigSep Finset.univ fun ck : Dev nD × Fin 100 => cellInv ER (ringRd m) (K ck) (kcell ck))
    ∗ bigSep Finset.univ fun ck : Dev nD × Fin 100 => reached ER (kcell ck) 0)
instance records_persistent (K : Dev nD × Fin 100 → ℕ) : BI.Persistent (records m K) := by unfold records; infer_instance

omit [FloatOps F] in
/-- A family over devices, kinds and peers, the devices and peers exchanged. -/
theorem around (Φ : Dev nD → Fin 3 → Dev nD → sProp 𝕄) :
    (bigSep Finset.univ fun c : Dev nD => bigSep Finset.univ fun k : Fin 3 => bigSep Finset.univ fun p : Dev nD => Φ c k p)
      = bigSep Finset.univ fun c : Dev nD => bigSep Finset.univ fun k : Fin 3 => bigSep Finset.univ fun p : Dev nD => Φ p k c := by
  rw [bigSep_univ_comm, bigSep_congr (s := Finset.univ) (fun (k : Fin 3) _ => bigSep_univ_comm (fun c p : Dev nD => Φ c k p)), bigSep_univ_comm]

omit [FloatOps F] in
/-- Each token goes to the device that pays with it. -/
theorem toks_around : (bigSep Finset.univ fun c : Dev nD => (toks c : sProp 𝕄)) ⊢ bigSep Finset.univ fun c : Dev nD => payToks (F := F) c := by
  unfold toks payToks
  simp only [bigSep_sep']
  rw [bigSep_univ_comm (fun (c : Dev nD) (q : Fin 16) => (dutyTok ER (barCell c) 0 q : sProp 𝕄)),
    around (fun c k p => (dutyTok ER (rCell c k p) 0 (0 : Fin 16) : sProp 𝕄))]

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 100 => iprop(∃ κ : ℕ, cellInv ER (ringRd m) κ (kcell ck))),
    bigSep_congr (s := Finset.univ) (fun (c : Dev nD) _ => bigSep_sep' Finset.univ (fun k : Fin 100 => (atPos ER (kcell (c, k)) 0 ∅ 0 : sProp 𝕄)) (fun k => reached ER (kcell (c, k)) 0)),
    bigSep_sep', ← bigSep_univ_prod (fun ck : Dev nD × Fin 100 => (reached ER (kcell ck) 0 : sProp 𝕄))]
  iintro ⟨HI, ⟨Hat, #HR⟩, Htok⟩
  ihave HK := (BI.bigSep_exists_pi Finset.univ (fun (ck : Dev nD × Fin 100) (κ : ℕ) => (cellInv ER (ringRd m) κ (kcell ck) : sProp 𝕄))) $$ HI
  icases HK with ⟨%K, #HI⟩
  ihave Htk := (toks_around (F := F)) $$ Htok
  iapply (bigSep_with_persistent (R := records m K) (Φ := fun c => linear (F := F) c) fun c _ => by
    unfold G'
    iintro ⟨#HR, HL⟩
    iexists K
    isplitr; · unfold records; iexact HR
    iexact HL)
  isplitr
  · unfold records; isplitl; · iexact HI
    iexact HR
  · iapply (Entails.of_eq (bigSep_sep' Finset.univ (fun c : Dev nD => bigSep Finset.univ fun k : Fin 100 => (atPos ER (kcell (c, k)) 0 ∅ 0 : sProp 𝕄)) (fun c => payToks (F := F) c)).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

section Credit
omit [FloatOps F]

theorem dCell_inj {a b : Dev nD} {k k' : Cell} : Iff (dCell a k = dCell b k') (a = b ∧ k = k') :=
  ⟨fun h => ⟨Fin.ext (congrArg (fun g : GSem nD τ sig => g.1.1.val) h), by
      have h1 : SemLoc.dma (dmaS k) = (SemLoc.dma (dmaS k') : SemLoc sig) := congrArg Prod.snd h
      have h2 : cellNo k = cellNo k' := SemLoc.dma.inj h1
      rw [← cellAt_cellNo k, h2, cellAt_cellNo]⟩, fun h => by rw [h.1, h.2]⟩
theorem barCell_inj {a b : Dev nD} : Iff (barCell a = barCell b) (a = b) :=
  ⟨fun h => Fin.ext (congrArg (fun g : GSem nD τ sig => g.1.1.val) h), fun h => h ▸ rfl⟩
theorem bar_ne_dma (a b : Dev nD) (k : Cell) : barCell a ≠ dCell b k := fun h => by
  have := congrArg Prod.snd h; cases this

/-- What device `d` owes cells of kind `k`. -/
def oK (k : Fin 3) (d p : Dev nD) : CellTallies nD τ sig Unit := if p = d then 0 else tallyAt (rCell p k d) () (NK k)
theorem oK_0 : oK 0 = oD := rfl
theorem oK_1 : oK 1 = oS := rfl
theorem oK_2 : oK 2 = oA := rfl

theorem tailSum_zero (f : Dev nD → CellTallies nD τ sig Unit) (g : GSem nD τ sig) : tailSum f 0 g () = ∑ p, f p g () := by
  unfold tailSum
  rw [Finset.filter_true_of_mem fun p _ => Nat.zero_le _, Finset.sum_apply, Finsupp.finset_sum_apply]
theorem owed_zero (d : Dev nD) (g : GSem nD τ sig) :
    O₀ d g () = (∑ p, oK 2 d p g ()) + (∑ p, oK 1 d p g ()) + (∑ p, oK 0 d p g ()) + ∑ p, oB d p g () := by
  rw [← tailSum_zero, ← tailSum_zero, ← tailSum_zero, ← tailSum_zero]
  rfl

theorem oK_bar (k : Fin 3) (d p c : Dev nD) : oK k d p (barCell c) () = 0 := by
  unfold oK; split
  · rfl
  · rw [tallyAt_apply, if_neg fun h => bar_ne_dma _ _ _ h.1]
theorem oB_bar (d p c : Dev nD) : oB d p (barCell c) () = if p = c then (if d = c then 0 else 1) else 0 := by
  unfold oB
  by_cases h : p = c
  · subst h
    rw [if_pos rfl]
    by_cases h2 : p = d
    · rw [if_pos h2, if_pos h2.symm]; rfl
    · rw [if_neg h2, if_neg (Ne.symm h2), tallyAt_apply, if_pos ⟨rfl, rfl⟩]
  · rw [if_neg h]
    split
    · rfl
    · rw [tallyAt_apply, if_neg fun h' => h (barCell_inj.mp h'.1).symm]
theorem oB_dma (d p c : Dev nD) (k : Cell) : oB d p (dCell c k) () = 0 := by
  unfold oB; split
  · rfl
  · rw [tallyAt_apply, if_neg fun h => bar_ne_dma _ _ _ h.1.symm]
theorem oK_dma (k k' : Fin 3) (d p c q : Dev nD) :
    oK k d p (rCell c k' q) () = if p = c then (if k = k' ∧ d = q ∧ q ≠ c then NK k' else 0) else 0 := by
  unfold oK
  by_cases h : p = c
  · subst h
    rw [if_pos rfl]
    by_cases h2 : p = d
    · subst h2
      rw [if_pos rfl, if_neg fun h' => h'.2.2 h'.2.1.symm]; rfl
    · rw [if_neg h2, tallyAt_apply]
      by_cases h3 : k = k' ∧ d = q
      · obtain ⟨rfl, rfl⟩ := h3
        rw [if_pos ⟨rfl, rfl⟩, if_pos ⟨rfl, rfl, Ne.symm h2⟩]
      · rw [if_neg fun h' => h3 ⟨by
            have := (dCell_inj.mp h'.1).2
            simp only [Cell.peer.injEq, Fin.mk.injEq] at this
            exact Fin.ext (by omega), by
            have := (dCell_inj.mp h'.1).2
            simp only [Cell.peer.injEq, Fin.mk.injEq] at this
            exact this.2.symm⟩, if_neg fun h' => h3 ⟨h'.1, h'.2.1⟩]
  · rw [if_neg h]
    split
    · rfl
    · rw [tallyAt_apply, if_neg fun h' => h (dCell_inj.mp h'.1).1.symm]

theorem owed_bar (d c : Dev nD) : O₀ d (barCell c) () = if d = c then 0 else 1 := by
  rw [owed_zero]
  simp only [oK_bar, oB_bar, Finset.sum_const_zero, Nat.zero_add, Finset.sum_ite_eq', Finset.mem_univ, if_true]
theorem owed_dma (d c q : Dev nD) (k : Fin 3) : O₀ d (rCell c k q) () = if d = q then (if q = c then 0 else NK k) else 0 := by
  rw [owed_zero]
  simp only [oK_dma, oB_dma, Finset.sum_const_zero, Nat.add_zero, Finset.sum_ite_eq', Finset.mem_univ, if_true]
  by_cases h : d = q
  · by_cases h2 : q = c
    · rw [if_neg fun h' => h'.2.2 h2, if_neg fun h' => h'.2.2 h2, if_neg fun h' => h'.2.2 h2, if_pos h, if_pos h2]
    · rw [if_pos h, if_neg h2]
      fin_cases k <;> simp [h, h2]
  · rw [if_neg fun h' => h h'.2.1, if_neg fun h' => h h'.2.1, if_neg fun h' => h h'.2.1, if_neg h]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c q : Dev nD) (k : Fin 3) (h : q ≠ c) :
    tallyOn (rCell c k q) (launchCredit (Pipeline.owing O₀) 0 (rCell c k q)) = (tallyAt (rCell c k q) () (NK k) : CellTallies nD τ sig Unit) := by
  unfold tallyAt; refine congrArg _ (Finsupp.ext fun u => ?_); cases u
  rw [Pipeline.launchCredit_owing, Finsupp.single_eq_same, Finset.sum_congr rfl fun d _ => owed_dma d c q k, Finset.sum_ite_eq' Finset.univ q fun _ => _,
    if_pos (Finset.mem_univ _), if_neg h]

/-- The semaphores a device holds launch credit on: its barrier, its receive cells. -/
def credSem : Unit ⊕ (Fin 3 × Fin 16) → SemLoc sig
  | .inl _ => .reg barS
  | .inr kp => .dma (dmaS (.peer (kR kp.1) kp.2))
theorem credSem_injective : Function.Injective credSem := by
  rintro (_ | ⟨k, p⟩) (_ | ⟨k', p'⟩) h
  · rfl
  · cases h
  · cases h
  · have h2 : cellNo (.peer (kR k) p) = cellNo (.peer (kR k') p') := SemLoc.dma.inj h
    have h3 : Cell.peer (kR k) p = .peer (kR k') p' := by rw [← cellAt_cellNo (.peer (kR k) p), h2, cellAt_cellNo]
    simp only [Cell.peer.injEq, Fin.mk.injEq] at h3
    rw [show k = k' from Fin.ext (by omega), h3.2]

theorem creds_intro (c : Dev nD) : (Pipeline.launchCred O₀ c : sProp 𝕄) ⊢ creds (F := F) c := by
  have hsplit (Φ : SemLoc sig → sProp 𝕄) : bigSep Finset.univ Φ = iprop(bigSep (Finset.univ.map ⟨credSem, credSem_injective⟩) Φ
      ∗ bigSep (Finset.univ \ Finset.univ.map ⟨credSem, credSem_injective⟩) Φ) := bigSep_sdiff_split (Finset.subset_univ _)
  unfold Pipeline.launchCred creds
  rw [hsplit, bigSep_map, bigSep_sum, bigSep_unit, bigSep_univ_prod]
  have h : (bigSep Finset.univ fun k : Fin 3 => bigSep Finset.univ fun p : Fin 16 =>
      (cred (tallyOn (rCell c k p) (launchCredit (Pipeline.owing O₀) 0 (rCell c k p))) : sProp 𝕄))
      ⊢ bigSep Finset.univ fun k : Fin 3 => bigSep Finset.univ fun p : Dev nD => credP (F := F) c k p :=
    bigSep_mono fun k _ => bigSep_mono fun p _ => by
      unfold credP
      by_cases hp : p = c
      · rw [if_pos hp]
        show (_ : sProp 𝕄) ⊢ _
        iintro -; iempintro
      · rw [if_neg hp, launch_recv c p k hp]
        exact BI.Entails.refl _
  iintro ⟨⟨HB, HR⟩, -⟩
  isplitl [HB]
  · iapply (Entails.of_eq (congrArg (fun t => (cred t : sProp 𝕄)) (launch_bar c))); iexact HB
  iapply h; iexact HR

end Credit

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start args Rec
  iintro ⟨Hargs, Hlev, Hcr, -, ⟨%K, ⟨HI, HR⟩, HL⟩⟩
  ihave Hc := (creds_intro (F := F) c) $$ Hcr
  imodintro
  isplitl
  · isplitl [HI HR HL Hlev]
    · iexists K
      isplitr [HL]
      · isplitl [Hlev]; · iexact Hlev
        isplitl [HI] <;> iassumption
      iexact HL
    isplitl [Hc]; · iexact Hc
    iexact Hargs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl, scopedRest0_eq]
  unfold Φ₁ bufs
  rw [sems0_eq]
  iintro ⟨⟨HB, HZ⟩, HA, Hr⟩
  isplitl [HB HA]
  · isplitl [HB] <;> iassumption
  isplitl [HZ]; · iexact HZ
  iexact Hr

omit [FloatOps F] in
theorem mayWait_stage (c : Dev nD) (i : Fin 100) (hi : cellLv (cellAt i) = 0) (O : CellTallies nD τ sig Unit) (hO : O = O₀ c ∨ O = 0) :
    (levAts L lv : sProp 𝕄) ⊢ MayWait (c : Thread nD τ) (.dma (i : Fin 100)) () O := by
  rcases hO with rfl | rfl
  · exact mayWait_low c i hi 0 0 0 0
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A device's result after the run. -/
def finalA (c : Dev nD) (w : Fin cfg0.W) : Buf (Elt F) ((cfg0.win w).arr.view.loc (c : Thread nD τ)) := (dats m ρ 0 c).arrAt w cfg0.N

/-- What is read off the end: the unscoped counters at zero, the arguments as launched. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = X m c ∧ s.mem ((c : Thread nD τ).loc main_arg1) = W m c

theorem read_end (c : Dev nD) (s' : Phys nD τ sig (Elt F)) :
    iprop((unscopedSems0 c ∗ args m c) ∗ emp ∗ SI s') ⊢ |={Set.univ}=> (iprop(⌜QY m c s'.mem⌝ ∗ SI s') : sProp 𝕄) := by
  unfold args
  iintro ⟨⟨Hu, H0, H1⟩, -, HSI⟩
  icombine HSI H0 gives %h0
  icombine HSI H1 gives %h1
  imod (Pipeline.unscopedSems0_read (X := unscopedSems0 c) (c := c) fupd_intro s') $$ [Hu HSI] with ⟨%h2, HSI⟩
  · isplitl [Hu] <;> iassumption
  imodintro
  isplitr
  · ipureintro; exact ⟨h2, Buf.eq_of_forall_mem_univ h0, Buf.eq_of_forall_mem_univ h1⟩
  iexact HSI

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = X m c ∧ r.2.mem ((c : Thread nD τ).loc main_arg1) = W m c

/-- On sixteen devices, from any memory with zero counters, every weakly fair execution terminates without fault, and
    every final state has each device's result at `outAt`, its arguments unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := QY m)
    (hY := read_end m)
    (hQ := fun _ h hs => ⟨fun c => ⟨fun w => (h c).1 w, (h c).2.2.2⟩, sem_eq_zero hs fun c => (h c).2.2.1⟩)

/-- The one block the pipeline writes back is the result. -/
theorem finalA_out (c : Dev nD) : finalA m ρ c (0 : Fin 1) = outAt m c := by
  unfold finalA
  exact (dats m ρ 0 c).arrAt_eq_of_after_last 0 t0_0 (by decide +kernel) (outAt m c) fun _ => rfl

end Cert.KernelIdealProof

end
-- ==== Proof.Frames.lean ====
/-
The frames: the kernel's two readings and the reference run to the end without a fault, leave their arguments as they
were, and leave every counter at zero.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.SL.Sem

/-! ## The two readings are one program

No operation was replaced, so the program read over the extended reals is the kernel's own text. -/

theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))
theorem defs_eq : Cert.Kernel.defs (F := Bits) = Cert.KernelIdeal.defs (F := Bits) :=
  congrArg (Pipeline.defs Cert.KernelIdeal.pcfgs) defs₀_eq

/-! ## The frames -/

/-- The kernel in machine words. -/
theorem frame_kernel : Cert.quiescent_Kernel (hKernel := Cert.Kernel.Gen.facts) := fun m ρ _ => by
  rw [defs_eq]
  exact (θ_run Cert.KernelIdeal.defs _ _).mono (fun _ h => ⟨fun c => (h.1 c).2, h.2⟩) (Cert.KernelIdealProof.run_main (F := Bits) m ρ)

/-- The kernel over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdealProof.run_main (F := Ideal) m ρ)

/-- The reference over the extended reals. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Arith.lean ====
/-
Arithmetic over the extended reals that the value claim rests on.

The kernel multiplies by reciprocals of steps where the mathematics divides by the steps; the two agree, at an infinite
step and (once the result is scaled back) at a zero step too. A clipped rounded number goes through a 16-bit word
unchanged.
-/
module

public import Idealize.ShloMosaic.PureOps.Ideal
public import Idealize.ShloMosaic.PureOps.Ideal.Laws

@[expose] public section

noncomputable section

namespace Cert.Arith

open Idealize.ShloMosaic

/-! ## The constants -/

theorem ofBits_127 : Ideal.ofBits .f32 0x42FE0000#32 = ((127 : ℝ) : EReal) := by
  simp [Ideal.ofBits, Ideal.ieee, -EReal.coe_mul]; norm_num
theorem ofBits_neg_127 : Ideal.ofBits .f32 0xC2FE0000#32 = ((-127 : ℝ) : EReal) := by
  simp [Ideal.ofBits, Ideal.ieee, -EReal.coe_mul, -EReal.coe_neg]; norm_num
theorem ofBits_32767 : Ideal.ofBits .f32 0x46FFFE00#32 = ((32767 : ℝ) : EReal) := by
  simp [Ideal.ofBits, Ideal.ieee, -EReal.coe_mul]; norm_num
theorem ofBits_neg_32767 : Ideal.ofBits .f32 0xC6FFFE00#32 = ((-32767 : ℝ) : EReal) := by
  simp [Ideal.ofBits, Ideal.ieee, -EReal.coe_mul, -EReal.coe_neg]; norm_num
theorem ofBits_neg_inf : Ideal.ofBits .f32 0xFF800000#32 = ⊥ := by
  simp [Ideal.ofBits, Ideal.ieee]
/-- The floor under a block's largest absolute value is positive. -/
theorem ofBits_floor_pos : 0 < Ideal.ofBits .f32 0x0DA24260#32 := by
  have h : Ideal.ofBits .f32 0x0DA24260#32 = ((10633824 * (2 : ℝ) ^ (-123 : ℤ) : ℝ) : EReal) := by
    simp [Ideal.ofBits, Ideal.ieee, -EReal.coe_mul]
  rw [h]
  exact_mod_cast (by positivity : (0 : ℝ) < 10633824 * (2 : ℝ) ^ (-123 : ℤ))

/-! ## Reciprocals of steps -/

/-- Multiplying by `K / M` is dividing by the step `M / K`. -/
theorem mul_div_eq_div_div (y M : EReal) {K : ℝ} (hK : 0 < K) (hM : 0 < M) :
    y * Ideal.div (K : EReal) M = Ideal.div y (Ideal.div M (K : EReal)) := by
  rw [Ideal.div_coe hK.ne']
  induction M with
  | bot => exact absurd hM (by simp)
  | top =>
    have h : (⊤ : EReal) * ((1 / K : ℝ) : EReal) = ⊤ := EReal.top_mul_coe_of_pos (by positivity)
    rw [h, Ideal.div, Ideal.div, if_neg (by simp), if_neg (by simp), EReal.inv_top, mul_zero]
  | coe r =>
    have hr : 0 < r := by exact_mod_cast hM
    rw [Ideal.div_coe hr.ne', ← EReal.coe_mul, ← EReal.coe_mul, Ideal.div_coe (by positivity)]
    congr 2
    field_simp

/-- A value rounded to whole steps and clipped to ±`K`. -/
def clip (K : ℝ) (x : EReal) : EReal :=
  min (K : EReal) (max ((-K : ℝ) : EReal) (Ideal.liftRound Ideal.roundHalfEven x))

/-- A clipped value is an integer of absolute value at most `K`. -/
theorem clip_eq_int (n : ℕ) (x : EReal) : ∃ k : ℤ, -(n : ℤ) ≤ k ∧ k ≤ n ∧ clip (n : ℝ) x = ((k : ℝ) : EReal) := by
  unfold clip
  induction x with
  | bot =>
    refine ⟨-n, le_refl _, by omega, ?_⟩
    rw [Ideal.liftRound_bot, max_eq_left bot_le, min_eq_right (by exact_mod_cast (by have : (0 : ℝ) ≤ n := by positivity
                                                                                     linarith : -(n : ℝ) ≤ n))]
    push_cast; rfl
  | top =>
    refine ⟨n, by omega, le_refl _, ?_⟩
    rw [Ideal.liftRound_top, max_eq_right le_top, min_eq_left le_top]
    push_cast; rfl
  | coe r =>
    refine ⟨min n (max (-n) (Ideal.roundHalfEven r)), by omega, by omega, ?_⟩
    rw [Ideal.liftRound_coe]
    rw [Int.cast_min, Int.cast_max, Int.cast_neg, Int.cast_natCast, EReal.coe_strictMono.monotone.map_min, EReal.coe_strictMono.monotone.map_max]

/-- A clipped value goes through a 16-bit word unchanged. -/
theorem word16 (x : EReal) : (((Ideal.fptosi 16 (clip 32767 x)).toInt : ℝ) : EReal) = clip 32767 x := by
  obtain ⟨k, h1, h2, h3⟩ := clip_eq_int 32767 x
  push_cast at h1 h2 h3
  have h4 : (if (0 : ℝ) ≤ (k : ℝ) then ⌊(k : ℝ)⌋ else ⌈(k : ℝ)⌉) = k := by split <;> simp
  rw [h3, Ideal.fptosi, Ideal.toIntClamped_coe, h4, max_eq_right (by norm_num; omega), min_eq_right (by norm_num; omega),
    BitVec.toInt_ofInt, Int.bmod_eq_of_le (by norm_num; omega) (by norm_num; omega)]

/-- An 8-bit quantiser with the step `g / 127`, the value scaled back: by the reciprocal of the step or by division. -/
theorem requant_eq (b g : EReal) (hg : 0 ≤ g) :
    clip 127 (b * Ideal.div ((127 : ℝ) : EReal) g) * Ideal.div g ((127 : ℝ) : EReal)
      = clip 127 (Ideal.div b (Ideal.div g ((127 : ℝ) : EReal))) * Ideal.div g ((127 : ℝ) : EReal) := by
  rcases hg.lt_or_eq with h | h
  · rw [mul_div_eq_div_div b g (by norm_num) h]
  · rw [← h, Ideal.div_coe (by norm_num), zero_mul, mul_zero, mul_zero]

/-- An absolute value is not negative. -/
theorem abs_nonneg' (y : EReal) : 0 ≤ max y (-y) := by
  rcases le_total 0 y with h | h
  · exact le_max_of_le_left h
  · exact le_max_of_le_right (by rw [EReal.neg_nonneg]; exact h)

/-- What a maximum over a set, from −∞, is at most. -/
theorem fold_max_le {ι : Type} [DecidableEq ι] (s : Finset ι) (f : ι → EReal) (b : EReal) :
    Finset.fold (FloatOps.maximumf (F := Ideal) (φ := .f32)) (⊥ : EReal) f s ≤ b ↔ ∀ i ∈ s, f i ≤ b := by
  induction s using Finset.induction_on with
  | empty => simp
  | insert a s ha ih =>
    rw [Finset.fold_insert ha, Finset.forall_mem_insert, ← ih]
    exact max_le_iff

end Cert.Arith

end
-- ==== Proof.Product.lean ====
/-
The product, and the largest absolute values the kernel takes of it, over the extended reals.

`prod A B r s` is row `r`, column `s` of `A · B`. Block `p` of device `d`'s rows is rows `256 d …`, columns `128 p …`
of it. A largest absolute value is described by its upper bounds, so that two of them are compared by comparing what
they are taken over.
-/
module

public import proofs.«01_k».proof.Proof.Vals
public import proofs.«01_k».proof.Proof.Arith
public import Idealize.ShloMosaic.Lib.Pointwise
public import Idealize.ShloMosaic.Lib.Layout
public import Idealize.ShloMosaic.PureOps.Reduce

@[expose] public section

set_option maxRecDepth 16384

noncomputable section

namespace Cert.Value

open Cert.KernelIdeal Cert.KernelIdeal.Gen Cert.KernelIdealProof Cert.Arith
open Idealize.ShloMosaic Idealize.ShloMosaic.TcCoe

/-- Row `256 q + i`. -/
def row (q : Fin 16) (i : Fin 256) : Fin 4096 := ⟨256 * q.val + i.val, by omega⟩
/-- Column `128 p + j`. -/
def col (p : Fin 16) (j : Fin 128) : Fin 2048 := ⟨128 * p.val + j.val, by omega⟩

/-- The block a row is in, and its place there. -/
def rowBlock (r : Fin 4096) : Fin 16 := ⟨r.val / 256, by omega⟩
def rowIn (r : Fin 4096) : Fin 256 := ⟨r.val % 256, by omega⟩
/-- The block a column is in, and its place there. -/
def colBlock (s : Fin 2048) : Fin 16 := ⟨s.val / 128, by omega⟩
def colIn (s : Fin 2048) : Fin 128 := ⟨s.val % 128, by omega⟩
theorem row_rowBlock (r : Fin 4096) : row (rowBlock r) (rowIn r) = r := Fin.ext (Nat.div_add_mod _ _)
theorem col_colBlock (s : Fin 2048) : col (colBlock s) (colIn s) = s := Fin.ext (Nat.div_add_mod _ _)

/-- Row `r`, column `s` of the product. -/
def prod (A : FVec Ideal ⟨2, ![4096, 4096]⟩ .f32) (B : FVec Ideal ⟨2, ![4096, 2048]⟩ .f32) (r : Fin 4096) (s : Fin 2048) :
    EReal := ∑ k : Fin 4096, A (ix2 r k) * B (ix2 k s)

variable (m : (ℓ : Loc nD τ sig) → Buf (Elt Ideal) ℓ)
variable (A : FVec Ideal ⟨2, ![4096, 4096]⟩ .f32) (B : FVec Ideal ⟨2, ![4096, 2048]⟩ .f32)

/-- The launch memory holds `A` cut by rows and `B` on every device. -/
def Holds : Prop := (∀ (d : Fin 16) (i : Fin 256) (k : Fin 4096), X m d (ix2 i k) = A (ix2 (row d i) k)) ∧ ∀ d, W m d = B

theorem ychunk_apply (d : Dev nD) (j : ℕ) (i c : Fin 256) :
    ychunk m d j (ix2 i c) = ∑ k : Fin 4096, X m d (ix2 i k) * wchunk m d j (ix3 (0 : Fin 1) k c) := by
  unfold ychunk
  pointwise [k0_pay17]

/-- Block `p` of device `d`'s rows. -/
theorem yblock_apply (h : Holds m A B) (d : Dev nD) (p : Fin 16) (i : Fin 256) (j : Fin 128) :
    yblock m d p.val (ix2 i j) = prod A B (row d i) (col p j) := by
  have hc : ∀ c : Fin 256, 256 * (p.val / 2) + c.val = (col p j).val →
      ychunk m d (p.val / 2) (ix2 i c) = prod A B (row d i) (col p j) := fun c hc => by
    rw [ychunk_apply]
    refine Finset.sum_congr rfl fun k _ => ?_
    rw [h.1]
    refine congrArg (A (ix2 (row d i) k) * ·) ?_
    unfold wchunk
    rw [h.2]
    refine congrArg B (funext fun a => ?_)
    match a with
    | ⟨0, _⟩ => exact Fin.ext (Nat.mod_eq_of_lt k.isLt)
    | ⟨1, _⟩ => exact Fin.ext ((Nat.mod_eq_of_lt (hc.trans_lt (col p j).isLt)).trans hc)
  unfold yblock half
  split
  · rename_i hp
    have e : (extractStridedSlice S256x128 ![0, 0] (ychunk m d (p.val / 2)) slices_S256x256_o0_0_S256x128) (ix2 i j)
        = ychunk m d (p.val / 2) (ix2 i ⟨j.val, by omega⟩) := by
      refine congrArg (ychunk m d (p.val / 2)) (funext fun a => ?_)
      match a with
      | ⟨0, _⟩ => exact Fin.ext (Nat.zero_add _)
      | ⟨1, _⟩ => exact Fin.ext (Nat.zero_add _)
    rw [e]
    exact hc _ (by simp only [col]; omega)
  · rename_i hp
    have e : (extractStridedSlice S256x128 ![0, 128] (ychunk m d (p.val / 2)) slices_S256x256_o0_128_S256x128) (ix2 i j)
        = ychunk m d (p.val / 2) (ix2 i ⟨128 + j.val, by omega⟩) := by
      refine congrArg (ychunk m d (p.val / 2)) (funext fun a => ?_)
      match a with
      | ⟨0, _⟩ => exact Fin.ext (Nat.zero_add _)
      | ⟨1, _⟩ => rfl
    rw [e]
    exact hc _ (by simp only [col]; omega)

/-! ## Largest absolute values -/

/-- A bound on a largest absolute value bounds every entry. -/
theorem absmax_le (b : FVec Ideal S256x128 .f32) (t : EReal) : Iff (absmax b ≤ t) (∀ i, max (b i) (-(b i)) ≤ t) := by
  have e : absmax b = _ := multiReduction_maximumf_eq_fold (F := Ideal) (φ := .f32)
    (shapeCast S1x256x128 (absf b) shapeCasts_S256x128_S1x256x128) 0xFF800000#32 reduces_S1x256x128_S1 (.inl rfl) rfl
    (Shape.reshapeEquiv shapeCasts_S1_S1x1x1 fun a => ⟨(![0, 0, 0] : Fin 3 → ℕ) a, inpos_S1x1x1_p0_0_0 a⟩)
  rw [e, show (FloatOps.ofBits .f32 0xFF800000#32 : Ideal .f32) = (⊥ : EReal) from ofBits_neg_inf]
  refine (fold_max_le _ _ t).trans ⟨fun h i => ?_, fun h i _ => h _⟩
  have hi := h ((Shape.reshapeEquiv shapeCasts_S256x128_S1x256x128).symm i) (by
    refine Finset.mem_filter.2 ⟨Finset.mem_univ _, funext fun a => ?_⟩
    match a with
    | ⟨0, _⟩ => exact Subsingleton.elim (α := Fin 1) _ _)
  have ei := Equiv.apply_symm_apply (Shape.reshapeEquiv shapeCasts_S256x128_S1x256x128) i
  change max (b (Shape.reshapeEquiv shapeCasts_S256x128_S1x256x128 _)) (-(b (Shape.reshapeEquiv shapeCasts_S256x128_S1x256x128 _))) ≤ t at hi
  rwa [ei] at hi

theorem bmax_le (h : Holds m A B) (d : Dev nD) (p : Fin 16) (t : EReal) :
    Iff (bmax m d p.val ≤ t) (∀ i j, max (prod A B (row d i) (col p j)) (-(prod A B (row d i) (col p j))) ≤ t) := by
  refine (absmax_le _ t).trans ⟨fun g i j => ?_, fun g i => ?_⟩
  · have := g (ix2 i j)
    rwa [yblock_apply m A B h] at this
  · rw [eq_ix2 i, yblock_apply m A B h d p (i 0) (i 1)]
    exact g _ _

theorem runmax_le (d : Dev nD) (n : ℕ) (t : EReal) : Iff (runmax m d n ≤ t) (0 ≤ t ∧ ∀ p < n, bmax m d p ≤ t) := by
  induction n with
  | zero =>
    have e : runmax m d 0 = (0 : EReal) := show Ideal.ofBits .f32 0x00000000#32 = 0 by simp [Ideal.ofBits, Ideal.ieee]
    rw [e]
    exact ⟨fun h => ⟨h, fun p hp => absurd hp (Nat.not_lt_zero _)⟩, fun h => h.1⟩
  | succ n ih =>
    have e : runmax m d (n + 1) = max (runmax m d n : EReal) (bmax m d n) := rfl
    rw [e]
    refine (max_le_iff (α := EReal)).trans ⟨fun h => ⟨(ih.1 h.1).1, fun p hp => ?_⟩, fun h =>
      ⟨ih.2 ⟨h.1, fun p hp => h.2 p (by omega)⟩, h.2 n (by omega)⟩⟩
    rcases Nat.lt_succ_iff_lt_or_eq.1 hp with hp | rfl
    · exact (ih.1 h.1).2 p hp
    · exact h.2

theorem gmax_le_stripes (d : Dev nD) (t : EReal) : Iff (gmax m d ≤ t) (∀ q : Fin 16, stripeMax m q ≤ t) := by
  have e : gmax m d = _ := multiReduction_maximumf_eq_fold (F := Ideal) (φ := .f32)
    (shapeCast S1x16x8x128 (arecvAt m d) shapeCasts_S16x8x128_S1x16x8x128) 0xFF800000#32 reduces_S1x16x8x128_S1
    (.inl rfl) rfl
    (Shape.reshapeEquiv shapeCasts_S1_S1x1x1x1 fun a => ⟨(![0, 0, 0, 0] : Fin 4 → ℕ) a, inpos_S1x1x1x1_p0_0_0_0 a⟩)
  rw [e, show (FloatOps.ofBits .f32 0xFF800000#32 : Ideal .f32) = (⊥ : EReal) from ofBits_neg_inf]
  refine (fold_max_le _ _ t).trans ⟨fun h q => ?_, fun h i _ => h _⟩
  have hi := h ((Shape.reshapeEquiv shapeCasts_S16x8x128_S1x16x8x128).symm (ix3 q (0 : Fin 8) (0 : Fin 128))) (by
    refine Finset.mem_filter.2 ⟨Finset.mem_univ _, funext fun a => ?_⟩
    match a with
    | ⟨0, _⟩ => exact Subsingleton.elim (α := Fin 1) _ _)
  have ei := Equiv.apply_symm_apply (Shape.reshapeEquiv shapeCasts_S16x8x128_S1x16x8x128) (ix3 q (0 : Fin 8) (0 : Fin 128))
  change arecvAt m d (Shape.reshapeEquiv shapeCasts_S16x8x128_S1x16x8x128 _) ≤ t at hi
  rw [ei] at hi
  have e : devOf ((ix3 q (0 : Fin 8) (0 : Fin 128) : S16x8x128.Idx) 0).val = q := Fin.ext (Nat.mod_eq_of_lt q.isLt)
  unfold arecvAt at hi
  rwa [e] at hi

/-- What every device takes for the largest absolute value of the product. -/
theorem gmax_le (h : Holds m A B) (d : Dev nD) (t : EReal) :
    Iff (gmax m d ≤ t) (∀ r s, max (prod A B r s) (-(prod A B r s)) ≤ t) := by
  refine (gmax_le_stripes m d t).trans ⟨fun g r s => ?_, fun g q => ?_⟩
  · have hq := ((runmax_le m (rowBlock r) 16 t).1 (g (rowBlock r))).2 (colBlock s).val (colBlock s).isLt
    have := (bmax_le m A B h (rowBlock r) (colBlock s) t).1 hq (rowIn r) (colIn s)
    rwa [row_rowBlock, col_colBlock] at this
  · exact (runmax_le m q 16 t).2 ⟨(abs_nonneg' _).trans (g 0 0), fun p hp =>
      (bmax_le m A B h q ⟨p, hp⟩ t).2 fun i j => g _ _⟩

theorem gmax_nonneg (h : Holds m A B) (d : Dev nD) : (0 : EReal) ≤ gmax m d :=
  (abs_nonneg' _).trans ((gmax_le m A B h d _).1 le_rfl 0 0)

end Cert.Value

end
-- ==== Proof.RefValue.lean ====
/-
What the reference computes, at one index, over the extended reals.

Its two kinds of largest absolute value — of a block of 256 rows and 128 columns, and of the whole product — are
described by their upper bounds; the rest is elementwise.
-/
module

public import proofs.«01_k».proof.Proof.Product
public import proofs.«01_k».proof.Proof.Gen.ReferenceIdeal.Run

@[expose] public section

set_option maxRecDepth 16384

noncomputable section

namespace Cert.Value

open Cert.ReferenceIdeal Cert.ReferenceIdeal.Gen Cert.Arith
open Idealize.ShloMosaic Idealize.ShloMosaic.TcCoe Idealize.SL.Sem

/-- The reference's product. -/
def refProd (A : FVec Ideal S4096x4096 .f32) (B : FVec Ideal S4096x2048 .f32) : FVec Ideal S4096x2048 .f32 :=
  Host.dotGeneral dot_S4096x4096_S4096x2048_S4096x2048_1_0_0_1_n_n none A B

theorem refProd_apply (A : FVec Ideal S4096x4096 .f32) (B : FVec Ideal S4096x2048 .f32) (r : Fin 4096) (s : Fin 2048) :
    refProd A B (ix2 r s) = prod A B r s := by
  unfold refProd prod
  pointwise []

/-- The product as sixteen by sixteen blocks. -/
def refBlocks (y : FVec Ideal S4096x2048 .f32) : FVec Ideal S16x256x16x128 .f32 :=
  shapeCast _ y shapeCasts_S4096x2048_S16x256x16x128

theorem refBlocks_apply (y : FVec Ideal S4096x2048 .f32) (q : Fin 16) (i : Fin 256) (p : Fin 16) (j : Fin 128) :
    refBlocks y (ix4 q i p j) = y (ix2 (row q i) (col p j)) := by
  unfold refBlocks row col
  pointwise []
  simp only [Nat.mul_comm]

/-- The blocks' largest absolute values. -/
def refMax (y : FVec Ideal S4096x2048 .f32) : FVec Ideal S16x16 .f32 :=
  Host.reduce FloatOps.maximumf (Host.absf (refBlocks y)) (constant S_ .f32 0xFF800000#32)
    reducesTo_S16x256x16x128_S16x16_d1_3 h_S_

/-- The largest absolute value of the whole. -/
def refGlobal (y : FVec Ideal S4096x2048 .f32) : FVec Ideal S_ .f32 :=
  Host.reduce FloatOps.maximumf (Host.absf y) (constant S_ .f32 0xFF800000#32) reducesTo_S4096x2048_S_d0_1 h_S_

theorem refGlobal_le (y : FVec Ideal S4096x2048 .f32) (t : EReal) (k : S_.Idx) :
    Iff (refGlobal y k ≤ t) (∀ r s, max (y (ix2 r s)) (-(y (ix2 r s))) ≤ t) := by
  have e : refGlobal y k = _ := Host.reduce_eq_fold (FloatOps.maximumf (F := Ideal) (φ := .f32)) (Host.absf y)
    (constant S_ .f32 0xFF800000#32) reducesTo_S4096x2048_S_d0_1 h_S_ k
  rw [e, show constant (F := Ideal) S_ .f32 0xFF800000#32 (Shape.Idx.first h_S_) = (⊥ : EReal) from ofBits_neg_inf]
  refine (fold_max_le _ _ t).trans ⟨fun h r s => h (ix2 r s) (Finset.mem_filter.2 ⟨Finset.mem_univ _, ?_⟩), fun h i _ => ?_⟩
  · exact funext fun a => a.elim0
  · rw [eq_ix2 i]
    exact h (i 0) (i 1)

theorem refMax_le (y : FVec Ideal S4096x2048 .f32) (t : EReal) (q p : Fin 16) :
    Iff (refMax y (ix2 q p) ≤ t)
      (∀ i j, max (y (ix2 (row q i) (col p j))) (-(y (ix2 (row q i) (col p j)))) ≤ t) := by
  have e : refMax y (ix2 q p) = _ := Host.reduce_eq_fold (FloatOps.maximumf (F := Ideal) (φ := .f32)) (Host.absf (refBlocks y))
    (constant S_ .f32 0xFF800000#32) reducesTo_S16x256x16x128_S16x16_d1_3 h_S_ (ix2 q p)
  have h0 : ∀ i, (reducesTo_S16x256x16x128_S16x16_d1_3.drop i 0).val = (i 0).val := fun i =>
    Shape.ReducesTo.drop_apply_val_of_eq _ i 0 0 (by decide)
  have h1 : ∀ i, (reducesTo_S16x256x16x128_S16x16_d1_3.drop i 1).val = (i 2).val := fun i =>
    Shape.ReducesTo.drop_apply_val_of_eq _ i 1 2 (by decide)
  rw [e, show constant (F := Ideal) S_ .f32 0xFF800000#32 (Shape.Idx.first h_S_) = (⊥ : EReal) from ofBits_neg_inf]
  refine (fold_max_le _ _ t).trans ⟨fun h i j => ?_, fun h k hk => ?_⟩
  · have := h (ix4 q i p j) (Finset.mem_filter.2 ⟨Finset.mem_univ _, funext fun a => by
      match a with
      | ⟨0, _⟩ => exact Fin.ext (h0 _)
      | ⟨1, _⟩ => exact Fin.ext (h1 _)⟩)
    change max (refBlocks y _) (-(refBlocks y _)) ≤ t at this
    rwa [refBlocks_apply] at this
  · have hd := (Finset.mem_filter.1 hk).2
    have e0 : k 0 = q := Fin.ext ((h0 k).symm.trans (congrArg (fun z : S16x16.Idx => (z 0).val) hd))
    have e1 : k 2 = p := Fin.ext ((h1 k).symm.trans (congrArg (fun z : S16x16.Idx => (z 1).val) hd))
    have ek : k = ix4 q (k 1) p (k 3) := funext fun a => match a with
      | ⟨0, _⟩ => e0
      | ⟨1, _⟩ => rfl
      | ⟨2, _⟩ => e1
      | ⟨3, _⟩ => rfl
    have ey := (congrArg (refBlocks y) ek).trans (refBlocks_apply y q (k 1) p (k 3))
    change max (refBlocks y k) (-(refBlocks y k)) ≤ t
    rw [ey]
    exact h _ _

/-! ## The result -/

/-- Where a block's rows and columns belong to one device. -/
def refSame : IVec S16x256x16x128 1 :=
  broadcastInDim S16x256x16x128 ![0, 1, 2, 3] bcast_S16x1x16x1_S16x256x16x128_0_1_2_3
    (cmpi .eq
      (broadcastInDim S16x1x16x1 ![0, 1, 2, 3] bcast_S16x1x1x1_S16x1x16x1_0_1_2_3
        (shapeCast _ (iotaInDim S16 32 0) shapeCasts_S16_S16x1x1x1))
      (broadcastInDim S16x1x16x1 ![0, 1, 2, 3] bcast_S1x1x16x1_S16x1x16x1_0_1_2_3
        (shapeCast _ (iotaInDim S16 32 0) shapeCasts_S16_S1x1x16x1)))

/-- The blocks after the exchange: kept where sender and receiver are one device, else quantised to 16 bits. -/
def refExch (b : FVec Ideal S16x256x16x128 .f32) (a : FVec Ideal S16x16 .f32) : FVec Ideal S16x256x16x128 .f32 :=
  select refSame b
    (mulf (minimumf (broadcastInDim S16x256x16x128 ![] bcast_S_S16x256x16x128 (id (constant S_ .f32 0x46FFFE00#32)))
      (maximumf (broadcastInDim S16x256x16x128 ![] bcast_S_S16x256x16x128 (id (constant S_ .f32 0xC6FFFE00#32)))
        (Host.roundeven (Host.divf b (broadcastInDim S16x256x16x128 ![0, 1, 2, 3] bcast_S16x1x16x1_S16x256x16x128_0_1_2_3
          (Host.divf (maximumf (broadcastInDim S16x1x16x1 ![0, 2] bcast_S16x16_S16x1x16x1_0_2 a)
              (broadcastInDim S16x1x16x1 ![] bcast_S_S16x1x16x1 (constant S_ .f32 0x0DA24260#32)))
            (broadcastInDim S16x1x16x1 ![] bcast_S_S16x1x16x1 (constant S_ .f32 0x46FFFE00#32))))))))
      (broadcastInDim S16x256x16x128 ![0, 1, 2, 3] bcast_S16x1x16x1_S16x256x16x128_0_1_2_3
        (mulf (broadcastInDim S16x1x16x1 ![0, 2] bcast_S16x16_S16x1x16x1_0_2 a)
          (broadcastInDim S16x1x16x1 ![] bcast_S_S16x1x16x1 (constant S_ .f32 0x38000100#32)))))

/-- The 8-bit quantiser of the whole. -/
def refQuant (e : FVec Ideal S4096x2048 .f32) (g : FVec Ideal S_ .f32) : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf e
        (broadcastInDim S4096x2048 ![] bcast_S_S4096x2048 (Host.divf g (constant S_ .f32 0x42FE0000#32)))))))
    (broadcastInDim S4096x2048 ![] bcast_S_S4096x2048 (Host.divf g (constant S_ .f32 0x42FE0000#32)))

/-- The reference's result. -/
def refOut (y : FVec Ideal S4096x2048 .f32) : FVec Ideal S4096x2048 .f32 :=
  refQuant (shapeCast _ (refExch (refBlocks y) (refMax y)) shapeCasts_S16x256x16x128_S4096x2048) (refGlobal y)

theorem refQuant_apply (e : FVec Ideal S4096x2048 .f32) (g : FVec Ideal S_ .f32) (i : S4096x2048.Idx) :
    refQuant e g i = clip 127 (Ideal.div (e i) (Ideal.div (g ix0) ((127 : ℝ) : EReal))) * Ideal.div (g ix0) ((127 : ℝ) : EReal) := by
  unfold refQuant
  pointwise []
  rw [show id (constant (F := Ideal) S_ .f32 0x42FE0000#32) ix0 = ((127 : ℝ) : EReal) from ofBits_127,
    show id (constant (F := Ideal) S_ .f32 0xC2FE0000#32) ix0 = ((-127 : ℝ) : EReal) from ofBits_neg_127, ofBits_127]
  rfl

/-- Two device numbers compared as words. -/
theorem same_iff : ∀ q p : Fin 16,
    IntOp.cmpi .eq (BitVec.ofNat 32 q.val) (BitVec.ofNat 32 p.val) = if q = p then 1#1 else 0#1 := by decide

theorem refExch_apply (b : FVec Ideal S16x256x16x128 .f32) (a : FVec Ideal S16x16 .f32) (q : Fin 16) (i : Fin 256)
    (p : Fin 16) (j : Fin 128) :
    refExch b a (ix4 q i p j) = if q = p then b (ix4 q i p j) else
      clip 32767 (Ideal.div (b (ix4 q i p j)) (Ideal.div (max (a (ix2 q p)) (Ideal.ofBits .f32 0x0DA24260#32)) ((32767 : ℝ) : EReal)))
        * (a (ix2 q p) * Ideal.ofBits .f32 0x38000100#32) := by
  unfold refExch refSame
  pointwise []
  rw [show id (constant (F := Ideal) S_ .f32 0x46FFFE00#32) ix0 = ((32767 : ℝ) : EReal) from ofBits_32767,
    show id (constant (F := Ideal) S_ .f32 0xC6FFFE00#32) ix0 = ((-32767 : ℝ) : EReal) from ofBits_neg_32767, ofBits_32767,
    same_iff]
  by_cases h : q = p
  · rw [if_pos h, if_pos h]
    rfl
  · rw [if_neg h, if_neg h]
    rfl

theorem refCast_apply (b : FVec Ideal S16x256x16x128 .f32) (q : Fin 16) (i : Fin 256) (p : Fin 16) (j : Fin 128) :
    (shapeCast _ b shapeCasts_S16x256x16x128_S4096x2048 : FVec Ideal S4096x2048 .f32) (ix2 (row q i) (col p j))
      = b (ix4 q i p j) := by
  unfold row col
  pointwise []

variable {m : (ℓ : Loc nD τ sig) → Buf (Elt Ideal) ℓ}

set_option maxHeartbeats 1000000 in
theorem ref_run (ρ : Dev nD → PrngReg) :
    θ_run defs (onTc (τ := τ) (main (F := Ideal))) ⟨m, fun _ => 0, ρ⟩ fun r => ∀ c : Dev nD,
      r.2.mem ((c.tc : Thread nD τ).loc main_v34)
          = refOut (refProd (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.Value

end
-- ==== Proof.Value.lean ====
/-
The value claim: over the extended reals the kernel's device `c` holds columns `128 c …` of the reference's result.

Both take the same largest absolute values — of each block and of the whole product — because they have the same upper
bounds. What is left is one entry: the kernel multiplies by the reciprocals of the two steps where the reference divides
by the steps, and carries the 16-bit steps in words.
-/
module

public import proofs.«01_k».proof.Defs
public import proofs.«01_k».proof.Proof.Launch
public import proofs.«01_k».proof.Proof.RefValue

@[expose] public section

set_option maxRecDepth 16384

noncomputable section

namespace Cert.Value

open Cert.Arith
open Idealize.ShloMosaic Idealize.ShloMosaic.TcCoe Idealize.SL.Sem

section
open Cert.KernelIdeal Cert.KernelIdeal.Gen Cert.KernelIdealProof

variable (m : (ℓ : Loc nD τ sig) → Buf (Elt Ideal) ℓ)
variable (A : FVec Ideal ⟨2, ![4096, 4096]⟩ .f32) (B : FVec Ideal ⟨2, ![4096, 2048]⟩ .f32)

/-- Two extended reals with the same upper bounds are equal. -/
theorem eq_of_bounds {a b : EReal} (h : ∀ t, Iff (a ≤ t) (b ≤ t)) : a = b := le_antisymm ((h b).2 le_rfl) ((h a).1 le_rfl)

/-- A block's largest absolute value is the reference's. -/
theorem bmax_eq (h : Holds m A B) (d p : Fin 16) : bmax m d p.val = refMax (refProd A B) (ix2 d p) :=
  eq_of_bounds fun t => (bmax_le m A B h d p t).trans (by
    rw [refMax_le]
    simp only [refProd_apply])

/-- The whole product's largest absolute value is the reference's. -/
theorem gmax_eq (h : Holds m A B) (d : Dev nD) : gmax m d = refGlobal (refProd A B) ix0 :=
  eq_of_bounds fun t => (gmax_le m A B h d t).trans (by
    rw [refGlobal_le]
    simp only [refProd_apply])

/-- The kernel's 8-bit quantiser at one entry. -/
theorem requant_apply (d : Dev nD) (b : FVec Ideal S256x128 .f32) (i : S256x128.Idx) :
    requant m d b i = clip 127 (b i * Ideal.div ((127 : ℝ) : EReal) (gmax m d)) * Ideal.div (gmax m d) ((127 : ℝ) : EReal) := by
  unfold clip
  rw [← ofBits_127, ← ofBits_neg_127]
  unfold requant inv8 scale8
  generalize gmax m d = g
  pointwise []

/-- A block sent through 16-bit words and scaled back, at one entry. -/
theorem dequant_apply (b : FVec Ideal S256x128 .f32) (i : S256x128.Idx) :
    dequant16 (quant16 b) (absmax b) i
      = clip 32767 (Ideal.div (b i)
          (Ideal.div (max (absmax b : EReal) (Ideal.ofBits .f32 0x0DA24260#32)) ((32767 : ℝ) : EReal)))
        * (absmax b * Ideal.ofBits .f32 0x38000100#32) := by
  have e : dequant16 (quant16 b) (absmax b) i
      = (((Ideal.fptosi 16 (clip 32767 (b i * Ideal.div ((32767 : ℝ) : EReal)
          (max (absmax b : EReal) (Ideal.ofBits .f32 0x0DA24260#32))))).toInt : ℝ) : EReal)
        * (absmax b * Ideal.ofBits .f32 0x38000100#32) := by
    unfold clip
    rw [← ofBits_32767, ← ofBits_neg_32767]
    unfold dequant16 quant16 steps16 inv16
    generalize absmax b = a
    pointwise []
    rfl
  rw [e, word16, mul_div_eq_div_div _ _ (by norm_num) (lt_max_of_lt_right ofBits_floor_pos)]

/-- Device `c`'s result is its columns of the reference's. -/
theorem out_apply (h : Holds m A B) (c : Fin 16) (r : Fin 4096) (s : Fin 128) :
    outAt m c (ix2 r s) = refOut (refProd A B) (ix2 r (col c s)) := by
  have hi : (i2 (by decide) (by decide) (r.val % 256) s.val : S256x128.Idx) = ix2 (rowIn r) s := funext fun a => by
    match a with
    | ⟨0, _⟩ => exact Fin.ext (Nat.mod_eq_of_lt (Nat.mod_lt _ (by decide)))
    | ⟨1, _⟩ => exact Fin.ext (Nat.mod_eq_of_lt s.isLt)
  have ho : outAt m c (ix2 r s) = outBlock m c (rowBlock r).val (ix2 (rowIn r) s) := congrArg (outBlock m c (rowBlock r).val) hi
  have hd : devOf (rowBlock r).val = rowBlock r := Fin.ext (Nat.mod_eq_of_lt (rowBlock r).isLt)
  rw [ho]
  unfold refOut
  rw [← row_rowBlock r, refQuant_apply, refCast_apply, refExch_apply, refBlocks_apply, refProd_apply, ← bmax_eq m A B h,
    ← gmax_eq m A B h c, row_rowBlock r]
  unfold outBlock
  by_cases hq : rowBlock r = c
  · rw [if_pos hq, if_pos (congrArg Fin.val hq), requant_apply, requant_eq _ _ (gmax_nonneg m A B h c),
      yblock_apply m A B h c c, ← hq, row_rowBlock]
  · rw [if_neg hq, if_neg (fun e => hq (Fin.ext e)), requant_apply, requant_eq _ _ (gmax_nonneg m A B h c), hd]
    unfold bmax
    rw [dequant_apply, yblock_apply m A B h (rowBlock r) c, row_rowBlock]

end

/-- The kernel and the reference compute the same function over the extended reals. -/
theorem algebraic : Cert.algebraic_KernelIdeal_ReferenceIdeal (hKernelIdeal := Cert.KernelIdeal.Gen.facts)
    (hReferenceIdeal := Cert.ReferenceIdeal.Gen.facts) := by
  intro m g m' g' _ hagree
  have hm : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) := by
    refine ⟨fun d i k => (congrFun (hagree d).1 (ix2 i k)).trans (congrArg (m' _) (funext fun a => ?_)), fun d => (hagree d).2⟩
    match a with
    | ⟨0, _⟩ => exact Fin.ext (congrArg (· + i.val) (Nat.mul_comm _ _))
    | ⟨1, _⟩ => rfl
  refine ⟨refOut (refProd _ _), ?_, (θ_run Cert.ReferenceIdeal.defs _ _).mono (fun r h => h 0) (ref_run g')⟩
  refine (θ_run Cert.KernelIdeal.defs _ _).mono (fun r h c => ⟨?_, (h.1 c).2⟩) (Cert.KernelIdealProof.run_main (F := Ideal) m g)
  refine (((h.1 c).1 0).trans (Cert.KernelIdealProof.finalA_out m g c)).trans (funext fun i => ?_)
  refine (congrArg (Cert.KernelIdealProof.outAt m c) (eq_ix2 i)).trans ((out_apply m _ _ hm c (i 0) (i 1)).trans
    (congrArg (refOut _) (funext fun a => ?_)))
  match a with
  | ⟨0, _⟩ => rfl
  | ⟨1, _⟩ => exact Fin.ext (congrArg (· + (i 1).val) (Nat.mul_comm _ _))

end Cert.Value

end
-- ==== Proof.Lossy.lean ====
/-
The 16-bit rounding is visible: an example at which the kernel's result is not that of the product followed by the 8-bit
quantiser alone.

`x` has a single one, at its first place; the first row of `w` holds 127 in column 128 and 513/1024 in column 129. The
8-bit step is 1, and 513/1024 rounds to 1. Sent from device 0 to device 1 it becomes 129 steps of 127/32767, which is
below one half, and rounds to 0.
-/
module

public import proofs.«01_k».proof.Proof.Value

@[expose] public section

set_option maxRecDepth 16384

noncomputable section

namespace Cert.Value

open Cert.Arith
open Idealize.ShloMosaic Idealize.ShloMosaic.TcCoe Idealize.SL.Sem

/-! ## Rounding, clipping and dividing real numbers -/

/-- A number less than one half away from an integer rounds to it. -/
theorem round_near {r : ℝ} {n : ℤ} (h₁ : (n : ℝ) - 1 / 2 < r) (h₂ : r < n + 1 / 2) : Ideal.roundHalfEven r = n := by
  unfold Ideal.roundHalfEven
  rcases le_or_gt (n : ℝ) r with h | h
  · have hf : ⌊r⌋ = n := Int.floor_eq_iff.2 ⟨h, by linarith⟩
    simp only [hf]
    rw [if_pos (by linarith)]
  · have hf : ⌊r⌋ = n - 1 := Int.floor_eq_iff.2 ⟨by push_cast; linarith, by push_cast; linarith⟩
    simp only [hf]
    rw [if_neg (by push_cast; linarith), if_pos (by push_cast; linarith)]
    omega

theorem clip_near {K r : ℝ} {n : ℤ} (h₁ : (n : ℝ) - 1 / 2 < r) (h₂ : r < n + 1 / 2) (hK : (n : ℝ) ≤ K) (hK' : -K ≤ n) :
    clip K (r : EReal) = ((n : ℝ) : EReal) := by
  unfold clip
  rw [show Ideal.liftRound Ideal.roundHalfEven (r : EReal) = ((Ideal.roundHalfEven r : ℝ) : EReal) from rfl, round_near h₁ h₂,
    max_eq_right (EReal.coe_le_coe_iff.2 hK'), min_eq_right (EReal.coe_le_coe_iff.2 hK)]

theorem div_coe (a : ℝ) {b : ℝ} (hb : b ≠ 0) : Ideal.div (a : EReal) (b : EReal) = ((a / b : ℝ) : EReal) := by
  unfold Ideal.div
  rw [if_neg (by exact_mod_cast hb), div_eq_mul_inv, EReal.coe_mul, EReal.coe_inv]

theorem ofBits_inv_32767 : Ideal.ofBits .f32 0x38000100#32 = ((32769 / 1073741824 : ℝ) : EReal) := by
  simp [Ideal.ofBits, Ideal.ieee, -EReal.coe_mul]; norm_num
theorem ofBits_floor_le : Ideal.ofBits .f32 0x0DA24260#32 ≤ ((127 : ℝ) : EReal) := by
  have h : Ideal.ofBits .f32 0x0DA24260#32 = ((10633824 * (2 : ℝ) ^ (-123 : ℤ) : ℝ) : EReal) := by
    simp [Ideal.ofBits, Ideal.ieee, -EReal.coe_mul]
  rw [h, EReal.coe_le_coe_iff]
  norm_num

/-! ## The example -/

/-- `x`: a one at its first place. -/
def exA : FVec Ideal ⟨2, ![4096, 4096]⟩ .f32 := fun i => if (i 0).val = 0 ∧ (i 1).val = 0 then ((1 : ℝ) : EReal) else 0
/-- The first row of `w`. -/
def exRow (s : ℕ) : ℝ := if s = 128 then 127 else if s = 129 then 513 / 1024 else 0
/-- `w`: that row, and zeros below it. -/
def exB : FVec Ideal ⟨2, ![4096, 2048]⟩ .f32 := fun i => if (i 0).val = 0 then (exRow (i 1).val : EReal) else 0

theorem exRow_abs (s : ℕ) : |exRow s| ≤ 127 := by
  unfold exRow
  split
  · norm_num
  · split <;> norm_num [abs_of_pos]

theorem ex_prod (r : Fin 4096) (s : Fin 2048) : prod exA exB r s = ((if r.val = 0 then exRow s.val else 0 : ℝ) : EReal) := by
  unfold prod
  rw [Finset.sum_eq_single (0 : Fin 4096)]
  · change (if r.val = 0 ∧ (0 : ℕ) = 0 then ((1 : ℝ) : EReal) else 0) * (if (0 : ℕ) = 0 then (exRow s.val : EReal) else 0) = _
    by_cases h : r.val = 0
    · simp [h]
    · simp [h]
  · intro k _ hk
    have hk' : k.val ≠ 0 := fun e => hk (Fin.ext e)
    change (if r.val = 0 ∧ k.val = 0 then ((1 : ℝ) : EReal) else 0) * _ = 0
    rw [if_neg (fun e => hk' e.2), zero_mul]
  · intro h
    exact absurd (Finset.mem_univ _) h

theorem ex_abs (r : Fin 4096) (s : Fin 2048) : max (prod exA exB r s) (-(prod exA exB r s)) ≤ ((127 : ℝ) : EReal) := by
  rw [ex_prod, ← EReal.coe_neg]
  have h := abs_le.1 (exRow_abs s.val)
  refine max_le (EReal.coe_le_coe_iff.2 ?_) (EReal.coe_le_coe_iff.2 ?_)
  · split
    · exact h.2
    · norm_num
  · split
    · linarith [h.1]
    · norm_num

theorem ex_127 : prod exA exB (row 0 0) (col 1 0) = ((127 : ℝ) : EReal) := by
  rw [ex_prod]
  rfl
theorem ex_half : prod exA exB (row 0 0) (col 1 1) = ((513 / 1024 : ℝ) : EReal) := by
  rw [ex_prod]
  norm_num [row, col, exRow]

theorem ex_max : refMax (refProd exA exB) (ix2 0 1) = ((127 : ℝ) : EReal) := by
  refine le_antisymm ((refMax_le _ _ _ _).2 fun i j => ?_) ?_
  · rw [refProd_apply]
    exact ex_abs _ _
  · have h := (refMax_le (refProd exA exB) _ 0 1).1 le_rfl 0 0
    rw [refProd_apply, ex_127] at h
    exact (le_max_left _ _).trans h
theorem ex_global : refGlobal (refProd exA exB) ix0 = ((127 : ℝ) : EReal) := by
  refine le_antisymm ((refGlobal_le _ _ _).2 fun i j => ?_) ?_
  · rw [refProd_apply]
    exact ex_abs _ _
  · have h := (refGlobal_le (refProd exA exB) _ ix0).1 le_rfl (row 0 0) (col 1 0)
    rw [refProd_apply, ex_127] at h
    exact (le_max_left _ _).trans h

/-- The product and the 8-bit quantiser, without the 16-bit rounding. -/
def plainOut (y : FVec Ideal Cert.ReferenceIdeal.S4096x2048 .f32) : FVec Ideal Cert.ReferenceIdeal.S4096x2048 .f32 :=
  refQuant y (refGlobal y)

theorem ex_plain : plainOut (refProd exA exB) (ix2 (row 0 0) (col 1 1)) = ((1 : ℝ) : EReal) := by
  unfold plainOut
  rw [refQuant_apply, ex_global, refProd_apply, ex_half, div_coe _ (by norm_num), div_coe _ (by norm_num),
    clip_near (n := 1) (by norm_num) (by norm_num) (by norm_num) (by norm_num), ← EReal.coe_mul]
  norm_num

theorem ex_out : refOut (refProd exA exB) (ix2 (row 0 0) (col 1 1)) = ((0 : ℝ) : EReal) := by
  unfold refOut
  rw [refQuant_apply, refCast_apply, refExch_apply, if_neg (by decide), refBlocks_apply, refProd_apply, ex_half, ex_max,
    ex_global, max_eq_left ofBits_floor_le, ofBits_inv_32767, div_coe _ (by norm_num), div_coe _ (by norm_num),
    clip_near (n := 129) (by norm_num) (by norm_num) (by norm_num) (by norm_num), ← EReal.coe_mul, ← EReal.coe_mul,
    div_coe _ (by norm_num), div_coe _ (by norm_num),
    clip_near (n := 0) (by norm_num) (by norm_num) (by norm_num) (by norm_num), ← EReal.coe_mul]
  norm_num

open Cert.KernelIdeal in
/-- At the example, the kernel's device 1 does not end with its columns of the product quantised to 8 bits alone. -/
theorem kernel_not_plain (m : (ℓ : Loc nD τ sig) → Buf (Elt Ideal) ℓ) (ρ : Dev nD → PrngReg) (h : Holds m exA exB) :
    θ_run (defs (F := Ideal)) (onTc (τ := τ) (main (F := Ideal))) ⟨m, fun _ => 0, ρ⟩ fun r =>
      r.2.mem (((1 : Dev nD).tc : Thread nD τ).loc main_v1)
        ≠ Layout.block ⟨2, ![4096, 128]⟩ ⟨2, ![4096, 2048]⟩ 1 16 (1 : Fin 16) (plainOut (refProd exA exB)) := by
  refine (θ_run defs _ _).mono (fun r hr e => ?_) (Cert.KernelIdealProof.run_main (F := Ideal) m ρ)
  have ho := ((hr.1 1).1 0).trans (Cert.KernelIdealProof.finalA_out m ρ 1)
  have hi := congrFun (ho.symm.trans e) (ix2 (row 0 0) (1 : Fin 128))
  have hk := out_apply m exA exB h 1 (row 0 0) 1
  have hb : (Layout.block ⟨2, ![4096, 128]⟩ ⟨2, ![4096, 2048]⟩ 1 16 (1 : Fin 16) (plainOut (refProd exA exB)))
      (ix2 (row 0 0) (1 : Fin 128)) = plainOut (refProd exA exB) (ix2 (row 0 0) (col 1 1)) :=
    congrArg (plainOut _) (funext fun a => by
      match a with
      | ⟨0, _⟩ => rfl
      | ⟨1, _⟩ => rfl)
  have := (hk.symm.trans hi).trans hb
  rw [ex_out, ex_plain] at this
  exact absurd (EReal.coe_eq_coe_iff.1 this) (by norm_num)

end Cert.Value

end
-- ==== Proof.lean ====
/-
The certificate: every program runs to the end without a fault and leaves its arguments and counters as they were, and
the kernel and the reference compute the same function over the extended reals.
-/
module

public import proofs.«01_k».proof.Defs
public import proofs.«01_k».proof.Proof.Frames
public import proofs.«01_k».proof.Proof.Value
public import proofs.«01_k».proof.Proof.Lossy

@[expose] public section

noncomputable section

namespace Cert.Proof

theorem claim : Cert.Claim :=
  ⟨Cert.Kernel.Gen.facts, Cert.KernelIdeal.Gen.facts, Cert.ReferenceIdeal.Gen.facts, frame_kernel, frame_ideal, frame_reference, trivial,
    Cert.Value.algebraic⟩

end Cert.Proof

end
